-- ==== Defs.lean ====
def Pre_Kernel [hPre_slots_ok : Cert.Pre_slots_ok.Facts] (m : (ℓ : Loc Cert.Kernel.nD Cert.Kernel.τ Cert.Kernel.sig) → Buf (Elt Bits) ℓ) : Prop :=
  ∀ c : Dev Cert.Kernel.nD,
    (Cert.Pre_slots_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_slots_ok : Cert.Pre_slots_ok.Facts] (m : (ℓ : Loc Cert.KernelIdeal.nD Cert.KernelIdeal.τ Cert.KernelIdeal.sig) → Buf (Elt Ideal) ℓ) : Prop :=
  ∀ c : Dev Cert.KernelIdeal.nD,
    (Cert.Pre_slots_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_ok [hPre_slots_ok : Cert.Pre_slots_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_slots_ok : Cert.Pre_slots_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_slots_ok : Cert.Pre_slots_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_slots_ok [hReferenceIdeal : Cert.ReferenceIdeal.Facts] [hPre_slots_ok : Cert.Pre_slots_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_slots_ok : Cert.Pre_slots_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_slots_ok : Cert.Pre_slots_ok.Facts),
    quiescent_Kernel (hKernel := hKernel) (hPre_slots_ok := hPre_slots_ok)
    ∧ quiescent_KernelIdeal (hKernelIdeal := hKernelIdeal) (hPre_slots_ok := hPre_slots_ok)
    ∧ quiescent_ReferenceIdeal (hReferenceIdeal := hReferenceIdeal)
    ∧ quiescent_ReferenceIdeal_pre_slots_ok (hReferenceIdeal := hReferenceIdeal) (hPre_slots_ok := hPre_slots_ok)
    ∧ preserves_Kernel_KernelIdeal
    ∧ algebraic_KernelIdeal_ReferenceIdeal (hKernelIdeal := hKernelIdeal) (hReferenceIdeal := hReferenceIdeal) (hPre_slots_ok := hPre_slots_ok)
-- ==== Pre_slots_ok.lean ====
abbrev S4096x16x128 : Shape := ⟨3, ![4096, 16, 128]⟩
abbrev S1024x16x16x128 : Shape := ⟨4, ![1024, 16, 16, 128]⟩
abbrev S4096 : Shape := ⟨1, ![4096]⟩
abbrev S1 : Shape := ⟨1, ![1]⟩
abbrev S4096x4096 : Shape := ⟨2, ![4096, 4096]⟩
abbrev S4096x1 : Shape := ⟨2, ![4096, 1]⟩
abbrev S1x4096 : Shape := ⟨2, ![1, 4096]⟩
abbrev S_ : Shape := ⟨0, ![]⟩
abbrev S2x4096x4096 : Shape := ⟨3, ![2, 4096, 4096]⟩
abbrev S1x4096x4096 : Shape := ⟨3, ![1, 4096, 4096]⟩

class Facts : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  shapeCasts_S1024x16x16x128_S2x4096x4096 : S1024x16x16x128.ShapeCasts S2x4096x4096
  bcast_S_S2x4096x4096 : S_.BroadcastsInDim S2x4096x4096 (![] : Fin 0 → Fin S2x4096x4096.rank)
  bcast_S4096x4096_S1x4096x4096_1_2 : S4096x4096.BroadcastsInDim S1x4096x4096 (![1, 2] : Fin 2 → Fin S1x4096x4096.rank)
  bcast_S1x4096x4096_S2x4096x4096_0_1_2 : S1x4096x4096.BroadcastsInDim S2x4096x4096 (![0, 1, 2] : Fin 3 → Fin S2x4096x4096.rank)

variable [Facts]

def fn_part2 {F : FTy → Type} [FloatOps F] (main_v32 : IVec S4096x4096 1) (main_v35 : IVec S2x4096x4096 1) (main_v36 : FVec F S2x4096x4096 .f32) (main_v37 : FVec F S2x4096x4096 .f32) : IVec S2x4096x4096 1 :=
  let main_v38 : IVec S2x4096x4096 1 := cmpf .oeq main_v36 main_v37
  let main_v39 : IVec S2x4096x4096 1 := andi main_v35 main_v38
  let main_v40 : IVec S1x4096x4096 1 := broadcastInDim S1x4096x4096 ![1, 2] bcast_S4096x4096_S1x4096x4096_1_2 main_v32
  let main_v41 : IVec S2x4096x4096 1 := broadcastInDim S2x4096x4096 ![0, 1, 2] bcast_S1x4096x4096_S2x4096x4096_0_1_2 main_v40
  let main_v42 : IVec S2x4096x4096 1 := andi main_v41 main_v39
  main_v42

def fn_part1 {F : FTy → Type} [FloatOps F] (main_arg2 : FVec F S1024x16x16x128 .f32) (main_arg3 : FVec F S1024x16x16x128 .f32) (main_v0 : IVec S4096x4096 32) (main_v1 : IVec S4096x4096 32) (main_v3 : IVec S4096x4096 32) (main_v5 : IVec S4096x4096 32) (main_v14 : IVec S4096x4096 1) (main_v19 : IVec S4096x4096 1) : IVec S2x4096x4096 1 :=
  let main_v20 : IVec S4096x4096 1 := andi main_v14 main_v19
  let main_c_3 : IVec S_ 32 := constantI S_ 32 7#32
  let main_v21 : IVec S4096x4096 32 := broadcastInDim S4096x4096 ![] bcast_S_S4096x4096 main_c_3
  let main_v22 : IVec S4096x4096 32 := Host.shrui main_v3 main_v21
  let main_c_4 : IVec S_ 32 := constantI S_ 32 7#32
  let main_v23 : IVec S4096x4096 32 := broadcastInDim S4096x4096 ![] bcast_S_S4096x4096 main_c_4
  let main_v24 : IVec S4096x4096 32 := Host.shrui main_v5 main_v23
  let main_v25 : IVec S4096x4096 1 := cmpi .eq main_v22 main_v24
  let main_c_5 : IVec S_ 32 := constantI S_ 32 7#32
  let main_v26 : IVec S4096x4096 32 := broadcastInDim S4096x4096 ![] bcast_S_S4096x4096 main_c_5
  let main_v27 : IVec S4096x4096 32 := Host.shrui main_v0 main_v26
  let main_c_6 : IVec S_ 32 := constantI S_ 32 7#32
  let main_v28 : IVec S4096x4096 32 := broadcastInDim S4096x4096 ![] bcast_S_S4096x4096 main_c_6
  let main_v29 : IVec S4096x4096 32 := Host.shrui main_v1 main_v28
  let main_v30 : IVec S4096x4096 1 := cmpi .ne main_v27 main_v29
  let main_v31 : IVec S4096x4096 1 := ori main_v25 main_v30
  let main_v32 : IVec S4096x4096 1 := andi main_v20 main_v31
  let main_v33 : FVec F S2x4096x4096 .f32 := shapeCast S2x4096x4096 main_arg2 shapeCasts_S1024x16x16x128_S2x4096x4096
  let main_cst : FVec F S_ .f32 := constant S_ .f32 0x00000000#32
  let main_v34 : FVec F S2x4096x4096 .f32 := broadcastInDim S2x4096x4096 ![] bcast_S_S2x4096x4096 main_cst
  let main_v35 : IVec S2x4096x4096 1 := cmpf .oeq main_v33 main_v34
  let main_v36 : FVec F S2x4096x4096 .f32 := shapeCast S2x4096x4096 main_arg3 shapeCasts_S1024x16x16x128_S2x4096x4096
  let main_cst_7 : FVec F S_ .f32 := constant S_ .f32 0x00000000#32
  let main_v37 : FVec F S2x4096x4096 .f32 := broadcastInDim S2x4096x4096 ![] bcast_S_S2x4096x4096 main_cst_7
  fn_part2 (F := F) main_v32 main_v35 main_v36 main_v37

def fn {F : FTy → Type} [FloatOps F] (main_arg0 : FVec F S4096x16x128 .f32) (main_arg1 : FVec F S4096x16x128 .f32) (main_arg2 : FVec F S1024x16x16x128 .f32) (main_arg3 : FVec F S1024x16x16x128 .f32) (main_arg4 : IVec S4096 32) (main_arg5 : FVec F S1 .f32) (main_arg6 : FVec F S1 .f32) : IVec S2x4096x4096 1 :=
  let main_v0 : IVec S4096x4096 32 := iotaInDim S4096x4096 32 0
  let main_v1 : IVec S4096x4096 32 := iotaInDim S4096x4096 32 1
  let main_v2 : IVec S4096x1 32 := broadcastInDim S4096x1 ![0] bcast_S4096_S4096x1_0 main_arg4
  let main_v3 : IVec S4096x4096 32 := broadcastInDim S4096x4096 ![0, 1] bcast_S4096x1_S4096x4096_0_1 main_v2
  let main_v4 : IVec S1x4096 32 := broadcastInDim S1x4096 ![1] bcast_S4096_S1x4096_1 main_arg4
  let main_v5 : IVec S4096x4096 32 := broadcastInDim S4096x4096 ![0, 1] bcast_S1x4096_S4096x4096_0_1 main_v4
  let main_c : IVec S_ 32 := constantI S_ 32 0#32
  let main_v6 : IVec S4096x4096 32 := broadcastInDim S4096x4096 ![] bcast_S_S4096x4096 main_c
  let main_v7 : IVec S4096x4096 1 := cmpi .sge main_v3 main_v6
  let main_c_0 : IVec S_ 32 := constantI S_ 32 4096#32
  let main_v8 : IVec S4096x4096 32 := broadcastInDim S4096x4096 ![] bcast_S_S4096x4096 main_c_0
  let main_v9 : IVec S4096x4096 1 := cmpi .slt main_v3 main_v8
  let main_v10 : IVec S4096x4096 1 := andi main_v7 main_v9
  let main_v11 : IVec S4096x4096 1 := cmpi .ne main_v3 main_v5
  let main_v12 : IVec S4096x4096 1 := cmpi .eq main_v0 main_v1
  let main_v13 : IVec S4096x4096 1 := ori main_v11 main_v12
  let main_v14 : IVec S4096x4096 1 := andi main_v10 main_v13
  let main_c_1 : IVec S_ 32 := constantI S_ 32 127#32
  let main_v15 : IVec S4096x4096 32 := broadcastInDim S4096x4096 ![] bcast_S_S4096x4096 main_c_1
  let main_v16 : IVec S4096x4096 32 := andi main_v3 main_v15
  let main_c_2 : IVec S_ 32 := constantI S_ 32 127#32
  let main_v17 : IVec S4096x4096 32 := broadcastInDim S4096x4096 ![] bcast_S_S4096x4096 main_c_2
  let main_v18 : IVec S4096x4096 32 := andi main_v0 main_v17
  let main_v19 : IVec S4096x4096 1 := cmpi .eq main_v16 main_v18
  fn_part1 (F := F) main_arg2 main_arg3 main_v0 main_v1 main_v3 main_v5 main_v14 main_v19
-- ==== Kernel.lean ====
abbrev S4096x16x128 : Shape := ⟨3, ![4096, 16, 128]⟩
abbrev S1024x16x16x128 : Shape := ⟨4, ![1024, 16, 16, 128]⟩
abbrev S4096 : Shape := ⟨1, ![4096]⟩
abbrev S1 : Shape := ⟨1, ![1]⟩
abbrev S16384x16x128 : Shape := ⟨3, ![16384, 16, 128]⟩
abbrev S128x16x128 : Shape := ⟨3, ![128, 16, 128]⟩
abbrev S4096x1 : Shape := ⟨2, ![4096, 1]⟩
abbrev S_ : Shape := ⟨0, ![]⟩
abbrev S8 : Shape := ⟨1, ![8]⟩
abbrev S1x8 : Shape := ⟨2, ![1, 8]⟩
abbrev S4096x8 : Shape := ⟨2, ![4096, 8]⟩
abbrev S256x128 : Shape := ⟨2, ![256, 128]⟩
abbrev S32768x2x128 : Shape := ⟨3, ![32768, 2, 128]⟩
abbrev S131072x2x128 : Shape := ⟨3, ![131072, 2, 128]⟩
abbrev S128x2x128 : Shape := ⟨3, ![128, 2, 128]⟩
abbrev S8x128 : Shape := ⟨2, ![8, 128]⟩
abbrev S16 : Shape := ⟨1, ![16]⟩
abbrev S1x1x16 : Shape := ⟨3, ![1, 1, 16]⟩
abbrev S1x128 : Shape := ⟨2, ![1, 128]⟩
abbrev S128 : Shape := ⟨1, ![128]⟩

abbrev nBuf : Table → Nat
  | .hbm => 21
  | .local .tc .vmem => 4
  | .local .tc .smem => 1
  | .local .scVector .vmem => 3
  | _ => 0

abbrev bufTy : (tb : Table) → Fin (nBuf tb) → BufTy
  | .hbm, ⟨0, _⟩ => ⟨S4096x16x128, .f32⟩
  | .hbm, ⟨1, _⟩ => ⟨S4096x16x128, .f32⟩
  | .hbm, ⟨2, _⟩ => ⟨S1024x16x16x128, .f32⟩
  | .hbm, ⟨3, _⟩ => ⟨S1024x16x16x128, .f32⟩
  | .hbm, ⟨4, _⟩ => ⟨S1, .f32⟩
  | .hbm, ⟨5, _⟩ => ⟨S1, .f32⟩
  | .hbm, ⟨6, _⟩ => ⟨S16384x16x128, .f32⟩
  | .hbm, ⟨7, _⟩ => ⟨S4096x1, .i32⟩
  | .hbm, ⟨8, _⟩ => ⟨S_, .i32⟩
  | .hbm, ⟨9, _⟩ => ⟨S4096x1, .i32⟩
  | .hbm, ⟨10, _⟩ => ⟨S4096x1, .i32⟩
  | .hbm, ⟨11, _⟩ => ⟨S8, .i32⟩
  | .hbm, ⟨12, _⟩ => ⟨S1x8, .i32⟩
  | .hbm, ⟨13, _⟩ => ⟨S4096x8, .i32⟩
  | .hbm, ⟨14, _⟩ => ⟨S4096x8, .i32⟩
  | .hbm, ⟨15, _⟩ => ⟨S4096x8, .i32⟩
  | .hbm, ⟨16, _⟩ => ⟨S256x128, .i32⟩
  | .hbm, ⟨17, _⟩ => ⟨S32768x2x128, .f32⟩
  | .hbm, ⟨18, _⟩ => ⟨S131072x2x128, .f32⟩
  | .hbm, ⟨19, _⟩ => ⟨S1024x16x16x128, .f32⟩
  | .hbm, ⟨20, _⟩ => ⟨S1024x16x16x128, .f32⟩
  | .local .tc .vmem, ⟨0, _⟩ => ⟨S128x16x128, .f32⟩
  | .local .tc .vmem, ⟨1, _⟩ => ⟨S128x16x128, .f32⟩
  | .local .tc .vmem, ⟨2, _⟩ => ⟨S128x16x128, .f32⟩
  | .local .tc .vmem, ⟨3, _⟩ => ⟨S128x16x128, .f32⟩
  | .local .tc .smem, ⟨0, _⟩ => ⟨S4096, .i32⟩
  | .local .scVector .vmem, ⟨0, _⟩ => ⟨S128x2x128, .f32⟩
  | .local .scVector .vmem, ⟨1, _⟩ => ⟨S128x2x128, .f32⟩
  | .local .scVector .vmem, ⟨2, _⟩ => ⟨S8x128, .i32⟩
  | _, _ => ⟨S4096x16x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_arg4 : Ref sig .tc := ⟨.smem, 0, rfl⟩
abbrev main_v10_scv : Ref sig .scVector := ⟨.hbm, 17, rfl⟩
abbrev main_v9_scv : Ref sig .scVector := ⟨.hbm, 16, rfl⟩
abbrev main_v11_scv : Ref sig .scVector := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![128], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c96_i32 : BitVec 32 := 96#32
  let v0 : BitVec 32 := Scalar.subi arg0 c96_i32
  let c0_i32 : BitVec 32 := 0#32
  let v1 : BitVec 32 := Scalar.maxsi v0 c0_i32
  let c128_i32 : BitVec 32 := 128#32
  let v4 : BitVec 32 := Scalar.muli v1 c128_i32
  let v5 : Index := Scalar.indexCast v4
  ![v5.toNat]
def k0_cond1 (i : grid0.Coords) : BitVec 1 :=
  let arg0 : BitVec 32 := BitVec.ofNat 32 (i 0).val
  let c96_i32 : BitVec 32 := 96#32
  let v0 : BitVec 1 := Scalar.cmpi .slt arg0 c96_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c96_i32_0 : BitVec 32 := 96#32
  let v3 : BitVec 1 := Scalar.cmpi .sge arg0 c96_i32_0
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let c96_i32 : BitVec 32 := 96#32
  let v0 : BitVec 32 := Scalar.subi arg0 c96_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_1 (k0_off1_inb : ∀ i : grid0.Coords, ∀ a, (k0_off1 i) a + S1.size a ≤ S4096.size a) (numel1_S1 : S1.numel = 1) (pf : pre0.Contents (Elt F)) (i : grid0.Coords) : Fin 3 → Nat :=
  let arg0 : BitVec 32 := BitVec.ofNat 32 (i 0).val
  let c96_i32 : BitVec 32 := 96#32
  let v0 : BitVec 32 := Scalar.subi arg0 c96_i32
  let c0_i32 : BitVec 32 := 0#32
  let v1 : BitVec 32 := Scalar.maxsi v0 c0_i32
  let c96_i32_0 : BitVec 32 := 96#32
  let v2 : BitVec 1 := Scalar.cmpi .slt arg0 c96_i32_0
  let c32_i32 : BitVec 32 := 32#32
  let v3 : BitVec 32 := Scalar.addi arg0 c32_i32
  let c128_i32 : BitVec 32 := 128#32
  let v4 : BitVec 32 := Scalar.muli v1 c128_i32
  let v5 : Index := Scalar.indexCast v4
  let v6 : BitVec 32 := pf.at 0 (Rect.unit (s := S4096) ![v5.toNat] S1.size (k0_off1_inb i)) numel1_S1
  let c128_i32_1 : BitVec 32 := 128#32
  let v7 : BitVec 32 := Scalar.divsi v6 c128_i32_1
  let c0_i32_2 : BitVec 32 := 0#32
  let v8 : BitVec 1 := Scalar.cmpi .sgt v6 c0_i32_2
  let v9 : BitVec 32 := Scalar.extui v8
  let c0_i32_3 : BitVec 32 := 0#32
  let v10 : BitVec 1 := Scalar.cmpi .slt v6 c0_i32_3
  let v11 : BitVec 32 := Scalar.extui v10
  let v12 : BitVec 32 := Scalar.subi v9 v11
  let c0_i32_4 : BitVec 32 := 0#32
  let v13 : BitVec 1 := Scalar.cmpi .sgt c128_i32_1 c0_i32_4
  let v14 : BitVec 32 := Scalar.extui v13
  let c0_i32_5 : BitVec 32 := 0#32
  let v15 : BitVec 1 := Scalar.cmpi .slt c128_i32_1 c0_i32_5
  let v16 : BitVec 32 := Scalar.extui v15
  let v17 : BitVec 32 := Scalar.subi v14 v16
  let v18 : BitVec 1 := Scalar.cmpi .ne v12 v17
  let v19 : BitVec 32 := Scalar.remsi v6 c128_i32_1
  let c0_i32_6 : BitVec 32 := 0#32
  let v20 : BitVec 1 := Scalar.cmpi .ne v19 c0_i32_6
  let v21 : BitVec 1 := Scalar.andi v18 v20
  let c1_i32 : BitVec 32 := 1#32
  let v22 : BitVec 32 := Scalar.subi v7 c1_i32
  let v23 : BitVec 32 := Scalar.select v21 v22 v7
  let v24 : BitVec 32 := Scalar.select v2 v3 v23
  let c0_i32_7 : BitVec 32 := 0#32
  let c0_i32_8 : BitVec 32 := 0#32
  let c0_i32_9 : BitVec 32 := 0#32
  ![v24.toNat, c0_i32_7.toNat, c0_i32_8.toNat]

abbrev stage0_0 : Fin 2 → Memref sig .tc .vmem S128x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

@[reducible] def k1_t1_loop : Scf.Loop 32 :=
  let c0_i32_0 : BitVec 32 := 0#32
  let c8_i32 : BitVec 32 := 8#32
  let v3 : BitVec 32 := Scalar.addi c0_i32_0 c8_i32
  let c1_i32 : BitVec 32 := 1#32
  ⟨c0_i32_0, v3, c1_i32⟩
def k1_off1 (k1_t1 : Fin k1_t1_loop.trips) : Fin 3 → Nat :=
  let c0_i32_313 : BitVec 32 := 0#32
  let v218 : Index := Scalar.indexCast c0_i32_313
  let c0_i32_314 : BitVec 32 := 0#32
  let v219 : Index := Scalar.indexCast c0_i32_314
  let c0_i32_0 : BitVec 32 := 0#32
  let c1_i32 : BitVec 32 := 1#32
  let arg10 : BitVec 32 := Scf.iv c0_i32_0 c1_i32 k1_t1
  let c16_i32_312 : BitVec 32 := 16#32
  let v217 : BitVec 32 := Scalar.muli arg10 c16_i32_312
  let v220 : Index := Scalar.indexCast v217
  ![0, 0, v220.toNat]
def k1_off2 (k1_t1 : Fin k1_t1_loop.trips) : Fin 3 → Nat :=
  let c0_i32_316 : BitVec 32 := 0#32
  let v225 : Index := Scalar.indexCast c0_i32_316
  let c1_i32_317 : BitVec 32 := 1#32
  let v226 : Index := Scalar.indexCast c1_i32_317
  let c0_i32_0 : BitVec 32 := 0#32
  let c1_i32 : BitVec 32 := 1#32
  let arg10 : BitVec 32 := Scf.iv c0_i32_0 c1_i32 k1_t1
  let c16_i32_315 : BitVec 32 := 16#32
  let v224 : BitVec 32 := Scalar.muli arg10 c16_i32_315
  let v227 : Index := Scalar.indexCast v224
  ![0, 1, v227.toNat]
def k1_off3 (k1_t1 : Fin k1_t1_loop.trips) : Fin 3 → Nat :=
  let c1_i32_319 : BitVec 32 := 1#32
  let v232 : Index := Scalar.indexCast c1_i32_319
  let c0_i32_320 : BitVec 32 := 0#32
  let v233 : Index := Scalar.indexCast c0_i32_320
  let c0_i32_0 : BitVec 32 := 0#32
  let c1_i32 : BitVec 32 := 1#32
  let arg10 : BitVec 32 := Scf.iv c0_i32_0 c1_i32 k1_t1
  let c16_i32_318 : BitVec 32 := 16#32
  let v231 : BitVec 32 := Scalar.muli arg10 c16_i32_318
  let v234 : Index := Scalar.indexCast v231
  ![1, 0, v234.toNat]
def k1_off4 (k1_t1 : Fin k1_t1_loop.trips) : Fin 3 → Nat :=
  let c1_i32_322 : BitVec 32 := 1#32
  let v239 : Index := Scalar.indexCast c1_i32_322
  let c1_i32_323 : BitVec 32 := 1#32
  let v240 : Index := Scalar.indexCast c1_i32_323
  let c0_i32_0 : BitVec 32 := 0#32
  let c1_i32 : BitVec 32 := 1#32
  let arg10 : BitVec 32 := Scf.iv c0_i32_0 c1_i32 k1_t1
  let c16_i32_321 : BitVec 32 := 16#32
  let v238 : BitVec 32 := Scalar.muli arg10 c16_i32_321
  let v241 : Index := Scalar.indexCast v238
  ![1, 1, v241.toNat]
def k1_off5 (k1_t1 : Fin k1_t1_loop.trips) : Fin 3 → Nat :=
  let c2_i32_325 : BitVec 32 := 2#32
  let v246 : Index := Scalar.indexCast c2_i32_325
  let c0_i32_326 : BitVec 32 := 0#32
  let v247 : Index := Scalar.indexCast c0_i32_326
  let c0_i32_0 : BitVec 32 := 0#32
  let c1_i32 : BitVec 32 := 1#32
  let arg10 : BitVec 32 := Scf.iv c0_i32_0 c1_i32 k1_t1
  let c16_i32_324 : BitVec 32 := 16#32
  let v245 : BitVec 32 := Scalar.muli arg10 c16_i32_324
  let v248 : Index := Scalar.indexCast v245
  ![2, 0, v248.toNat]
def k1_off6 (k1_t1 : Fin k1_t1_loop.trips) : Fin 3 → Nat :=
  let c2_i32_328 : BitVec 32 := 2#32
  let v253 : Index := Scalar.indexCast c2_i32_328
  let c1_i32_329 : BitVec 32 := 1#32
  let v254 : Index := Scalar.indexCast c1_i32_329
  let c0_i32_0 : BitVec 32 := 0#32
  let c1_i32 : BitVec 32 := 1#32
  let arg10 : BitVec 32 := Scf.iv c0_i32_0 c1_i32 k1_t1
  let c16_i32_327 : BitVec 32 := 16#32
  let v252 : BitVec 32 := Scalar.muli arg10 c16_i32_327
  let v255 : Index := Scalar.indexCast v252
  ![2, 1, v255.toNat]
def k1_off7 (k1_t1 : Fin k1_t1_loop.trips) : Fin 3 → Nat :=
  let c3_i32_331 : BitVec 32 := 3#32
  let v260 : Index := Scalar.indexCast c3_i32_331
  let c0_i32_332 : BitVec 32 := 0#32
  let v261 : Index := Scalar.indexCast c0_i32_332
  let c0_i32_0 : BitVec 32 := 0#32
  let c1_i32 : BitVec 32 := 1#32
  let arg10 : BitVec 32 := Scf.iv c0_i32_0 c1_i32 k1_t1
  let c16_i32_330 : BitVec 32 := 16#32
  let v259 : BitVec 32 := Scalar.muli arg10 c16_i32_330
  let v262 : Index := Scalar.indexCast v259
  ![3, 0, v262.toNat]
def k1_off8 (k1_t1 : Fin k1_t1_loop.trips) : Fin 3 → Nat :=
  let c3_i32_334 : BitVec 32 := 3#32
  let v267 : Index := Scalar.indexCast c3_i32_334
  let c1_i32_335 : BitVec 32 := 1#32
  let v268 : Index := Scalar.indexCast c1_i32_335
  let c0_i32_0 : BitVec 32 := 0#32
  let c1_i32 : BitVec 32 := 1#32
  let arg10 : BitVec 32 := Scf.iv c0_i32_0 c1_i32 k1_t1
  let c16_i32_333 : BitVec 32 := 16#32
  let v266 : BitVec 32 := Scalar.muli arg10 c16_i32_333
  let v269 : Index := Scalar.indexCast v266
  ![3, 1, v269.toNat]
def k1_off9 (k1_t1 : Fin k1_t1_loop.trips) : Fin 3 → Nat :=
  let c4_i32_337 : BitVec 32 := 4#32
  let v274 : Index := Scalar.indexCast c4_i32_337
  let c0_i32_338 : BitVec 32 := 0#32
  let v275 : Index := Scalar.indexCast c0_i32_338
  let c0_i32_0 : BitVec 32 := 0#32
  let c1_i32 : BitVec 32 := 1#32
  let arg10 : BitVec 32 := Scf.iv c0_i32_0 c1_i32 k1_t1
  let c16_i32_336 : BitVec 32 := 16#32
  let v273 : BitVec 32 := Scalar.muli arg10 c16_i32_336
  let v276 : Index := Scalar.indexCast v273
  ![4, 0, v276.toNat]
def k1_off10 (k1_t1 : Fin k1_t1_loop.trips) : Fin 3 → Nat :=
  let c4_i32_340 : BitVec 32 := 4#32
  let v281 : Index := Scalar.indexCast c4_i32_340
  let c1_i32_341 : BitVec 32 := 1#32
  let v282 : Index := Scalar.indexCast c1_i32_341
  let c0_i32_0 : BitVec 32 := 0#32
  let c1_i32 : BitVec 32 := 1#32
  let arg10 : BitVec 32 := Scf.iv c0_i32_0 c1_i32 k1_t1
  let c16_i32_339 : BitVec 32 := 16#32
  let v280 : BitVec 32 := Scalar.muli arg10 c16_i32_339
  let v283 : Index := Scalar.indexCast v280
  ![4, 1, v283.toNat]
def k1_off11 (k1_t1 : Fin k1_t1_loop.trips) : Fin 3 → Nat :=
  let c5_i32_343 : BitVec 32 := 5#32
  let v288 : Index := Scalar.indexCast c5_i32_343
  let c0_i32_344 : BitVec 32 := 0#32
  let v289 : Index := Scalar.indexCast c0_i32_344
  let c0_i32_0 : BitVec 32 := 0#32
  let c1_i32 : BitVec 32 := 1#32
  let arg10 : BitVec 32 := Scf.iv c0_i32_0 c1_i32 k1_t1
  let c16_i32_342 : BitVec 32 := 16#32
  let v287 : BitVec 32 := Scalar.muli arg10 c16_i32_342
  let v290 : Index := Scalar.indexCast v287
  ![5, 0, v290.toNat]
def k1_off12 (k1_t1 : Fin k1_t1_loop.trips) : Fin 3 → Nat :=
  let c5_i32_346 : BitVec 32 := 5#32
  let v295 : Index := Scalar.indexCast c5_i32_346
  let c1_i32_347 : BitVec 32 := 1#32
  let v296 : Index := Scalar.indexCast c1_i32_347
  let c0_i32_0 : BitVec 32 := 0#32
  let c1_i32 : BitVec 32 := 1#32
  let arg10 : BitVec 32 := Scf.iv c0_i32_0 c1_i32 k1_t1
  let c16_i32_345 : BitVec 32 := 16#32
  let v294 : BitVec 32 := Scalar.muli arg10 c16_i32_345
  let v297 : Index := Scalar.indexCast v294
  ![5, 1, v297.toNat]
def k1_off13 (k1_t1 : Fin k1_t1_loop.trips) : Fin 3 → Nat :=
  let c6_i32_349 : BitVec 32 := 6#32
  let v302 : Index := Scalar.indexCast c6_i32_349
  let c0_i32_350 : BitVec 32 := 0#32
  let v303 : Index := Scalar.indexCast c0_i32_350
  let c0_i32_0 : BitVec 32 := 0#32
  let c1_i32 : BitVec 32 := 1#32
  let arg10 : BitVec 32 := Scf.iv c0_i32_0 c1_i32 k1_t1
  let c16_i32_348 : BitVec 32 := 16#32
  let v301 : BitVec 32 := Scalar.muli arg10 c16_i32_348
  let v304 : Index := Scalar.indexCast v301
  ![6, 0, v304.toNat]
def k1_off14 (k1_t1 : Fin k1_t1_loop.trips) : Fin 3 → Nat :=
  let c6_i32_352 : BitVec 32 := 6#32
  let v309 : Index := Scalar.indexCast c6_i32_352
  let c1_i32_353 : BitVec 32 := 1#32
  let v310 : Index := Scalar.indexCast c1_i32_353
  let c0_i32_0 : BitVec 32 := 0#32
  let c1_i32 : BitVec 32 := 1#32
  let arg10 : BitVec 32 := Scf.iv c0_i32_0 c1_i32 k1_t1
  let c16_i32_351 : BitVec 32 := 16#32
  let v308 : BitVec 32 := Scalar.muli arg10 c16_i32_351
  let v311 : Index := Scalar.indexCast v308
  ![6, 1, v311.toNat]
def k1_off15 (k1_t1 : Fin k1_t1_loop.trips) : Fin 3 → Nat :=
  let c7_i32_355 : BitVec 32 := 7#32
  let v316 : Index := Scalar.indexCast c7_i32_355
  let c0_i32_356 : BitVec 32 := 0#32
  let v317 : Index := Scalar.indexCast c0_i32_356
  let c0_i32_0 : BitVec 32 := 0#32
  let c1_i32 : BitVec 32 := 1#32
  let arg10 : BitVec 32 := Scf.iv c0_i32_0 c1_i32 k1_t1
  let c16_i32_354 : BitVec 32 := 16#32
  let v315 : BitVec 32 := Scalar.muli arg10 c16_i32_354
  let v318 : Index := Scalar.indexCast v315
  ![7, 0, v318.toNat]
def k1_off16 (k1_t1 : Fin k1_t1_loop.trips) : Fin 3 → Nat :=
  let c7_i32_358 : BitVec 32 := 7#32
  let v323 : Index := Scalar.indexCast c7_i32_358
  let c1_i32_359 : BitVec 32 := 1#32
  let v324 : Index := Scalar.indexCast c1_i32_359
  let c0_i32_0 : BitVec 32 := 0#32
  let c1_i32 : BitVec 32 := 1#32
  let arg10 : BitVec 32 := Scf.iv c0_i32_0 c1_i32 k1_t1
  let c16_i32_357 : BitVec 32 := 16#32
  let v322 : BitVec 32 := Scalar.muli arg10 c16_i32_357
  let v325 : Index := Scalar.indexCast v322
  ![7, 1, v325.toNat]
def k1_off17 (k1_t1 : Fin k1_t1_loop.trips) : Fin 3 → Nat :=
  let c8_i32_361 : BitVec 32 := 8#32
  let v330 : Index := Scalar.indexCast c8_i32_361
  let c0_i32_362 : BitVec 32 := 0#32
  let v331 : Index := Scalar.indexCast c0_i32_362
  let c0_i32_0 : BitVec 32 := 0#32
  let c1_i32 : BitVec 32 := 1#32
  let arg10 : BitVec 32 := Scf.iv c0_i32_0 c1_i32 k1_t1
  let c16_i32_360 : BitVec 32 := 16#32
  let v329 : BitVec 32 := Scalar.muli arg10 c16_i32_360
  let v332 : Index := Scalar.indexCast v329
  ![8, 0, v332.toNat]
def k1_off18 (k1_t1 : Fin k1_t1_loop.trips) : Fin 3 → Nat :=
  let c8_i32_364 : BitVec 32 := 8#32
  let v337 : Index := Scalar.indexCast c8_i32_364
  let c1_i32_365 : BitVec 32 := 1#32
  let v338 : Index := Scalar.indexCast c1_i32_365
  let c0_i32_0 : BitVec 32 := 0#32
  let c1_i32 : BitVec 32 := 1#32
  let arg10 : BitVec 32 := Scf.iv c0_i32_0 c1_i32 k1_t1
  let c16_i32_363 : BitVec 32 := 16#32
  let v336 : BitVec 32 := Scalar.muli arg10 c16_i32_363
  let v339 : Index := Scalar.indexCast v336
  ![8, 1, v339.toNat]
def k1_off19 (k1_t1 : Fin k1_t1_loop.trips) : Fin 3 → Nat :=
  let c9_i32 : BitVec 32 := 9#32
  let v344 : Index := Scalar.indexCast c9_i32
  let c0_i32_367 : BitVec 32 := 0#32
  let v345 : Index := Scalar.indexCast c0_i32_367
  let c0_i32_0 : BitVec 32 := 0#32
  let c1_i32 : BitVec 32 := 1#32
  let arg10 : BitVec 32 := Scf.iv c0_i32_0 c1_i32 k1_t1
  let c16_i32_366 : BitVec 32 := 16#32
  let v343 : BitVec 32 := Scalar.muli arg10 c16_i32_366
  let v346 : Index := Scalar.indexCast v343
  ![9, 0, v346.toNat]
def k1_off20 (k1_t1 : Fin k1_t1_loop.trips) : Fin 3 → Nat :=
  let c9_i32_369 : BitVec 32 := 9#32
  let v351 : Index := Scalar.indexCast c9_i32_369
  let c1_i32_370 : BitVec 32 := 1#32
  let v352 : Index := Scalar.indexCast c1_i32_370
  let c0_i32_0 : BitVec 32 := 0#32
  let c1_i32 : BitVec 32 := 1#32
  let arg10 : BitVec 32 := Scf.iv c0_i32_0 c1_i32 k1_t1
  let c16_i32_368 : BitVec 32 := 16#32
  let v350 : BitVec 32 := Scalar.muli arg10 c16_i32_368
  let v353 : Index := Scalar.indexCast v350
  ![9, 1, v353.toNat]
def k1_off21 (k1_t1 : Fin k1_t1_loop.trips) : Fin 3 → Nat :=
  let c10_i32 : BitVec 32 := 10#32
  let v358 : Index := Scalar.indexCast c10_i32
  let c0_i32_372 : BitVec 32 := 0#32
  let v359 : Index := Scalar.indexCast c0_i32_372
  let c0_i32_0 : BitVec 32 := 0#32
  let c1_i32 : BitVec 32 := 1#32
  let arg10 : BitVec 32 := Scf.iv c0_i32_0 c1_i32 k1_t1
  let c16_i32_371 : BitVec 32 := 16#32
  let v357 : BitVec 32 := Scalar.muli arg10 c16_i32_371
  let v360 : Index := Scalar.indexCast v357
  ![10, 0, v360.toNat]
def k1_off22 (k1_t1 : Fin k1_t1_loop.trips) : Fin 3 → Nat :=
  let c10_i32_374 : BitVec 32 := 10#32
  let v365 : Index := Scalar.indexCast c10_i32_374
  let c1_i32_375 : BitVec 32 := 1#32
  let v366 : Index := Scalar.indexCast c1_i32_375
  let c0_i32_0 : BitVec 32 := 0#32
  let c1_i32 : BitVec 32 := 1#32
  let arg10 : BitVec 32 := Scf.iv c0_i32_0 c1_i32 k1_t1
  let c16_i32_373 : BitVec 32 := 16#32
  let v364 : BitVec 32 := Scalar.muli arg10 c16_i32_373
  let v367 : Index := Scalar.indexCast v364
  ![10, 1, v367.toNat]
def k1_off23 (k1_t1 : Fin k1_t1_loop.trips) : Fin 3 → Nat :=
  let c11_i32 : BitVec 32 := 11#32
  let v372 : Index := Scalar.indexCast c11_i32
  let c0_i32_377 : BitVec 32 := 0#32
  let v373 : Index := Scalar.indexCast c0_i32_377
  let c0_i32_0 : BitVec 32 := 0#32
  let c1_i32 : BitVec 32 := 1#32
  let arg10 : BitVec 32 := Scf.iv c0_i32_0 c1_i32 k1_t1
  let c16_i32_376 : BitVec 32 := 16#32
  let v371 : BitVec 32 := Scalar.muli arg10 c16_i32_376
  let v374 : Index := Scalar.indexCast v371
  ![11, 0, v374.toNat]
def k1_off24 (k1_t1 : Fin k1_t1_loop.trips) : Fin 3 → Nat :=
  let c11_i32_379 : BitVec 32 := 11#32
  let v379 : Index := Scalar.indexCast c11_i32_379
  let c1_i32_380 : BitVec 32 := 1#32
  let v380 : Index := Scalar.indexCast c1_i32_380
  let c0_i32_0 : BitVec 32 := 0#32
  let c1_i32 : BitVec 32 := 1#32
  let arg10 : BitVec 32 := Scf.iv c0_i32_0 c1_i32 k1_t1
  let c16_i32_378 : BitVec 32 := 16#32
  let v378 : BitVec 32 := Scalar.muli arg10 c16_i32_378
  let v381 : Index := Scalar.indexCast v378
  ![11, 1, v381.toNat]
def k1_off25 (k1_t1 : Fin k1_t1_loop.trips) : Fin 3 → Nat :=
  let c12_i32 : BitVec 32 := 12#32
  let v386 : Index := Scalar.indexCast c12_i32
  let c0_i32_382 : BitVec 32 := 0#32
  let v387 : Index := Scalar.indexCast c0_i32_382
  let c0_i32_0 : BitVec 32 := 0#32
  let c1_i32 : BitVec 32 := 1#32
  let arg10 : BitVec 32 := Scf.iv c0_i32_0 c1_i32 k1_t1
  let c16_i32_381 : BitVec 32 := 16#32
  let v385 : BitVec 32 := Scalar.muli arg10 c16_i32_381
  let v388 : Index := Scalar.indexCast v385
  ![12, 0, v388.toNat]
def k1_off26 (k1_t1 : Fin k1_t1_loop.trips) : Fin 3 → Nat :=
  let c12_i32_384 : BitVec 32 := 12#32
  let v393 : Index := Scalar.indexCast c12_i32_384
  let c1_i32_385 : BitVec 32 := 1#32
  let v394 : Index := Scalar.indexCast c1_i32_385
  let c0_i32_0 : BitVec 32 := 0#32
  let c1_i32 : BitVec 32 := 1#32
  let arg10 : BitVec 32 := Scf.iv c0_i32_0 c1_i32 k1_t1
  let c16_i32_383 : BitVec 32 := 16#32
  let v392 : BitVec 32 := Scalar.muli arg10 c16_i32_383
  let v395 : Index := Scalar.indexCast v392
  ![12, 1, v395.toNat]
def k1_off27 (k1_t1 : Fin k1_t1_loop.trips) : Fin 3 → Nat :=
  let c13_i32 : BitVec 32 := 13#32
  let v400 : Index := Scalar.indexCast c13_i32
  let c0_i32_387 : BitVec 32 := 0#32
  let v401 : Index := Scalar.indexCast c0_i32_387
  let c0_i32_0 : BitVec 32 := 0#32
  let c1_i32 : BitVec 32 := 1#32
  let arg10 : BitVec 32 := Scf.iv c0_i32_0 c1_i32 k1_t1
  let c16_i32_386 : BitVec 32 := 16#32
  let v399 : BitVec 32 := Scalar.muli arg10 c16_i32_386
  let v402 : Index := Scalar.indexCast v399
  ![13, 0, v402.toNat]
def k1_off28 (k1_t1 : Fin k1_t1_loop.trips) : Fin 3 → Nat :=
  let c13_i32_389 : BitVec 32 := 13#32
  let v407 : Index := Scalar.indexCast c13_i32_389
  let c1_i32_390 : BitVec 32 := 1#32
  let v408 : Index := Scalar.indexCast c1_i32_390
  let c0_i32_0 : BitVec 32 := 0#32
  let c1_i32 : BitVec 32 := 1#32
  let arg10 : BitVec 32 := Scf.iv c0_i32_0 c1_i32 k1_t1
  let c16_i32_388 : BitVec 32 := 16#32
  let v406 : BitVec 32 := Scalar.muli arg10 c16_i32_388
  let v409 : Index := Scalar.indexCast v406
  ![13, 1, v409.toNat]
def k1_off29 (k1_t1 : Fin k1_t1_loop.trips) : Fin 3 → Nat :=
  let c14_i32 : BitVec 32 := 14#32
  let v414 : Index := Scalar.indexCast c14_i32
  let c0_i32_392 : BitVec 32 := 0#32
  let v415 : Index := Scalar.indexCast c0_i32_392
  let c0_i32_0 : BitVec 32 := 0#32
  let c1_i32 : BitVec 32 := 1#32
  let arg10 : BitVec 32 := Scf.iv c0_i32_0 c1_i32 k1_t1
  let c16_i32_391 : BitVec 32 := 16#32
  let v413 : BitVec 32 := Scalar.muli arg10 c16_i32_391
  let v416 : Index := Scalar.indexCast v413
  ![14, 0, v416.toNat]
def k1_off30 (k1_t1 : Fin k1_t1_loop.trips) : Fin 3 → Nat :=
  let c14_i32_394 : BitVec 32 := 14#32
  let v421 : Index := Scalar.indexCast c14_i32_394
  let c1_i32_395 : BitVec 32 := 1#32
  let v422 : Index := Scalar.indexCast c1_i32_395
  let c0_i32_0 : BitVec 32 := 0#32
  let c1_i32 : BitVec 32 := 1#32
  let arg10 : BitVec 32 := Scf.iv c0_i32_0 c1_i32 k1_t1
  let c16_i32_393 : BitVec 32 := 16#32
  let v420 : BitVec 32 := Scalar.muli arg10 c16_i32_393
  let v423 : Index := Scalar.indexCast v420
  ![14, 1, v423.toNat]
def k1_off31 (k1_t1 : Fin k1_t1_loop.trips) : Fin 3 → Nat :=
  let c15_i32 : BitVec 32 := 15#32
  let v428 : Index := Scalar.indexCast c15_i32
  let c0_i32_397 : BitVec 32 := 0#32
  let v429 : Index := Scalar.indexCast c0_i32_397
  let c0_i32_0 : BitVec 32 := 0#32
  let c1_i32 : BitVec 32 := 1#32
  let arg10 : BitVec 32 := Scf.iv c0_i32_0 c1_i32 k1_t1
  let c16_i32_396 : BitVec 32 := 16#32
  let v427 : BitVec 32 := Scalar.muli arg10 c16_i32_396
  let v430 : Index := Scalar.indexCast v427
  ![15, 0, v430.toNat]
def k1_off32 (k1_t1 : Fin k1_t1_loop.trips) : Fin 3 → Nat :=
  let c15_i32_399 : BitVec 32 := 15#32
  let v435 : Index := Scalar.indexCast c15_i32_399
  let c1_i32_400 : BitVec 32 := 1#32
  let v436 : Index := Scalar.indexCast c1_i32_400
  let c0_i32_0 : BitVec 32 := 0#32
  let c1_i32 : BitVec 32 := 1#32
  let arg10 : BitVec 32 := Scf.iv c0_i32_0 c1_i32 k1_t1
  let c16_i32_398 : BitVec 32 := 16#32
  let v434 : BitVec 32 := Scalar.muli arg10 c16_i32_398
  let v437 : Index := Scalar.indexCast v434
  ![15, 1, v437.toNat]
def k1_off33 (k1_t1 : Fin k1_t1_loop.trips) : Fin 3 → Nat :=
  let c16_i32_402 : BitVec 32 := 16#32
  let v442 : Index := Scalar.indexCast c16_i32_402
  let c0_i32_403 : BitVec 32 := 0#32
  let v443 : Index := Scalar.indexCast c0_i32_403
  let c0_i32_0 : BitVec 32 := 0#32
  let c1_i32 : BitVec 32 := 1#32
  let arg10 : BitVec 32 := Scf.iv c0_i32_0 c1_i32 k1_t1
  let c16_i32_401 : BitVec 32 := 16#32
  let v441 : BitVec 32 := Scalar.muli arg10 c16_i32_401
  let v444 : Index := Scalar.indexCast v441
  ![16, 0, v444.toNat]
def k1_off34 (k1_t1 : Fin k1_t1_loop.trips) : Fin 3 → Nat :=
  let c16_i32_405 : BitVec 32 := 16#32
  let v449 : Index := Scalar.indexCast c16_i32_405
  let c1_i32_406 : BitVec 32 := 1#32
  let v450 : Index := Scalar.indexCast c1_i32_406
  let c0_i32_0 : BitVec 32 := 0#32
  let c1_i32 : BitVec 32 := 1#32
  let arg10 : BitVec 32 := Scf.iv c0_i32_0 c1_i32 k1_t1
  let c16_i32_404 : BitVec 32 := 16#32
  let v448 : BitVec 32 := Scalar.muli arg10 c16_i32_404
  let v451 : Index := Scalar.indexCast v448
  ![16, 1, v451.toNat]
def k1_off35 (k1_t1 : Fin k1_t1_loop.trips) : Fin 3 → Nat :=
  let c17_i32 : BitVec 32 := 17#32
  let v456 : Index := Scalar.indexCast c17_i32
  let c0_i32_408 : BitVec 32 := 0#32
  let v457 : Index := Scalar.indexCast c0_i32_408
  let c0_i32_0 : BitVec 32 := 0#32
  let c1_i32 : BitVec 32 := 1#32
  let arg10 : BitVec 32 := Scf.iv c0_i32_0 c1_i32 k1_t1
  let c16_i32_407 : BitVec 32 := 16#32
  let v455 : BitVec 32 := Scalar.muli arg10 c16_i32_407
  let v458 : Index := Scalar.indexCast v455
  ![17, 0, v458.toNat]
def k1_off36 (k1_t1 : Fin k1_t1_loop.trips) : Fin 3 → Nat :=
  let c17_i32_410 : BitVec 32 := 17#32
  let v463 : Index := Scalar.indexCast c17_i32_410
  let c1_i32_411 : BitVec 32 := 1#32
  let v464 : Index := Scalar.indexCast c1_i32_411
  let c0_i32_0 : BitVec 32 := 0#32
  let c1_i32 : BitVec 32 := 1#32
  let arg10 : BitVec 32 := Scf.iv c0_i32_0 c1_i32 k1_t1
  let c16_i32_409 : BitVec 32 := 16#32
  let v462 : BitVec 32 := Scalar.muli arg10 c16_i32_409
  let v465 : Index := Scalar.indexCast v462
  ![17, 1, v465.toNat]
def k1_off37 (k1_t1 : Fin k1_t1_loop.trips) : Fin 3 → Nat :=
  let c18_i32 : BitVec 32 := 18#32
  let v470 : Index := Scalar.indexCast c18_i32
  let c0_i32_413 : BitVec 32 := 0#32
  let v471 : Index := Scalar.indexCast c0_i32_413
  let c0_i32_0 : BitVec 32 := 0#32
  let c1_i32 : BitVec 32 := 1#32
  let arg10 : BitVec 32 := Scf.iv c0_i32_0 c1_i32 k1_t1
  let c16_i32_412 : BitVec 32 := 16#32
  let v469 : BitVec 32 := Scalar.muli arg10 c16_i32_412
  let v472 : Index := Scalar.indexCast v469
  ![18, 0, v472.toNat]
def k1_off38 (k1_t1 : Fin k1_t1_loop.trips) : Fin 3 → Nat :=
  let c18_i32_415 : BitVec 32 := 18#32
  let v477 : Index := Scalar.indexCast c18_i32_415
  let c1_i32_416 : BitVec 32 := 1#32
  let v478 : Index := Scalar.indexCast c1_i32_416
  let c0_i32_0 : BitVec 32 := 0#32
  let c1_i32 : BitVec 32 := 1#32
  let arg10 : BitVec 32 := Scf.iv c0_i32_0 c1_i32 k1_t1
  let c16_i32_414 : BitVec 32 := 16#32
  let v476 : BitVec 32 := Scalar.muli arg10 c16_i32_414
  let v479 : Index := Scalar.indexCast v476
  ![18, 1, v479.toNat]
def k1_off39 (k1_t1 : Fin k1_t1_loop.trips) : Fin 3 → Nat :=
  let c19_i32 : BitVec 32 := 19#32
  let v484 : Index := Scalar.indexCast c19_i32
  let c0_i32_418 : BitVec 32 := 0#32
  let v485 : Index := Scalar.indexCast c0_i32_418
  let c0_i32_0 : BitVec 32 := 0#32
  let c1_i32 : BitVec 32 := 1#32
  let arg10 : BitVec 32 := Scf.iv c0_i32_0 c1_i32 k1_t1
  let c16_i32_417 : BitVec 32 := 16#32
  let v483 : BitVec 32 := Scalar.muli arg10 c16_i32_417
  let v486 : Index := Scalar.indexCast v483
  ![19, 0, v486.toNat]
def k1_off40 (k1_t1 : Fin k1_t1_loop.trips) : Fin 3 → Nat :=
  let c19_i32_420 : BitVec 32 := 19#32
  let v491 : Index := Scalar.indexCast c19_i32_420
  let c1_i32_421 : BitVec 32 := 1#32
  let v492 : Index := Scalar.indexCast c1_i32_421
  let c0_i32_0 : BitVec 32 := 0#32
  let c1_i32 : BitVec 32 := 1#32
  let arg10 : BitVec 32 := Scf.iv c0_i32_0 c1_i32 k1_t1
  let c16_i32_419 : BitVec 32 := 16#32
  let v490 : BitVec 32 := Scalar.muli arg10 c16_i32_419
  let v493 : Index := Scalar.indexCast v490
  ![19, 1, v493.toNat]
def k1_off41 (k1_t1 : Fin k1_t1_loop.trips) : Fin 3 → Nat :=
  let c20_i32 : BitVec 32 := 20#32
  let v498 : Index := Scalar.indexCast c20_i32
  let c0_i32_423 : BitVec 32 := 0#32
  let v499 : Index := Scalar.indexCast c0_i32_423
  let c0_i32_0 : BitVec 32 := 0#32
  let c1_i32 : BitVec 32 := 1#32
  let arg10 : BitVec 32 := Scf.iv c0_i32_0 c1_i32 k1_t1
  let c16_i32_422 : BitVec 32 := 16#32
  let v497 : BitVec 32 := Scalar.muli arg10 c16_i32_422
  let v500 : Index := Scalar.indexCast v497
  ![20, 0, v500.toNat]
def k1_off42 (k1_t1 : Fin k1_t1_loop.trips) : Fin 3 → Nat :=
  let c20_i32_425 : BitVec 32 := 20#32
  let v505 : Index := Scalar.indexCast c20_i32_425
  let c1_i32_426 : BitVec 32 := 1#32
  let v506 : Index := Scalar.indexCast c1_i32_426
  let c0_i32_0 : BitVec 32 := 0#32
  let c1_i32 : BitVec 32 := 1#32
  let arg10 : BitVec 32 := Scf.iv c0_i32_0 c1_i32 k1_t1
  let c16_i32_424 : BitVec 32 := 16#32
  let v504 : BitVec 32 := Scalar.muli arg10 c16_i32_424
  let v507 : Index := Scalar.indexCast v504
  ![20, 1, v507.toNat]
def k1_off43 (k1_t1 : Fin k1_t1_loop.trips) : Fin 3 → Nat :=
  let c21_i32 : BitVec 32 := 21#32
  let v512 : Index := Scalar.indexCast c21_i32
  let c0_i32_428 : BitVec 32 := 0#32
  let v513 : Index := Scalar.indexCast c0_i32_428
  let c0_i32_0 : BitVec 32 := 0#32
  let c1_i32 : BitVec 32 := 1#32
  let arg10 : BitVec 32 := Scf.iv c0_i32_0 c1_i32 k1_t1
  let c16_i32_427 : BitVec 32 := 16#32
  let v511 : BitVec 32 := Scalar.muli arg10 c16_i32_427
  let v514 : Index := Scalar.indexCast v511
  ![21, 0, v514.toNat]
def k1_off44 (k1_t1 : Fin k1_t1_loop.trips) : Fin 3 → Nat :=
  let c21_i32_430 : BitVec 32 := 21#32
  let v519 : Index := Scalar.indexCast c21_i32_430
  let c1_i32_431 : BitVec 32 := 1#32
  let v520 : Index := Scalar.indexCast c1_i32_431
  let c0_i32_0 : BitVec 32 := 0#32
  let c1_i32 : BitVec 32 := 1#32
  let arg10 : BitVec 32 := Scf.iv c0_i32_0 c1_i32 k1_t1
  let c16_i32_429 : BitVec 32 := 16#32
  let v518 : BitVec 32 := Scalar.muli arg10 c16_i32_429
  let v521 : Index := Scalar.indexCast v518
  ![21, 1, v521.toNat]
def k1_off45 (k1_t1 : Fin k1_t1_loop.trips) : Fin 3 → Nat :=
  let c22_i32 : BitVec 32 := 22#32
  let v526 : Index := Scalar.indexCast c22_i32
  let c0_i32_433 : BitVec 32 := 0#32
  let v527 : Index := Scalar.indexCast c0_i32_433
  let c0_i32_0 : BitVec 32 := 0#32
  let c1_i32 : BitVec 32 := 1#32
  let arg10 : BitVec 32 := Scf.iv c0_i32_0 c1_i32 k1_t1
  let c16_i32_432 : BitVec 32 := 16#32
  let v525 : BitVec 32 := Scalar.muli arg10 c16_i32_432
  let v528 : Index := Scalar.indexCast v525
  ![22, 0, v528.toNat]
def k1_off46 (k1_t1 : Fin k1_t1_loop.trips) : Fin 3 → Nat :=
  let c22_i32_435 : BitVec 32 := 22#32
  let v533 : Index := Scalar.indexCast c22_i32_435
  let c1_i32_436 : BitVec 32 := 1#32
  let v534 : Index := Scalar.indexCast c1_i32_436
  let c0_i32_0 : BitVec 32 := 0#32
  let c1_i32 : BitVec 32 := 1#32
  let arg10 : BitVec 32 := Scf.iv c0_i32_0 c1_i32 k1_t1
  let c16_i32_434 : BitVec 32 := 16#32
  let v532 : BitVec 32 := Scalar.muli arg10 c16_i32_434
  let v535 : Index := Scalar.indexCast v532
  ![22, 1, v535.toNat]
def k1_off47 (k1_t1 : Fin k1_t1_loop.trips) : Fin 3 → Nat :=
  let c23_i32 : BitVec 32 := 23#32
  let v540 : Index := Scalar.indexCast c23_i32
  let c0_i32_438 : BitVec 32 := 0#32
  let v541 : Index := Scalar.indexCast c0_i32_438
  let c0_i32_0 : BitVec 32 := 0#32
  let c1_i32 : BitVec 32 := 1#32
  let arg10 : BitVec 32 := Scf.iv c0_i32_0 c1_i32 k1_t1
  let c16_i32_437 : BitVec 32 := 16#32
  let v539 : BitVec 32 := Scalar.muli arg10 c16_i32_437
  let v542 : Index := Scalar.indexCast v539
  ![23, 0, v542.toNat]
def k1_off48 (k1_t1 : Fin k1_t1_loop.trips) : Fin 3 → Nat :=
  let c23_i32_440 : BitVec 32 := 23#32
  let v547 : Index := Scalar.indexCast c23_i32_440
  let c1_i32_441 : BitVec 32 := 1#32
  let v548 : Index := Scalar.indexCast c1_i32_441
  let c0_i32_0 : BitVec 32 := 0#32
  let c1_i32 : BitVec 32 := 1#32
  let arg10 : BitVec 32 := Scf.iv c0_i32_0 c1_i32 k1_t1
  let c16_i32_439 : BitVec 32 := 16#32
  let v546 : BitVec 32 := Scalar.muli arg10 c16_i32_439
  let v549 : Index := Scalar.indexCast v546
  ![23, 1, v549.toNat]
def k1_off49 (k1_t1 : Fin k1_t1_loop.trips) : Fin 3 → Nat :=
  let c24_i32 : BitVec 32 := 24#32
  let v554 : Index := Scalar.indexCast c24_i32
  let c0_i32_443 : BitVec 32 := 0#32
  let v555 : Index := Scalar.indexCast c0_i32_443
  let c0_i32_0 : BitVec 32 := 0#32
  let c1_i32 : BitVec 32 := 1#32
  let arg10 : BitVec 32 := Scf.iv c0_i32_0 c1_i32 k1_t1
  let c16_i32_442 : BitVec 32 := 16#32
  let v553 : BitVec 32 := Scalar.muli arg10 c16_i32_442
  let v556 : Index := Scalar.indexCast v553
  ![24, 0, v556.toNat]
def k1_off50 (k1_t1 : Fin k1_t1_loop.trips) : Fin 3 → Nat :=
  let c24_i32_445 : BitVec 32 := 24#32
  let v561 : Index := Scalar.indexCast c24_i32_445
  let c1_i32_446 : BitVec 32 := 1#32
  let v562 : Index := Scalar.indexCast c1_i32_446
  let c0_i32_0 : BitVec 32 := 0#32
  let c1_i32 : BitVec 32 := 1#32
  let arg10 : BitVec 32 := Scf.iv c0_i32_0 c1_i32 k1_t1
  let c16_i32_444 : BitVec 32 := 16#32
  let v560 : BitVec 32 := Scalar.muli arg10 c16_i32_444
  let v563 : Index := Scalar.indexCast v560
  ![24, 1, v563.toNat]
def k1_off51 (k1_t1 : Fin k1_t1_loop.trips) : Fin 3 → Nat :=
  let c25_i32 : BitVec 32 := 25#32
  let v568 : Index := Scalar.indexCast c25_i32
  let c0_i32_448 : BitVec 32 := 0#32
  let v569 : Index := Scalar.indexCast c0_i32_448
  let c0_i32_0 : BitVec 32 := 0#32
  let c1_i32 : BitVec 32 := 1#32
  let arg10 : BitVec 32 := Scf.iv c0_i32_0 c1_i32 k1_t1
  let c16_i32_447 : BitVec 32 := 16#32
  let v567 : BitVec 32 := Scalar.muli arg10 c16_i32_447
  let v570 : Index := Scalar.indexCast v567
  ![25, 0, v570.toNat]
def k1_off52 (k1_t1 : Fin k1_t1_loop.trips) : Fin 3 → Nat :=
  let c25_i32_450 : BitVec 32 := 25#32
  let v575 : Index := Scalar.indexCast c25_i32_450
  let c1_i32_451 : BitVec 32 := 1#32
  let v576 : Index := Scalar.indexCast c1_i32_451
  let c0_i32_0 : BitVec 32 := 0#32
  let c1_i32 : BitVec 32 := 1#32
  let arg10 : BitVec 32 := Scf.iv c0_i32_0 c1_i32 k1_t1
  let c16_i32_449 : BitVec 32 := 16#32
  let v574 : BitVec 32 := Scalar.muli arg10 c16_i32_449
  let v577 : Index := Scalar.indexCast v574
  ![25, 1, v577.toNat]
def k1_off53 (k1_t1 : Fin k1_t1_loop.trips) : Fin 3 → Nat :=
  let c26_i32 : BitVec 32 := 26#32
  let v582 : Index := Scalar.indexCast c26_i32
  let c0_i32_453 : BitVec 32 := 0#32
  let v583 : Index := Scalar.indexCast c0_i32_453
  let c0_i32_0 : BitVec 32 := 0#32
  let c1_i32 : BitVec 32 := 1#32
  let arg10 : BitVec 32 := Scf.iv c0_i32_0 c1_i32 k1_t1
  let c16_i32_452 : BitVec 32 := 16#32
  let v581 : BitVec 32 := Scalar.muli arg10 c16_i32_452
  let v584 : Index := Scalar.indexCast v581
  ![26, 0, v584.toNat]
def k1_off54 (k1_t1 : Fin k1_t1_loop.trips) : Fin 3 → Nat :=
  let c26_i32_455 : BitVec 32 := 26#32
  let v589 : Index := Scalar.indexCast c26_i32_455
  let c1_i32_456 : BitVec 32 := 1#32
  let v590 : Index := Scalar.indexCast c1_i32_456
  let c0_i32_0 : BitVec 32 := 0#32
  let c1_i32 : BitVec 32 := 1#32
  let arg10 : BitVec 32 := Scf.iv c0_i32_0 c1_i32 k1_t1
  let c16_i32_454 : BitVec 32 := 16#32
  let v588 : BitVec 32 := Scalar.muli arg10 c16_i32_454
  let v591 : Index := Scalar.indexCast v588
  ![26, 1, v591.toNat]
def k1_off55 (k1_t1 : Fin k1_t1_loop.trips) : Fin 3 → Nat :=
  let c27_i32 : BitVec 32 := 27#32
  let v596 : Index := Scalar.indexCast c27_i32
  let c0_i32_458 : BitVec 32 := 0#32
  let v597 : Index := Scalar.indexCast c0_i32_458
  let c0_i32_0 : BitVec 32 := 0#32
  let c1_i32 : BitVec 32 := 1#32
  let arg10 : BitVec 32 := Scf.iv c0_i32_0 c1_i32 k1_t1
  let c16_i32_457 : BitVec 32 := 16#32
  let v595 : BitVec 32 := Scalar.muli arg10 c16_i32_457
  let v598 : Index := Scalar.indexCast v595
  ![27, 0, v598.toNat]
def k1_off56 (k1_t1 : Fin k1_t1_loop.trips) : Fin 3 → Nat :=
  let c27_i32_460 : BitVec 32 := 27#32
  let v603 : Index := Scalar.indexCast c27_i32_460
  let c1_i32_461 : BitVec 32 := 1#32
  let v604 : Index := Scalar.indexCast c1_i32_461
  let c0_i32_0 : BitVec 32 := 0#32
  let c1_i32 : BitVec 32 := 1#32
  let arg10 : BitVec 32 := Scf.iv c0_i32_0 c1_i32 k1_t1
  let c16_i32_459 : BitVec 32 := 16#32
  let v602 : BitVec 32 := Scalar.muli arg10 c16_i32_459
  let v605 : Index := Scalar.indexCast v602
  ![27, 1, v605.toNat]
def k1_off57 (k1_t1 : Fin k1_t1_loop.trips) : Fin 3 → Nat :=
  let c28_i32 : BitVec 32 := 28#32
  let v610 : Index := Scalar.indexCast c28_i32
  let c0_i32_463 : BitVec 32 := 0#32
  let v611 : Index := Scalar.indexCast c0_i32_463
  let c0_i32_0 : BitVec 32 := 0#32
  let c1_i32 : BitVec 32 := 1#32
  let arg10 : BitVec 32 := Scf.iv c0_i32_0 c1_i32 k1_t1
  let c16_i32_462 : BitVec 32 := 16#32
  let v609 : BitVec 32 := Scalar.muli arg10 c16_i32_462
  let v612 : Index := Scalar.indexCast v609
  ![28, 0, v612.toNat]
def k1_off58 (k1_t1 : Fin k1_t1_loop.trips) : Fin 3 → Nat :=
  let c28_i32_465 : BitVec 32 := 28#32
  let v617 : Index := Scalar.indexCast c28_i32_465
  let c1_i32_466 : BitVec 32 := 1#32
  let v618 : Index := Scalar.indexCast c1_i32_466
  let c0_i32_0 : BitVec 32 := 0#32
  let c1_i32 : BitVec 32 := 1#32
  let arg10 : BitVec 32 := Scf.iv c0_i32_0 c1_i32 k1_t1
  let c16_i32_464 : BitVec 32 := 16#32
  let v616 : BitVec 32 := Scalar.muli arg10 c16_i32_464
  let v619 : Index := Scalar.indexCast v616
  ![28, 1, v619.toNat]
def k1_off59 (k1_t1 : Fin k1_t1_loop.trips) : Fin 3 → Nat :=
  let c29_i32 : BitVec 32 := 29#32
  let v624 : Index := Scalar.indexCast c29_i32
  let c0_i32_468 : BitVec 32 := 0#32
  let v625 : Index := Scalar.indexCast c0_i32_468
  let c0_i32_0 : BitVec 32 := 0#32
  let c1_i32 : BitVec 32 := 1#32
  let arg10 : BitVec 32 := Scf.iv c0_i32_0 c1_i32 k1_t1
  let c16_i32_467 : BitVec 32 := 16#32
  let v623 : BitVec 32 := Scalar.muli arg10 c16_i32_467
  let v626 : Index := Scalar.indexCast v623
  ![29, 0, v626.toNat]
def k1_off60 (k1_t1 : Fin k1_t1_loop.trips) : Fin 3 → Nat :=
  let c29_i32_470 : BitVec 32 := 29#32
  let v631 : Index := Scalar.indexCast c29_i32_470
  let c1_i32_471 : BitVec 32 := 1#32
  let v632 : Index := Scalar.indexCast c1_i32_471
  let c0_i32_0 : BitVec 32 := 0#32
  let c1_i32 : BitVec 32 := 1#32
  let arg10 : BitVec 32 := Scf.iv c0_i32_0 c1_i32 k1_t1
  let c16_i32_469 : BitVec 32 := 16#32
  let v630 : BitVec 32 := Scalar.muli arg10 c16_i32_469
  let v633 : Index := Scalar.indexCast v630
  ![29, 1, v633.toNat]
def k1_off61 (k1_t1 : Fin k1_t1_loop.trips) : Fin 3 → Nat :=
  let c30_i32 : BitVec 32 := 30#32
  let v638 : Index := Scalar.indexCast c30_i32
  let c0_i32_473 : BitVec 32 := 0#32
  let v639 : Index := Scalar.indexCast c0_i32_473
  let c0_i32_0 : BitVec 32 := 0#32
  let c1_i32 : BitVec 32 := 1#32
  let arg10 : BitVec 32 := Scf.iv c0_i32_0 c1_i32 k1_t1
  let c16_i32_472 : BitVec 32 := 16#32
  let v637 : BitVec 32 := Scalar.muli arg10 c16_i32_472
  let v640 : Index := Scalar.indexCast v637
  ![30, 0, v640.toNat]
def k1_off62 (k1_t1 : Fin k1_t1_loop.trips) : Fin 3 → Nat :=
  let c30_i32_475 : BitVec 32 := 30#32
  let v645 : Index := Scalar.indexCast c30_i32_475
  let c1_i32_476 : BitVec 32 := 1#32
  let v646 : Index := Scalar.indexCast c1_i32_476
  let c0_i32_0 : BitVec 32 := 0#32
  let c1_i32 : BitVec 32 := 1#32
  let arg10 : BitVec 32 := Scf.iv c0_i32_0 c1_i32 k1_t1
  let c16_i32_474 : BitVec 32 := 16#32
  let v644 : BitVec 32 := Scalar.muli arg10 c16_i32_474
  let v647 : Index := Scalar.indexCast v644
  ![30, 1, v647.toNat]
def k1_off63 (k1_t1 : Fin k1_t1_loop.trips) : Fin 3 → Nat :=
  let c31_i32 : BitVec 32 := 31#32
  let v652 : Index := Scalar.indexCast c31_i32
  let c0_i32_478 : BitVec 32 := 0#32
  let v653 : Index := Scalar.indexCast c0_i32_478
  let c0_i32_0 : BitVec 32 := 0#32
  let c1_i32 : BitVec 32 := 1#32
  let arg10 : BitVec 32 := Scf.iv c0_i32_0 c1_i32 k1_t1
  let c16_i32_477 : BitVec 32 := 16#32
  let v651 : BitVec 32 := Scalar.muli arg10 c16_i32_477
  let v654 : Index := Scalar.indexCast v651
  ![31, 0, v654.toNat]
def k1_off64 (k1_t1 : Fin k1_t1_loop.trips) : Fin 3 → Nat :=
  let c31_i32_480 : BitVec 32 := 31#32
  let v659 : Index := Scalar.indexCast c31_i32_480
  let c1_i32_481 : BitVec 32 := 1#32
  let v660 : Index := Scalar.indexCast c1_i32_481
  let c0_i32_0 : BitVec 32 := 0#32
  let c1_i32 : BitVec 32 := 1#32
  let arg10 : BitVec 32 := Scf.iv c0_i32_0 c1_i32 k1_t1
  let c16_i32_479 : BitVec 32 := 16#32
  let v658 : BitVec 32 := Scalar.muli arg10 c16_i32_479
  let v661 : Index := Scalar.indexCast v658
  ![31, 1, v661.toNat]
def k1_off65 (k1_t1 : Fin k1_t1_loop.trips) : Fin 3 → Nat :=
  let c32_i32_483 : BitVec 32 := 32#32
  let v666 : Index := Scalar.indexCast c32_i32_483
  let c0_i32_484 : BitVec 32 := 0#32
  let v667 : Index := Scalar.indexCast c0_i32_484
  let c0_i32_0 : BitVec 32 := 0#32
  let c1_i32 : BitVec 32 := 1#32
  let arg10 : BitVec 32 := Scf.iv c0_i32_0 c1_i32 k1_t1
  let c16_i32_482 : BitVec 32 := 16#32
  let v665 : BitVec 32 := Scalar.muli arg10 c16_i32_482
  let v668 : Index := Scalar.indexCast v665
  ![32, 0, v668.toNat]
def k1_off66 (k1_t1 : Fin k1_t1_loop.trips) : Fin 3 → Nat :=
  let c32_i32_486 : BitVec 32 := 32#32
  let v673 : Index := Scalar.indexCast c32_i32_486
  let c1_i32_487 : BitVec 32 := 1#32
  let v674 : Index := Scalar.indexCast c1_i32_487
  let c0_i32_0 : BitVec 32 := 0#32
  let c1_i32 : BitVec 32 := 1#32
  let arg10 : BitVec 32 := Scf.iv c0_i32_0 c1_i32 k1_t1
  let c16_i32_485 : BitVec 32 := 16#32
  let v672 : BitVec 32 := Scalar.muli arg10 c16_i32_485
  let v675 : Index := Scalar.indexCast v672
  ![32, 1, v675.toNat]
def k1_off67 (k1_t1 : Fin k1_t1_loop.trips) : Fin 3 → Nat :=
  let c33_i32 : BitVec 32 := 33#32
  let v680 : Index := Scalar.indexCast c33_i32
  let c0_i32_489 : BitVec 32 := 0#32
  let v681 : Index := Scalar.indexCast c0_i32_489
  let c0_i32_0 : BitVec 32 := 0#32
  let c1_i32 : BitVec 32 := 1#32
  let arg10 : BitVec 32 := Scf.iv c0_i32_0 c1_i32 k1_t1
  let c16_i32_488 : BitVec 32 := 16#32
  let v679 : BitVec 32 := Scalar.muli arg10 c16_i32_488
  let v682 : Index := Scalar.indexCast v679
  ![33, 0, v682.toNat]
def k1_off68 (k1_t1 : Fin k1_t1_loop.trips) : Fin 3 → Nat :=
  let c33_i32_491 : BitVec 32 := 33#32
  let v687 : Index := Scalar.indexCast c33_i32_491
  let c1_i32_492 : BitVec 32 := 1#32
  let v688 : Index := Scalar.indexCast c1_i32_492
  let c0_i32_0 : BitVec 32 := 0#32
  let c1_i32 : BitVec 32 := 1#32
  let arg10 : BitVec 32 := Scf.iv c0_i32_0 c1_i32 k1_t1
  let c16_i32_490 : BitVec 32 := 16#32
  let v686 : BitVec 32 := Scalar.muli arg10 c16_i32_490
  let v689 : Index := Scalar.indexCast v686
  ![33, 1, v689.toNat]
def k1_off69 (k1_t1 : Fin k1_t1_loop.trips) : Fin 3 → Nat :=
  let c34_i32 : BitVec 32 := 34#32
  let v694 : Index := Scalar.indexCast c34_i32
  let c0_i32_494 : BitVec 32 := 0#32
  let v695 : Index := Scalar.indexCast c0_i32_494
  let c0_i32_0 : BitVec 32 := 0#32
  let c1_i32 : BitVec 32 := 1#32
  let arg10 : BitVec 32 := Scf.iv c0_i32_0 c1_i32 k1_t1
  let c16_i32_493 : BitVec 32 := 16#32
  let v693 : BitVec 32 := Scalar.muli arg10 c16_i32_493
  let v696 : Index := Scalar.indexCast v693
  ![34, 0, v696.toNat]
def k1_off70 (k1_t1 : Fin k1_t1_loop.trips) : Fin 3 → Nat :=
  let c34_i32_496 : BitVec 32 := 34#32
  let v701 : Index := Scalar.indexCast c34_i32_496
  let c1_i32_497 : BitVec 32 := 1#32
  let v702 : Index := Scalar.indexCast c1_i32_497
  let c0_i32_0 : BitVec 32 := 0#32
  let c1_i32 : BitVec 32 := 1#32
  let arg10 : BitVec 32 := Scf.iv c0_i32_0 c1_i32 k1_t1
  let c16_i32_495 : BitVec 32 := 16#32
  let v700 : BitVec 32 := Scalar.muli arg10 c16_i32_495
  let v703 : Index := Scalar.indexCast v700
  ![34, 1, v703.toNat]
def k1_off71 (k1_t1 : Fin k1_t1_loop.trips) : Fin 3 → Nat :=
  let c35_i32 : BitVec 32 := 35#32
  let v708 : Index := Scalar.indexCast c35_i32
  let c0_i32_499 : BitVec 32 := 0#32
  let v709 : Index := Scalar.indexCast c0_i32_499
  let c0_i32_0 : BitVec 32 := 0#32
  let c1_i32 : BitVec 32 := 1#32
  let arg10 : BitVec 32 := Scf.iv c0_i32_0 c1_i32 k1_t1
  let c16_i32_498 : BitVec 32 := 16#32
  let v707 : BitVec 32 := Scalar.muli arg10 c16_i32_498
  let v710 : Index := Scalar.indexCast v707
  ![35, 0, v710.toNat]
def k1_off72 (k1_t1 : Fin k1_t1_loop.trips) : Fin 3 → Nat :=
  let c35_i32_501 : BitVec 32 := 35#32
  let v715 : Index := Scalar.indexCast c35_i32_501
  let c1_i32_502 : BitVec 32 := 1#32
  let v716 : Index := Scalar.indexCast c1_i32_502
  let c0_i32_0 : BitVec 32 := 0#32
  let c1_i32 : BitVec 32 := 1#32
  let arg10 : BitVec 32 := Scf.iv c0_i32_0 c1_i32 k1_t1
  let c16_i32_500 : BitVec 32 := 16#32
  let v714 : BitVec 32 := Scalar.muli arg10 c16_i32_500
  let v717 : Index := Scalar.indexCast v714
  ![35, 1, v717.toNat]
def k1_off73 (k1_t1 : Fin k1_t1_loop.trips) : Fin 3 → Nat :=
  let c36_i32 : BitVec 32 := 36#32
  let v722 : Index := Scalar.indexCast c36_i32
  let c0_i32_504 : BitVec 32 := 0#32
  let v723 : Index := Scalar.indexCast c0_i32_504
  let c0_i32_0 : BitVec 32 := 0#32
  let c1_i32 : BitVec 32 := 1#32
  let arg10 : BitVec 32 := Scf.iv c0_i32_0 c1_i32 k1_t1
  let c16_i32_503 : BitVec 32 := 16#32
  let v721 : BitVec 32 := Scalar.muli arg10 c16_i32_503
  let v724 : Index := Scalar.indexCast v721
  ![36, 0, v724.toNat]
def k1_off74 (k1_t1 : Fin k1_t1_loop.trips) : Fin 3 → Nat :=
  let c36_i32_506 : BitVec 32 := 36#32
  let v729 : Index := Scalar.indexCast c36_i32_506
  let c1_i32_507 : BitVec 32 := 1#32
  let v730 : Index := Scalar.indexCast c1_i32_507
  let c0_i32_0 : BitVec 32 := 0#32
  let c1_i32 : BitVec 32 := 1#32
  let arg10 : BitVec 32 := Scf.iv c0_i32_0 c1_i32 k1_t1
  let c16_i32_505 : BitVec 32 := 16#32
  let v728 : BitVec 32 := Scalar.muli arg10 c16_i32_505
  let v731 : Index := Scalar.indexCast v728
  ![36, 1, v731.toNat]
def k1_off75 (k1_t1 : Fin k1_t1_loop.trips) : Fin 3 → Nat :=
  let c37_i32 : BitVec 32 := 37#32
  let v736 : Index := Scalar.indexCast c37_i32
  let c0_i32_509 : BitVec 32 := 0#32
  let v737 : Index := Scalar.indexCast c0_i32_509
  let c0_i32_0 : BitVec 32 := 0#32
  let c1_i32 : BitVec 32 := 1#32
  let arg10 : BitVec 32 := Scf.iv c0_i32_0 c1_i32 k1_t1
  let c16_i32_508 : BitVec 32 := 16#32
  let v735 : BitVec 32 := Scalar.muli arg10 c16_i32_508
  let v738 : Index := Scalar.indexCast v735
  ![37, 0, v738.toNat]
def k1_off76 (k1_t1 : Fin k1_t1_loop.trips) : Fin 3 → Nat :=
  let c37_i32_511 : BitVec 32 := 37#32
  let v743 : Index := Scalar.indexCast c37_i32_511
  let c1_i32_512 : BitVec 32 := 1#32
  let v744 : Index := Scalar.indexCast c1_i32_512
  let c0_i32_0 : BitVec 32 := 0#32
  let c1_i32 : BitVec 32 := 1#32
  let arg10 : BitVec 32 := Scf.iv c0_i32_0 c1_i32 k1_t1
  let c16_i32_510 : BitVec 32 := 16#32
  let v742 : BitVec 32 := Scalar.muli arg10 c16_i32_510
  let v745 : Index := Scalar.indexCast v742
  ![37, 1, v745.toNat]
def k1_off77 (k1_t1 : Fin k1_t1_loop.trips) : Fin 3 → Nat :=
  let c38_i32 : BitVec 32 := 38#32
  let v750 : Index := Scalar.indexCast c38_i32
  let c0_i32_514 : BitVec 32 := 0#32
  let v751 : Index := Scalar.indexCast c0_i32_514
  let c0_i32_0 : BitVec 32 := 0#32
  let c1_i32 : BitVec 32 := 1#32
  let arg10 : BitVec 32 := Scf.iv c0_i32_0 c1_i32 k1_t1
  let c16_i32_513 : BitVec 32 := 16#32
  let v749 : BitVec 32 := Scalar.muli arg10 c16_i32_513
  let v752 : Index := Scalar.indexCast v749
  ![38, 0, v752.toNat]
def k1_off78 (k1_t1 : Fin k1_t1_loop.trips) : Fin 3 → Nat :=
  let c38_i32_516 : BitVec 32 := 38#32
  let v757 : Index := Scalar.indexCast c38_i32_516
  let c1_i32_517 : BitVec 32 := 1#32
  let v758 : Index := Scalar.indexCast c1_i32_517
  let c0_i32_0 : BitVec 32 := 0#32
  let c1_i32 : BitVec 32 := 1#32
  let arg10 : BitVec 32 := Scf.iv c0_i32_0 c1_i32 k1_t1
  let c16_i32_515 : BitVec 32 := 16#32
  let v756 : BitVec 32 := Scalar.muli arg10 c16_i32_515
  let v759 : Index := Scalar.indexCast v756
  ![38, 1, v759.toNat]
def k1_off79 (k1_t1 : Fin k1_t1_loop.trips) : Fin 3 → Nat :=
  let c39_i32 : BitVec 32 := 39#32
  let v764 : Index := Scalar.indexCast c39_i32
  let c0_i32_519 : BitVec 32 := 0#32
  let v765 : Index := Scalar.indexCast c0_i32_519
  let c0_i32_0 : BitVec 32 := 0#32
  let c1_i32 : BitVec 32 := 1#32
  let arg10 : BitVec 32 := Scf.iv c0_i32_0 c1_i32 k1_t1
  let c16_i32_518 : BitVec 32 := 16#32
  let v763 : BitVec 32 := Scalar.muli arg10 c16_i32_518
  let v766 : Index := Scalar.indexCast v763
  ![39, 0, v766.toNat]
def k1_off80 (k1_t1 : Fin k1_t1_loop.trips) : Fin 3 → Nat :=
  let c39_i32_521 : BitVec 32 := 39#32
  let v771 : Index := Scalar.indexCast c39_i32_521
  let c1_i32_522 : BitVec 32 := 1#32
  let v772 : Index := Scalar.indexCast c1_i32_522
  let c0_i32_0 : BitVec 32 := 0#32
  let c1_i32 : BitVec 32 := 1#32
  let arg10 : BitVec 32 := Scf.iv c0_i32_0 c1_i32 k1_t1
  let c16_i32_520 : BitVec 32 := 16#32
  let v770 : BitVec 32 := Scalar.muli arg10 c16_i32_520
  let v773 : Index := Scalar.indexCast v770
  ![39, 1, v773.toNat]
def k1_off81 (k1_t1 : Fin k1_t1_loop.trips) : Fin 3 → Nat :=
  let c40_i32 : BitVec 32 := 40#32
  let v778 : Index := Scalar.indexCast c40_i32
  let c0_i32_524 : BitVec 32 := 0#32
  let v779 : Index := Scalar.indexCast c0_i32_524
  let c0_i32_0 : BitVec 32 := 0#32
  let c1_i32 : BitVec 32 := 1#32
  let arg10 : BitVec 32 := Scf.iv c0_i32_0 c1_i32 k1_t1
  let c16_i32_523 : BitVec 32 := 16#32
  let v777 : BitVec 32 := Scalar.muli arg10 c16_i32_523
  let v780 : Index := Scalar.indexCast v777
  ![40, 0, v780.toNat]
def k1_off82 (k1_t1 : Fin k1_t1_loop.trips) : Fin 3 → Nat :=
  let c40_i32_526 : BitVec 32 := 40#32
  let v785 : Index := Scalar.indexCast c40_i32_526
  let c1_i32_527 : BitVec 32 := 1#32
  let v786 : Index := Scalar.indexCast c1_i32_527
  let c0_i32_0 : BitVec 32 := 0#32
  let c1_i32 : BitVec 32 := 1#32
  let arg10 : BitVec 32 := Scf.iv c0_i32_0 c1_i32 k1_t1
  let c16_i32_525 : BitVec 32 := 16#32
  let v784 : BitVec 32 := Scalar.muli arg10 c16_i32_525
  let v787 : Index := Scalar.indexCast v784
  ![40, 1, v787.toNat]
def k1_off83 (k1_t1 : Fin k1_t1_loop.trips) : Fin 3 → Nat :=
  let c41_i32 : BitVec 32 := 41#32
  let v792 : Index := Scalar.indexCast c41_i32
  let c0_i32_529 : BitVec 32 := 0#32
  let v793 : Index := Scalar.indexCast c0_i32_529
  let c0_i32_0 : BitVec 32 := 0#32
  let c1_i32 : BitVec 32 := 1#32
  let arg10 : BitVec 32 := Scf.iv c0_i32_0 c1_i32 k1_t1
  let c16_i32_528 : BitVec 32 := 16#32
  let v791 : BitVec 32 := Scalar.muli arg10 c16_i32_528
  let v794 : Index := Scalar.indexCast v791
  ![41, 0, v794.toNat]
def k1_off84 (k1_t1 : Fin k1_t1_loop.trips) : Fin 3 → Nat :=
  let c41_i32_531 : BitVec 32 := 41#32
  let v799 : Index := Scalar.indexCast c41_i32_531
  let c1_i32_532 : BitVec 32 := 1#32
  let v800 : Index := Scalar.indexCast c1_i32_532
  let c0_i32_0 : BitVec 32 := 0#32
  let c1_i32 : BitVec 32 := 1#32
  let arg10 : BitVec 32 := Scf.iv c0_i32_0 c1_i32 k1_t1
  let c16_i32_530 : BitVec 32 := 16#32
  let v798 : BitVec 32 := Scalar.muli arg10 c16_i32_530
  let v801 : Index := Scalar.indexCast v798
  ![41, 1, v801.toNat]
def k1_off85 (k1_t1 : Fin k1_t1_loop.trips) : Fin 3 → Nat :=
  let c42_i32 : BitVec 32 := 42#32
  let v806 : Index := Scalar.indexCast c42_i32
  let c0_i32_534 : BitVec 32 := 0#32
  let v807 : Index := Scalar.indexCast c0_i32_534
  let c0_i32_0 : BitVec 32 := 0#32
  let c1_i32 : BitVec 32 := 1#32
  let arg10 : BitVec 32 := Scf.iv c0_i32_0 c1_i32 k1_t1
  let c16_i32_533 : BitVec 32 := 16#32
  let v805 : BitVec 32 := Scalar.muli arg10 c16_i32_533
  let v808 : Index := Scalar.indexCast v805
  ![42, 0, v808.toNat]
def k1_off86 (k1_t1 : Fin k1_t1_loop.trips) : Fin 3 → Nat :=
  let c42_i32_536 : BitVec 32 := 42#32
  let v813 : Index := Scalar.indexCast c42_i32_536
  let c1_i32_537 : BitVec 32 := 1#32
  let v814 : Index := Scalar.indexCast c1_i32_537
  let c0_i32_0 : BitVec 32 := 0#32
  let c1_i32 : BitVec 32 := 1#32
  let arg10 : BitVec 32 := Scf.iv c0_i32_0 c1_i32 k1_t1
  let c16_i32_535 : BitVec 32 := 16#32
  let v812 : BitVec 32 := Scalar.muli arg10 c16_i32_535
  let v815 : Index := Scalar.indexCast v812
  ![42, 1, v815.toNat]
def k1_off87 (k1_t1 : Fin k1_t1_loop.trips) : Fin 3 → Nat :=
  let c43_i32 : BitVec 32 := 43#32
  let v820 : Index := Scalar.indexCast c43_i32
  let c0_i32_539 : BitVec 32 := 0#32
  let v821 : Index := Scalar.indexCast c0_i32_539
  let c0_i32_0 : BitVec 32 := 0#32
  let c1_i32 : BitVec 32 := 1#32
  let arg10 : BitVec 32 := Scf.iv c0_i32_0 c1_i32 k1_t1
  let c16_i32_538 : BitVec 32 := 16#32
  let v819 : BitVec 32 := Scalar.muli arg10 c16_i32_538
  let v822 : Index := Scalar.indexCast v819
  ![43, 0, v822.toNat]
def k1_off88 (k1_t1 : Fin k1_t1_loop.trips) : Fin 3 → Nat :=
  let c43_i32_541 : BitVec 32 := 43#32
  let v827 : Index := Scalar.indexCast c43_i32_541
  let c1_i32_542 : BitVec 32 := 1#32
  let v828 : Index := Scalar.indexCast c1_i32_542
  let c0_i32_0 : BitVec 32 := 0#32
  let c1_i32 : BitVec 32 := 1#32
  let arg10 : BitVec 32 := Scf.iv c0_i32_0 c1_i32 k1_t1
  let c16_i32_540 : BitVec 32 := 16#32
  let v826 : BitVec 32 := Scalar.muli arg10 c16_i32_540
  let v829 : Index := Scalar.indexCast v826
  ![43, 1, v829.toNat]
def k1_off89 (k1_t1 : Fin k1_t1_loop.trips) : Fin 3 → Nat :=
  let c44_i32 : BitVec 32 := 44#32
  let v834 : Index := Scalar.indexCast c44_i32
  let c0_i32_544 : BitVec 32 := 0#32
  let v835 : Index := Scalar.indexCast c0_i32_544
  let c0_i32_0 : BitVec 32 := 0#32
  let c1_i32 : BitVec 32 := 1#32
  let arg10 : BitVec 32 := Scf.iv c0_i32_0 c1_i32 k1_t1
  let c16_i32_543 : BitVec 32 := 16#32
  let v833 : BitVec 32 := Scalar.muli arg10 c16_i32_543
  let v836 : Index := Scalar.indexCast v833
  ![44, 0, v836.toNat]
def k1_off90 (k1_t1 : Fin k1_t1_loop.trips) : Fin 3 → Nat :=
  let c44_i32_546 : BitVec 32 := 44#32
  let v841 : Index := Scalar.indexCast c44_i32_546
  let c1_i32_547 : BitVec 32 := 1#32
  let v842 : Index := Scalar.indexCast c1_i32_547
  let c0_i32_0 : BitVec 32 := 0#32
  let c1_i32 : BitVec 32 := 1#32
  let arg10 : BitVec 32 := Scf.iv c0_i32_0 c1_i32 k1_t1
  let c16_i32_545 : BitVec 32 := 16#32
  let v840 : BitVec 32 := Scalar.muli arg10 c16_i32_545
  let v843 : Index := Scalar.indexCast v840
  ![44, 1, v843.toNat]
def k1_off91 (k1_t1 : Fin k1_t1_loop.trips) : Fin 3 → Nat :=
  let c45_i32 : BitVec 32 := 45#32
  let v848 : Index := Scalar.indexCast c45_i32
  let c0_i32_549 : BitVec 32 := 0#32
  let v849 : Index := Scalar.indexCast c0_i32_549
  let c0_i32_0 : BitVec 32 := 0#32
  let c1_i32 : BitVec 32 := 1#32
  let arg10 : BitVec 32 := Scf.iv c0_i32_0 c1_i32 k1_t1
  let c16_i32_548 : BitVec 32 := 16#32
  let v847 : BitVec 32 := Scalar.muli arg10 c16_i32_548
  let v850 : Index := Scalar.indexCast v847
  ![45, 0, v850.toNat]
def k1_off92 (k1_t1 : Fin k1_t1_loop.trips) : Fin 3 → Nat :=
  let c45_i32_551 : BitVec 32 := 45#32
  let v855 : Index := Scalar.indexCast c45_i32_551
  let c1_i32_552 : BitVec 32 := 1#32
  let v856 : Index := Scalar.indexCast c1_i32_552
  let c0_i32_0 : BitVec 32 := 0#32
  let c1_i32 : BitVec 32 := 1#32
  let arg10 : BitVec 32 := Scf.iv c0_i32_0 c1_i32 k1_t1
  let c16_i32_550 : BitVec 32 := 16#32
  let v854 : BitVec 32 := Scalar.muli arg10 c16_i32_550
  let v857 : Index := Scalar.indexCast v854
  ![45, 1, v857.toNat]
def k1_off93 (k1_t1 : Fin k1_t1_loop.trips) : Fin 3 → Nat :=
  let c46_i32 : BitVec 32 := 46#32
  let v862 : Index := Scalar.indexCast c46_i32
  let c0_i32_554 : BitVec 32 := 0#32
  let v863 : Index := Scalar.indexCast c0_i32_554
  let c0_i32_0 : BitVec 32 := 0#32
  let c1_i32 : BitVec 32 := 1#32
  let arg10 : BitVec 32 := Scf.iv c0_i32_0 c1_i32 k1_t1
  let c16_i32_553 : BitVec 32 := 16#32
  let v861 : BitVec 32 := Scalar.muli arg10 c16_i32_553
  let v864 : Index := Scalar.indexCast v861
  ![46, 0, v864.toNat]
def k1_off94 (k1_t1 : Fin k1_t1_loop.trips) : Fin 3 → Nat :=
  let c46_i32_556 : BitVec 32 := 46#32
  let v869 : Index := Scalar.indexCast c46_i32_556
  let c1_i32_557 : BitVec 32 := 1#32
  let v870 : Index := Scalar.indexCast c1_i32_557
  let c0_i32_0 : BitVec 32 := 0#32
  let c1_i32 : BitVec 32 := 1#32
  let arg10 : BitVec 32 := Scf.iv c0_i32_0 c1_i32 k1_t1
  let c16_i32_555 : BitVec 32 := 16#32
  let v868 : BitVec 32 := Scalar.muli arg10 c16_i32_555
  let v871 : Index := Scalar.indexCast v868
  ![46, 1, v871.toNat]
def k1_off95 (k1_t1 : Fin k1_t1_loop.trips) : Fin 3 → Nat :=
  let c47_i32 : BitVec 32 := 47#32
  let v876 : Index := Scalar.indexCast c47_i32
  let c0_i32_559 : BitVec 32 := 0#32
  let v877 : Index := Scalar.indexCast c0_i32_559
  let c0_i32_0 : BitVec 32 := 0#32
  let c1_i32 : BitVec 32 := 1#32
  let arg10 : BitVec 32 := Scf.iv c0_i32_0 c1_i32 k1_t1
  let c16_i32_558 : BitVec 32 := 16#32
  let v875 : BitVec 32 := Scalar.muli arg10 c16_i32_558
  let v878 : Index := Scalar.indexCast v875
  ![47, 0, v878.toNat]
def k1_off96 (k1_t1 : Fin k1_t1_loop.trips) : Fin 3 → Nat :=
  let c47_i32_561 : BitVec 32 := 47#32
  let v883 : Index := Scalar.indexCast c47_i32_561
  let c1_i32_562 : BitVec 32 := 1#32
  let v884 : Index := Scalar.indexCast c1_i32_562
  let c0_i32_0 : BitVec 32 := 0#32
  let c1_i32 : BitVec 32 := 1#32
  let arg10 : BitVec 32 := Scf.iv c0_i32_0 c1_i32 k1_t1
  let c16_i32_560 : BitVec 32 := 16#32
  let v882 : BitVec 32 := Scalar.muli arg10 c16_i32_560
  let v885 : Index := Scalar.indexCast v882
  ![47, 1, v885.toNat]
def k1_off97 (k1_t1 : Fin k1_t1_loop.trips) : Fin 3 → Nat :=
  let c48_i32_564 : BitVec 32 := 48#32
  let v890 : Index := Scalar.indexCast c48_i32_564
  let c0_i32_565 : BitVec 32 := 0#32
  let v891 : Index := Scalar.indexCast c0_i32_565
  let c0_i32_0 : BitVec 32 := 0#32
  let c1_i32 : BitVec 32 := 1#32
  let arg10 : BitVec 32 := Scf.iv c0_i32_0 c1_i32 k1_t1
  let c16_i32_563 : BitVec 32 := 16#32
  let v889 : BitVec 32 := Scalar.muli arg10 c16_i32_563
  let v892 : Index := Scalar.indexCast v889
  ![48, 0, v892.toNat]
def k1_off98 (k1_t1 : Fin k1_t1_loop.trips) : Fin 3 → Nat :=
  let c48_i32_567 : BitVec 32 := 48#32
  let v897 : Index := Scalar.indexCast c48_i32_567
  let c1_i32_568 : BitVec 32 := 1#32
  let v898 : Index := Scalar.indexCast c1_i32_568
  let c0_i32_0 : BitVec 32 := 0#32
  let c1_i32 : BitVec 32 := 1#32
  let arg10 : BitVec 32 := Scf.iv c0_i32_0 c1_i32 k1_t1
  let c16_i32_566 : BitVec 32 := 16#32
  let v896 : BitVec 32 := Scalar.muli arg10 c16_i32_566
  let v899 : Index := Scalar.indexCast v896
  ![48, 1, v899.toNat]
def k1_off99 (k1_t1 : Fin k1_t1_loop.trips) : Fin 3 → Nat :=
  let c49_i32 : BitVec 32 := 49#32
  let v904 : Index := Scalar.indexCast c49_i32
  let c0_i32_570 : BitVec 32 := 0#32
  let v905 : Index := Scalar.indexCast c0_i32_570
  let c0_i32_0 : BitVec 32 := 0#32
  let c1_i32 : BitVec 32 := 1#32
  let arg10 : BitVec 32 := Scf.iv c0_i32_0 c1_i32 k1_t1
  let c16_i32_569 : BitVec 32 := 16#32
  let v903 : BitVec 32 := Scalar.muli arg10 c16_i32_569
  let v906 : Index := Scalar.indexCast v903
  ![49, 0, v906.toNat]
def k1_off100 (k1_t1 : Fin k1_t1_loop.trips) : Fin 3 → Nat :=
  let c49_i32_572 : BitVec 32 := 49#32
  let v911 : Index := Scalar.indexCast c49_i32_572
  let c1_i32_573 : BitVec 32 := 1#32
  let v912 : Index := Scalar.indexCast c1_i32_573
  let c0_i32_0 : BitVec 32 := 0#32
  let c1_i32 : BitVec 32 := 1#32
  let arg10 : BitVec 32 := Scf.iv c0_i32_0 c1_i32 k1_t1
  let c16_i32_571 : BitVec 32 := 16#32
  let v910 : BitVec 32 := Scalar.muli arg10 c16_i32_571
  let v913 : Index := Scalar.indexCast v910
  ![49, 1, v913.toNat]
def k1_off101 (k1_t1 : Fin k1_t1_loop.trips) : Fin 3 → Nat :=
  let c50_i32 : BitVec 32 := 50#32
  let v918 : Index := Scalar.indexCast c50_i32
  let c0_i32_575 : BitVec 32 := 0#32
  let v919 : Index := Scalar.indexCast c0_i32_575
  let c0_i32_0 : BitVec 32 := 0#32
  let c1_i32 : BitVec 32 := 1#32
  let arg10 : BitVec 32 := Scf.iv c0_i32_0 c1_i32 k1_t1
  let c16_i32_574 : BitVec 32 := 16#32
  let v917 : BitVec 32 := Scalar.muli arg10 c16_i32_574
  let v920 : Index := Scalar.indexCast v917
  ![50, 0, v920.toNat]
def k1_off102 (k1_t1 : Fin k1_t1_loop.trips) : Fin 3 → Nat :=
  let c50_i32_577 : BitVec 32 := 50#32
  let v925 : Index := Scalar.indexCast c50_i32_577
  let c1_i32_578 : BitVec 32 := 1#32
  let v926 : Index := Scalar.indexCast c1_i32_578
  let c0_i32_0 : BitVec 32 := 0#32
  let c1_i32 : BitVec 32 := 1#32
  let arg10 : BitVec 32 := Scf.iv c0_i32_0 c1_i32 k1_t1
  let c16_i32_576 : BitVec 32 := 16#32
  let v924 : BitVec 32 := Scalar.muli arg10 c16_i32_576
  let v927 : Index := Scalar.indexCast v924
  ![50, 1, v927.toNat]
def k1_off103 (k1_t1 : Fin k1_t1_loop.trips) : Fin 3 → Nat :=
  let c51_i32 : BitVec 32 := 51#32
  let v932 : Index := Scalar.indexCast c51_i32
  let c0_i32_580 : BitVec 32 := 0#32
  let v933 : Index := Scalar.indexCast c0_i32_580
  let c0_i32_0 : BitVec 32 := 0#32
  let c1_i32 : BitVec 32 := 1#32
  let arg10 : BitVec 32 := Scf.iv c0_i32_0 c1_i32 k1_t1
  let c16_i32_579 : BitVec 32 := 16#32
  let v931 : BitVec 32 := Scalar.muli arg10 c16_i32_579
  let v934 : Index := Scalar.indexCast v931
  ![51, 0, v934.toNat]
def k1_off104 (k1_t1 : Fin k1_t1_loop.trips) : Fin 3 → Nat :=
  let c51_i32_582 : BitVec 32 := 51#32
  let v939 : Index := Scalar.indexCast c51_i32_582
  let c1_i32_583 : BitVec 32 := 1#32
  let v940 : Index := Scalar.indexCast c1_i32_583
  let c0_i32_0 : BitVec 32 := 0#32
  let c1_i32 : BitVec 32 := 1#32
  let arg10 : BitVec 32 := Scf.iv c0_i32_0 c1_i32 k1_t1
  let c16_i32_581 : BitVec 32 := 16#32
  let v938 : BitVec 32 := Scalar.muli arg10 c16_i32_581
  let v941 : Index := Scalar.indexCast v938
  ![51, 1, v941.toNat]
def k1_off105 (k1_t1 : Fin k1_t1_loop.trips) : Fin 3 → Nat :=
  let c52_i32 : BitVec 32 := 52#32
  let v946 : Index := Scalar.indexCast c52_i32
  let c0_i32_585 : BitVec 32 := 0#32
  let v947 : Index := Scalar.indexCast c0_i32_585
  let c0_i32_0 : BitVec 32 := 0#32
  let c1_i32 : BitVec 32 := 1#32
  let arg10 : BitVec 32 := Scf.iv c0_i32_0 c1_i32 k1_t1
  let c16_i32_584 : BitVec 32 := 16#32
  let v945 : BitVec 32 := Scalar.muli arg10 c16_i32_584
  let v948 : Index := Scalar.indexCast v945
  ![52, 0, v948.toNat]
def k1_off106 (k1_t1 : Fin k1_t1_loop.trips) : Fin 3 → Nat :=
  let c52_i32_587 : BitVec 32 := 52#32
  let v953 : Index := Scalar.indexCast c52_i32_587
  let c1_i32_588 : BitVec 32 := 1#32
  let v954 : Index := Scalar.indexCast c1_i32_588
  let c0_i32_0 : BitVec 32 := 0#32
  let c1_i32 : BitVec 32 := 1#32
  let arg10 : BitVec 32 := Scf.iv c0_i32_0 c1_i32 k1_t1
  let c16_i32_586 : BitVec 32 := 16#32
  let v952 : BitVec 32 := Scalar.muli arg10 c16_i32_586
  let v955 : Index := Scalar.indexCast v952
  ![52, 1, v955.toNat]
def k1_off107 (k1_t1 : Fin k1_t1_loop.trips) : Fin 3 → Nat :=
  let c53_i32 : BitVec 32 := 53#32
  let v960 : Index := Scalar.indexCast c53_i32
  let c0_i32_590 : BitVec 32 := 0#32
  let v961 : Index := Scalar.indexCast c0_i32_590
  let c0_i32_0 : BitVec 32 := 0#32
  let c1_i32 : BitVec 32 := 1#32
  let arg10 : BitVec 32 := Scf.iv c0_i32_0 c1_i32 k1_t1
  let c16_i32_589 : BitVec 32 := 16#32
  let v959 : BitVec 32 := Scalar.muli arg10 c16_i32_589
  let v962 : Index := Scalar.indexCast v959
  ![53, 0, v962.toNat]
def k1_off108 (k1_t1 : Fin k1_t1_loop.trips) : Fin 3 → Nat :=
  let c53_i32_592 : BitVec 32 := 53#32
  let v967 : Index := Scalar.indexCast c53_i32_592
  let c1_i32_593 : BitVec 32 := 1#32
  let v968 : Index := Scalar.indexCast c1_i32_593
  let c0_i32_0 : BitVec 32 := 0#32
  let c1_i32 : BitVec 32 := 1#32
  let arg10 : BitVec 32 := Scf.iv c0_i32_0 c1_i32 k1_t1
  let c16_i32_591 : BitVec 32 := 16#32
  let v966 : BitVec 32 := Scalar.muli arg10 c16_i32_591
  let v969 : Index := Scalar.indexCast v966
  ![53, 1, v969.toNat]
def k1_off109 (k1_t1 : Fin k1_t1_loop.trips) : Fin 3 → Nat :=
  let c54_i32 : BitVec 32 := 54#32
  let v974 : Index := Scalar.indexCast c54_i32
  let c0_i32_595 : BitVec 32 := 0#32
  let v975 : Index := Scalar.indexCast c0_i32_595
  let c0_i32_0 : BitVec 32 := 0#32
  let c1_i32 : BitVec 32 := 1#32
  let arg10 : BitVec 32 := Scf.iv c0_i32_0 c1_i32 k1_t1
  let c16_i32_594 : BitVec 32 := 16#32
  let v973 : BitVec 32 := Scalar.muli arg10 c16_i32_594
  let v976 : Index := Scalar.indexCast v973
  ![54, 0, v976.toNat]
def k1_off110 (k1_t1 : Fin k1_t1_loop.trips) : Fin 3 → Nat :=
  let c54_i32_597 : BitVec 32 := 54#32
  let v981 : Index := Scalar.indexCast c54_i32_597
  let c1_i32_598 : BitVec 32 := 1#32
  let v982 : Index := Scalar.indexCast c1_i32_598
  let c0_i32_0 : BitVec 32 := 0#32
  let c1_i32 : BitVec 32 := 1#32
  let arg10 : BitVec 32 := Scf.iv c0_i32_0 c1_i32 k1_t1
  let c16_i32_596 : BitVec 32 := 16#32
  let v980 : BitVec 32 := Scalar.muli arg10 c16_i32_596
  let v983 : Index := Scalar.indexCast v980
  ![54, 1, v983.toNat]
def k1_off111 (k1_t1 : Fin k1_t1_loop.trips) : Fin 3 → Nat :=
  let c55_i32 : BitVec 32 := 55#32
  let v988 : Index := Scalar.indexCast c55_i32
  let c0_i32_600 : BitVec 32 := 0#32
  let v989 : Index := Scalar.indexCast c0_i32_600
  let c0_i32_0 : BitVec 32 := 0#32
  let c1_i32 : BitVec 32 := 1#32
  let arg10 : BitVec 32 := Scf.iv c0_i32_0 c1_i32 k1_t1
  let c16_i32_599 : BitVec 32 := 16#32
  let v987 : BitVec 32 := Scalar.muli arg10 c16_i32_599
  let v990 : Index := Scalar.indexCast v987
  ![55, 0, v990.toNat]
def k1_off112 (k1_t1 : Fin k1_t1_loop.trips) : Fin 3 → Nat :=
  let c55_i32_602 : BitVec 32 := 55#32
  let v995 : Index := Scalar.indexCast c55_i32_602
  let c1_i32_603 : BitVec 32 := 1#32
  let v996 : Index := Scalar.indexCast c1_i32_603
  let c0_i32_0 : BitVec 32 := 0#32
  let c1_i32 : BitVec 32 := 1#32
  let arg10 : BitVec 32 := Scf.iv c0_i32_0 c1_i32 k1_t1
  let c16_i32_601 : BitVec 32 := 16#32
  let v994 : BitVec 32 := Scalar.muli arg10 c16_i32_601
  let v997 : Index := Scalar.indexCast v994
  ![55, 1, v997.toNat]
def k1_off113 (k1_t1 : Fin k1_t1_loop.trips) : Fin 3 → Nat :=
  let c56_i32 : BitVec 32 := 56#32
  let v1002 : Index := Scalar.indexCast c56_i32
  let c0_i32_605 : BitVec 32 := 0#32
  let v1003 : Index := Scalar.indexCast c0_i32_605
  let c0_i32_0 : BitVec 32 := 0#32
  let c1_i32 : BitVec 32 := 1#32
  let arg10 : BitVec 32 := Scf.iv c0_i32_0 c1_i32 k1_t1
  let c16_i32_604 : BitVec 32 := 16#32
  let v1001 : BitVec 32 := Scalar.muli arg10 c16_i32_604
  let v1004 : Index := Scalar.indexCast v1001
  ![56, 0, v1004.toNat]
def k1_off114 (k1_t1 : Fin k1_t1_loop.trips) : Fin 3 → Nat :=
  let c56_i32_607 : BitVec 32 := 56#32
  let v1009 : Index := Scalar.indexCast c56_i32_607
  let c1_i32_608 : BitVec 32 := 1#32
  let v1010 : Index := Scalar.indexCast c1_i32_608
  let c0_i32_0 : BitVec 32 := 0#32
  let c1_i32 : BitVec 32 := 1#32
  let arg10 : BitVec 32 := Scf.iv c0_i32_0 c1_i32 k1_t1
  let c16_i32_606 : BitVec 32 := 16#32
  let v1008 : BitVec 32 := Scalar.muli arg10 c16_i32_606
  let v1011 : Index := Scalar.indexCast v1008
  ![56, 1, v1011.toNat]
def k1_off115 (k1_t1 : Fin k1_t1_loop.trips) : Fin 3 → Nat :=
  let c57_i32 : BitVec 32 := 57#32
  let v1016 : Index := Scalar.indexCast c57_i32
  let c0_i32_610 : BitVec 32 := 0#32
  let v1017 : Index := Scalar.indexCast c0_i32_610
  let c0_i32_0 : BitVec 32 := 0#32
  let c1_i32 : BitVec 32 := 1#32
  let arg10 : BitVec 32 := Scf.iv c0_i32_0 c1_i32 k1_t1
  let c16_i32_609 : BitVec 32 := 16#32
  let v1015 : BitVec 32 := Scalar.muli arg10 c16_i32_609
  let v1018 : Index := Scalar.indexCast v1015
  ![57, 0, v1018.toNat]
def k1_off116 (k1_t1 : Fin k1_t1_loop.trips) : Fin 3 → Nat :=
  let c57_i32_612 : BitVec 32 := 57#32
  let v1023 : Index := Scalar.indexCast c57_i32_612
  let c1_i32_613 : BitVec 32 := 1#32
  let v1024 : Index := Scalar.indexCast c1_i32_613
  let c0_i32_0 : BitVec 32 := 0#32
  let c1_i32 : BitVec 32 := 1#32
  let arg10 : BitVec 32 := Scf.iv c0_i32_0 c1_i32 k1_t1
  let c16_i32_611 : BitVec 32 := 16#32
  let v1022 : BitVec 32 := Scalar.muli arg10 c16_i32_611
  let v1025 : Index := Scalar.indexCast v1022
  ![57, 1, v1025.toNat]
def k1_off117 (k1_t1 : Fin k1_t1_loop.trips) : Fin 3 → Nat :=
  let c58_i32 : BitVec 32 := 58#32
  let v1030 : Index := Scalar.indexCast c58_i32
  let c0_i32_615 : BitVec 32 := 0#32
  let v1031 : Index := Scalar.indexCast c0_i32_615
  let c0_i32_0 : BitVec 32 := 0#32
  let c1_i32 : BitVec 32 := 1#32
  let arg10 : BitVec 32 := Scf.iv c0_i32_0 c1_i32 k1_t1
  let c16_i32_614 : BitVec 32 := 16#32
  let v1029 : BitVec 32 := Scalar.muli arg10 c16_i32_614
  let v1032 : Index := Scalar.indexCast v1029
  ![58, 0, v1032.toNat]
def k1_off118 (k1_t1 : Fin k1_t1_loop.trips) : Fin 3 → Nat :=
  let c58_i32_617 : BitVec 32 := 58#32
  let v1037 : Index := Scalar.indexCast c58_i32_617
  let c1_i32_618 : BitVec 32 := 1#32
  let v1038 : Index := Scalar.indexCast c1_i32_618
  let c0_i32_0 : BitVec 32 := 0#32
  let c1_i32 : BitVec 32 := 1#32
  let arg10 : BitVec 32 := Scf.iv c0_i32_0 c1_i32 k1_t1
  let c16_i32_616 : BitVec 32 := 16#32
  let v1036 : BitVec 32 := Scalar.muli arg10 c16_i32_616
  let v1039 : Index := Scalar.indexCast v1036
  ![58, 1, v1039.toNat]
def k1_off119 (k1_t1 : Fin k1_t1_loop.trips) : Fin 3 → Nat :=
  let c59_i32 : BitVec 32 := 59#32
  let v1044 : Index := Scalar.indexCast c59_i32
  let c0_i32_620 : BitVec 32 := 0#32
  let v1045 : Index := Scalar.indexCast c0_i32_620
  let c0_i32_0 : BitVec 32 := 0#32
  let c1_i32 : BitVec 32 := 1#32
  let arg10 : BitVec 32 := Scf.iv c0_i32_0 c1_i32 k1_t1
  let c16_i32_619 : BitVec 32 := 16#32
  let v1043 : BitVec 32 := Scalar.muli arg10 c16_i32_619
  let v1046 : Index := Scalar.indexCast v1043
  ![59, 0, v1046.toNat]
def k1_off120 (k1_t1 : Fin k1_t1_loop.trips) : Fin 3 → Nat :=
  let c59_i32_622 : BitVec 32 := 59#32
  let v1051 : Index := Scalar.indexCast c59_i32_622
  let c1_i32_623 : BitVec 32 := 1#32
  let v1052 : Index := Scalar.indexCast c1_i32_623
  let c0_i32_0 : BitVec 32 := 0#32
  let c1_i32 : BitVec 32 := 1#32
  let arg10 : BitVec 32 := Scf.iv c0_i32_0 c1_i32 k1_t1
  let c16_i32_621 : BitVec 32 := 16#32
  let v1050 : BitVec 32 := Scalar.muli arg10 c16_i32_621
  let v1053 : Index := Scalar.indexCast v1050
  ![59, 1, v1053.toNat]
def k1_off121 (k1_t1 : Fin k1_t1_loop.trips) : Fin 3 → Nat :=
  let c60_i32 : BitVec 32 := 60#32
  let v1058 : Index := Scalar.indexCast c60_i32
  let c0_i32_625 : BitVec 32 := 0#32
  let v1059 : Index := Scalar.indexCast c0_i32_625
  let c0_i32_0 : BitVec 32 := 0#32
  let c1_i32 : BitVec 32 := 1#32
  let arg10 : BitVec 32 := Scf.iv c0_i32_0 c1_i32 k1_t1
  let c16_i32_624 : BitVec 32 := 16#32
  let v1057 : BitVec 32 := Scalar.muli arg10 c16_i32_624
  let v1060 : Index := Scalar.indexCast v1057
  ![60, 0, v1060.toNat]
def k1_off122 (k1_t1 : Fin k1_t1_loop.trips) : Fin 3 → Nat :=
  let c60_i32_627 : BitVec 32 := 60#32
  let v1065 : Index := Scalar.indexCast c60_i32_627
  let c1_i32_628 : BitVec 32 := 1#32
  let v1066 : Index := Scalar.indexCast c1_i32_628
  let c0_i32_0 : BitVec 32 := 0#32
  let c1_i32 : BitVec 32 := 1#32
  let arg10 : BitVec 32 := Scf.iv c0_i32_0 c1_i32 k1_t1
  let c16_i32_626 : BitVec 32 := 16#32
  let v1064 : BitVec 32 := Scalar.muli arg10 c16_i32_626
  let v1067 : Index := Scalar.indexCast v1064
  ![60, 1, v1067.toNat]
def k1_off123 (k1_t1 : Fin k1_t1_loop.trips) : Fin 3 → Nat :=
  let c61_i32 : BitVec 32 := 61#32
  let v1072 : Index := Scalar.indexCast c61_i32
  let c0_i32_630 : BitVec 32 := 0#32
  let v1073 : Index := Scalar.indexCast c0_i32_630
  let c0_i32_0 : BitVec 32 := 0#32
  let c1_i32 : BitVec 32 := 1#32
  let arg10 : BitVec 32 := Scf.iv c0_i32_0 c1_i32 k1_t1
  let c16_i32_629 : BitVec 32 := 16#32
  let v1071 : BitVec 32 := Scalar.muli arg10 c16_i32_629
  let v1074 : Index := Scalar.indexCast v1071
  ![61, 0, v1074.toNat]
def k1_off124 (k1_t1 : Fin k1_t1_loop.trips) : Fin 3 → Nat :=
  let c61_i32_632 : BitVec 32 := 61#32
  let v1079 : Index := Scalar.indexCast c61_i32_632
  let c1_i32_633 : BitVec 32 := 1#32
  let v1080 : Index := Scalar.indexCast c1_i32_633
  let c0_i32_0 : BitVec 32 := 0#32
  let c1_i32 : BitVec 32 := 1#32
  let arg10 : BitVec 32 := Scf.iv c0_i32_0 c1_i32 k1_t1
  let c16_i32_631 : BitVec 32 := 16#32
  let v1078 : BitVec 32 := Scalar.muli arg10 c16_i32_631
  let v1081 : Index := Scalar.indexCast v1078
  ![61, 1, v1081.toNat]
def k1_off125 (k1_t1 : Fin k1_t1_loop.trips) : Fin 3 → Nat :=
  let c62_i32 : BitVec 32 := 62#32
  let v1086 : Index := Scalar.indexCast c62_i32
  let c0_i32_635 : BitVec 32 := 0#32
  let v1087 : Index := Scalar.indexCast c0_i32_635
  let c0_i32_0 : BitVec 32 := 0#32
  let c1_i32 : BitVec 32 := 1#32
  let arg10 : BitVec 32 := Scf.iv c0_i32_0 c1_i32 k1_t1
  let c16_i32_634 : BitVec 32 := 16#32
  let v1085 : BitVec 32 := Scalar.muli arg10 c16_i32_634
  let v1088 : Index := Scalar.indexCast v1085
  ![62, 0, v1088.toNat]
def k1_off126 (k1_t1 : Fin k1_t1_loop.trips) : Fin 3 → Nat :=
  let c62_i32_637 : BitVec 32 := 62#32
  let v1093 : Index := Scalar.indexCast c62_i32_637
  let c1_i32_638 : BitVec 32 := 1#32
  let v1094 : Index := Scalar.indexCast c1_i32_638
  let c0_i32_0 : BitVec 32 := 0#32
  let c1_i32 : BitVec 32 := 1#32
  let arg10 : BitVec 32 := Scf.iv c0_i32_0 c1_i32 k1_t1
  let c16_i32_636 : BitVec 32 := 16#32
  let v1092 : BitVec 32 := Scalar.muli arg10 c16_i32_636
  let v1095 : Index := Scalar.indexCast v1092
  ![62, 1, v1095.toNat]
def k1_off127 (k1_t1 : Fin k1_t1_loop.trips) : Fin 3 → Nat :=
  let c63_i32 : BitVec 32 := 63#32
  let v1100 : Index := Scalar.indexCast c63_i32
  let c0_i32_640 : BitVec 32 := 0#32
  let v1101 : Index := Scalar.indexCast c0_i32_640
  let c0_i32_0 : BitVec 32 := 0#32
  let c1_i32 : BitVec 32 := 1#32
  let arg10 : BitVec 32 := Scf.iv c0_i32_0 c1_i32 k1_t1
  let c16_i32_639 : BitVec 32 := 16#32
  let v1099 : BitVec 32 := Scalar.muli arg10 c16_i32_639
  let v1102 : Index := Scalar.indexCast v1099
  ![63, 0, v1102.toNat]
def k1_off128 (k1_t1 : Fin k1_t1_loop.trips) : Fin 3 → Nat :=
  let c63_i32_642 : BitVec 32 := 63#32
  let v1107 : Index := Scalar.indexCast c63_i32_642
  let c1_i32_643 : BitVec 32 := 1#32
  let v1108 : Index := Scalar.indexCast c1_i32_643
  let c0_i32_0 : BitVec 32 := 0#32
  let c1_i32 : BitVec 32 := 1#32
  let arg10 : BitVec 32 := Scf.iv c0_i32_0 c1_i32 k1_t1
  let c16_i32_641 : BitVec 32 := 16#32
  let v1106 : BitVec 32 := Scalar.muli arg10 c16_i32_641
  let v1109 : Index := Scalar.indexCast v1106
  ![63, 1, v1109.toNat]
def k1_off129 (k1_t1 : Fin k1_t1_loop.trips) : Fin 3 → Nat :=
  let c64_i32_645 : BitVec 32 := 64#32
  let v1114 : Index := Scalar.indexCast c64_i32_645
  let c0_i32_646 : BitVec 32 := 0#32
  let v1115 : Index := Scalar.indexCast c0_i32_646
  let c0_i32_0 : BitVec 32 := 0#32
  let c1_i32 : BitVec 32 := 1#32
  let arg10 : BitVec 32 := Scf.iv c0_i32_0 c1_i32 k1_t1
  let c16_i32_644 : BitVec 32 := 16#32
  let v1113 : BitVec 32 := Scalar.muli arg10 c16_i32_644
  let v1116 : Index := Scalar.indexCast v1113
  ![64, 0, v1116.toNat]
def k1_off130 (k1_t1 : Fin k1_t1_loop.trips) : Fin 3 → Nat :=
  let c64_i32_648 : BitVec 32 := 64#32
  let v1121 : Index := Scalar.indexCast c64_i32_648
  let c1_i32_649 : BitVec 32 := 1#32
  let v1122 : Index := Scalar.indexCast c1_i32_649
  let c0_i32_0 : BitVec 32 := 0#32
  let c1_i32 : BitVec 32 := 1#32
  let arg10 : BitVec 32 := Scf.iv c0_i32_0 c1_i32 k1_t1
  let c16_i32_647 : BitVec 32 := 16#32
  let v1120 : BitVec 32 := Scalar.muli arg10 c16_i32_647
  let v1123 : Index := Scalar.indexCast v1120
  ![64, 1, v1123.toNat]
def k1_off131 (k1_t1 : Fin k1_t1_loop.trips) : Fin 3 → Nat :=
  let c65_i32 : BitVec 32 := 65#32
  let v1128 : Index := Scalar.indexCast c65_i32
  let c0_i32_651 : BitVec 32 := 0#32
  let v1129 : Index := Scalar.indexCast c0_i32_651
  let c0_i32_0 : BitVec 32 := 0#32
  let c1_i32 : BitVec 32 := 1#32
  let arg10 : BitVec 32 := Scf.iv c0_i32_0 c1_i32 k1_t1
  let c16_i32_650 : BitVec 32 := 16#32
  let v1127 : BitVec 32 := Scalar.muli arg10 c16_i32_650
  let v1130 : Index := Scalar.indexCast v1127
  ![65, 0, v1130.toNat]
def k1_off132 (k1_t1 : Fin k1_t1_loop.trips) : Fin 3 → Nat :=
  let c65_i32_653 : BitVec 32 := 65#32
  let v1135 : Index := Scalar.indexCast c65_i32_653
  let c1_i32_654 : BitVec 32 := 1#32
  let v1136 : Index := Scalar.indexCast c1_i32_654
  let c0_i32_0 : BitVec 32 := 0#32
  let c1_i32 : BitVec 32 := 1#32
  let arg10 : BitVec 32 := Scf.iv c0_i32_0 c1_i32 k1_t1
  let c16_i32_652 : BitVec 32 := 16#32
  let v1134 : BitVec 32 := Scalar.muli arg10 c16_i32_652
  let v1137 : Index := Scalar.indexCast v1134
  ![65, 1, v1137.toNat]
def k1_off133 (k1_t1 : Fin k1_t1_loop.trips) : Fin 3 → Nat :=
  let c66_i32 : BitVec 32 := 66#32
  let v1142 : Index := Scalar.indexCast c66_i32
  let c0_i32_656 : BitVec 32 := 0#32
  let v1143 : Index := Scalar.indexCast c0_i32_656
  let c0_i32_0 : BitVec 32 := 0#32
  let c1_i32 : BitVec 32 := 1#32
  let arg10 : BitVec 32 := Scf.iv c0_i32_0 c1_i32 k1_t1
  let c16_i32_655 : BitVec 32 := 16#32
  let v1141 : BitVec 32 := Scalar.muli arg10 c16_i32_655
  let v1144 : Index := Scalar.indexCast v1141
  ![66, 0, v1144.toNat]
def k1_off134 (k1_t1 : Fin k1_t1_loop.trips) : Fin 3 → Nat :=
  let c66_i32_658 : BitVec 32 := 66#32
  let v1149 : Index := Scalar.indexCast c66_i32_658
  let c1_i32_659 : BitVec 32 := 1#32
  let v1150 : Index := Scalar.indexCast c1_i32_659
  let c0_i32_0 : BitVec 32 := 0#32
  let c1_i32 : BitVec 32 := 1#32
  let arg10 : BitVec 32 := Scf.iv c0_i32_0 c1_i32 k1_t1
  let c16_i32_657 : BitVec 32 := 16#32
  let v1148 : BitVec 32 := Scalar.muli arg10 c16_i32_657
  let v1151 : Index := Scalar.indexCast v1148
  ![66, 1, v1151.toNat]
def k1_off135 (k1_t1 : Fin k1_t1_loop.trips) : Fin 3 → Nat :=
  let c67_i32 : BitVec 32 := 67#32
  let v1156 : Index := Scalar.indexCast c67_i32
  let c0_i32_661 : BitVec 32 := 0#32
  let v1157 : Index := Scalar.indexCast c0_i32_661
  let c0_i32_0 : BitVec 32 := 0#32
  let c1_i32 : BitVec 32 := 1#32
  let arg10 : BitVec 32 := Scf.iv c0_i32_0 c1_i32 k1_t1
  let c16_i32_660 : BitVec 32 := 16#32
  let v1155 : BitVec 32 := Scalar.muli arg10 c16_i32_660
  let v1158 : Index := Scalar.indexCast v1155
  ![67, 0, v1158.toNat]
def k1_off136 (k1_t1 : Fin k1_t1_loop.trips) : Fin 3 → Nat :=
  let c67_i32_663 : BitVec 32 := 67#32
  let v1163 : Index := Scalar.indexCast c67_i32_663
  let c1_i32_664 : BitVec 32 := 1#32
  let v1164 : Index := Scalar.indexCast c1_i32_664
  let c0_i32_0 : BitVec 32 := 0#32
  let c1_i32 : BitVec 32 := 1#32
  let arg10 : BitVec 32 := Scf.iv c0_i32_0 c1_i32 k1_t1
  let c16_i32_662 : BitVec 32 := 16#32
  let v1162 : BitVec 32 := Scalar.muli arg10 c16_i32_662
  let v1165 : Index := Scalar.indexCast v1162
  ![67, 1, v1165.toNat]
def k1_off137 (k1_t1 : Fin k1_t1_loop.trips) : Fin 3 → Nat :=
  let c68_i32 : BitVec 32 := 68#32
  let v1170 : Index := Scalar.indexCast c68_i32
  let c0_i32_666 : BitVec 32 := 0#32
  let v1171 : Index := Scalar.indexCast c0_i32_666
  let c0_i32_0 : BitVec 32 := 0#32
  let c1_i32 : BitVec 32 := 1#32
  let arg10 : BitVec 32 := Scf.iv c0_i32_0 c1_i32 k1_t1
  let c16_i32_665 : BitVec 32 := 16#32
  let v1169 : BitVec 32 := Scalar.muli arg10 c16_i32_665
  let v1172 : Index := Scalar.indexCast v1169
  ![68, 0, v1172.toNat]
def k1_off138 (k1_t1 : Fin k1_t1_loop.trips) : Fin 3 → Nat :=
  let c68_i32_668 : BitVec 32 := 68#32
  let v1177 : Index := Scalar.indexCast c68_i32_668
  let c1_i32_669 : BitVec 32 := 1#32
  let v1178 : Index := Scalar.indexCast c1_i32_669
  let c0_i32_0 : BitVec 32 := 0#32
  let c1_i32 : BitVec 32 := 1#32
  let arg10 : BitVec 32 := Scf.iv c0_i32_0 c1_i32 k1_t1
  let c16_i32_667 : BitVec 32 := 16#32
  let v1176 : BitVec 32 := Scalar.muli arg10 c16_i32_667
  let v1179 : Index := Scalar.indexCast v1176
  ![68, 1, v1179.toNat]
def k1_off139 (k1_t1 : Fin k1_t1_loop.trips) : Fin 3 → Nat :=
  let c69_i32 : BitVec 32 := 69#32
  let v1184 : Index := Scalar.indexCast c69_i32
  let c0_i32_671 : BitVec 32 := 0#32
  let v1185 : Index := Scalar.indexCast c0_i32_671
  let c0_i32_0 : BitVec 32 := 0#32
  let c1_i32 : BitVec 32 := 1#32
  let arg10 : BitVec 32 := Scf.iv c0_i32_0 c1_i32 k1_t1
  let c16_i32_670 : BitVec 32 := 16#32
  let v1183 : BitVec 32 := Scalar.muli arg10 c16_i32_670
  let v1186 : Index := Scalar.indexCast v1183
  ![69, 0, v1186.toNat]
def k1_off140 (k1_t1 : Fin k1_t1_loop.trips) : Fin 3 → Nat :=
  let c69_i32_673 : BitVec 32 := 69#32
  let v1191 : Index := Scalar.indexCast c69_i32_673
  let c1_i32_674 : BitVec 32 := 1#32
  let v1192 : Index := Scalar.indexCast c1_i32_674
  let c0_i32_0 : BitVec 32 := 0#32
  let c1_i32 : BitVec 32 := 1#32
  let arg10 : BitVec 32 := Scf.iv c0_i32_0 c1_i32 k1_t1
  let c16_i32_672 : BitVec 32 := 16#32
  let v1190 : BitVec 32 := Scalar.muli arg10 c16_i32_672
  let v1193 : Index := Scalar.indexCast v1190
  ![69, 1, v1193.toNat]
def k1_off141 (k1_t1 : Fin k1_t1_loop.trips) : Fin 3 → Nat :=
  let c70_i32 : BitVec 32 := 70#32
  let v1198 : Index := Scalar.indexCast c70_i32
  let c0_i32_676 : BitVec 32 := 0#32
  let v1199 : Index := Scalar.indexCast c0_i32_676
  let c0_i32_0 : BitVec 32 := 0#32
  let c1_i32 : BitVec 32 := 1#32
  let arg10 : BitVec 32 := Scf.iv c0_i32_0 c1_i32 k1_t1
  let c16_i32_675 : BitVec 32 := 16#32
  let v1197 : BitVec 32 := Scalar.muli arg10 c16_i32_675
  let v1200 : Index := Scalar.indexCast v1197
  ![70, 0, v1200.toNat]
def k1_off142 (k1_t1 : Fin k1_t1_loop.trips) : Fin 3 → Nat :=
  let c70_i32_678 : BitVec 32 := 70#32
  let v1205 : Index := Scalar.indexCast c70_i32_678
  let c1_i32_679 : BitVec 32 := 1#32
  let v1206 : Index := Scalar.indexCast c1_i32_679
  let c0_i32_0 : BitVec 32 := 0#32
  let c1_i32 : BitVec 32 := 1#32
  let arg10 : BitVec 32 := Scf.iv c0_i32_0 c1_i32 k1_t1
  let c16_i32_677 : BitVec 32 := 16#32
  let v1204 : BitVec 32 := Scalar.muli arg10 c16_i32_677
  let v1207 : Index := Scalar.indexCast v1204
  ![70, 1, v1207.toNat]
def k1_off143 (k1_t1 : Fin k1_t1_loop.trips) : Fin 3 → Nat :=
  let c71_i32 : BitVec 32 := 71#32
  let v1212 : Index := Scalar.indexCast c71_i32
  let c0_i32_681 : BitVec 32 := 0#32
  let v1213 : Index := Scalar.indexCast c0_i32_681
  let c0_i32_0 : BitVec 32 := 0#32
  let c1_i32 : BitVec 32 := 1#32
  let arg10 : BitVec 32 := Scf.iv c0_i32_0 c1_i32 k1_t1
  let c16_i32_680 : BitVec 32 := 16#32
  let v1211 : BitVec 32 := Scalar.muli arg10 c16_i32_680
  let v1214 : Index := Scalar.indexCast v1211
  ![71, 0, v1214.toNat]
def k1_off144 (k1_t1 : Fin k1_t1_loop.trips) : Fin 3 → Nat :=
  let c71_i32_683 : BitVec 32 := 71#32
  let v1219 : Index := Scalar.indexCast c71_i32_683
  let c1_i32_684 : BitVec 32 := 1#32
  let v1220 : Index := Scalar.indexCast c1_i32_684
  let c0_i32_0 : BitVec 32 := 0#32
  let c1_i32 : BitVec 32 := 1#32
  let arg10 : BitVec 32 := Scf.iv c0_i32_0 c1_i32 k1_t1
  let c16_i32_682 : BitVec 32 := 16#32
  let v1218 : BitVec 32 := Scalar.muli arg10 c16_i32_682
  let v1221 : Index := Scalar.indexCast v1218
  ![71, 1, v1221.toNat]
def k1_off145 (k1_t1 : Fin k1_t1_loop.trips) : Fin 3 → Nat :=
  let c72_i32 : BitVec 32 := 72#32
  let v1226 : Index := Scalar.indexCast c72_i32
  let c0_i32_686 : BitVec 32 := 0#32
  let v1227 : Index := Scalar.indexCast c0_i32_686
  let c0_i32_0 : BitVec 32 := 0#32
  let c1_i32 : BitVec 32 := 1#32
  let arg10 : BitVec 32 := Scf.iv c0_i32_0 c1_i32 k1_t1
  let c16_i32_685 : BitVec 32 := 16#32
  let v1225 : BitVec 32 := Scalar.muli arg10 c16_i32_685
  let v1228 : Index := Scalar.indexCast v1225
  ![72, 0, v1228.toNat]
def k1_off146 (k1_t1 : Fin k1_t1_loop.trips) : Fin 3 → Nat :=
  let c72_i32_688 : BitVec 32 := 72#32
  let v1233 : Index := Scalar.indexCast c72_i32_688
  let c1_i32_689 : BitVec 32 := 1#32
  let v1234 : Index := Scalar.indexCast c1_i32_689
  let c0_i32_0 : BitVec 32 := 0#32
  let c1_i32 : BitVec 32 := 1#32
  let arg10 : BitVec 32 := Scf.iv c0_i32_0 c1_i32 k1_t1
  let c16_i32_687 : BitVec 32 := 16#32
  let v1232 : BitVec 32 := Scalar.muli arg10 c16_i32_687
  let v1235 : Index := Scalar.indexCast v1232
  ![72, 1, v1235.toNat]
def k1_off147 (k1_t1 : Fin k1_t1_loop.trips) : Fin 3 → Nat :=
  let c73_i32 : BitVec 32 := 73#32
  let v1240 : Index := Scalar.indexCast c73_i32
  let c0_i32_691 : BitVec 32 := 0#32
  let v1241 : Index := Scalar.indexCast c0_i32_691
  let c0_i32_0 : BitVec 32 := 0#32
  let c1_i32 : BitVec 32 := 1#32
  let arg10 : BitVec 32 := Scf.iv c0_i32_0 c1_i32 k1_t1
  let c16_i32_690 : BitVec 32 := 16#32
  let v1239 : BitVec 32 := Scalar.muli arg10 c16_i32_690
  let v1242 : Index := Scalar.indexCast v1239
  ![73, 0, v1242.toNat]
def k1_off148 (k1_t1 : Fin k1_t1_loop.trips) : Fin 3 → Nat :=
  let c73_i32_693 : BitVec 32 := 73#32
  let v1247 : Index := Scalar.indexCast c73_i32_693
  let c1_i32_694 : BitVec 32 := 1#32
  let v1248 : Index := Scalar.indexCast c1_i32_694
  let c0_i32_0 : BitVec 32 := 0#32
  let c1_i32 : BitVec 32 := 1#32
  let arg10 : BitVec 32 := Scf.iv c0_i32_0 c1_i32 k1_t1
  let c16_i32_692 : BitVec 32 := 16#32
  let v1246 : BitVec 32 := Scalar.muli arg10 c16_i32_692
  let v1249 : Index := Scalar.indexCast v1246
  ![73, 1, v1249.toNat]
def k1_off149 (k1_t1 : Fin k1_t1_loop.trips) : Fin 3 → Nat :=
  let c74_i32 : BitVec 32 := 74#32
  let v1254 : Index := Scalar.indexCast c74_i32
  let c0_i32_696 : BitVec 32 := 0#32
  let v1255 : Index := Scalar.indexCast c0_i32_696
  let c0_i32_0 : BitVec 32 := 0#32
  let c1_i32 : BitVec 32 := 1#32
  let arg10 : BitVec 32 := Scf.iv c0_i32_0 c1_i32 k1_t1
  let c16_i32_695 : BitVec 32 := 16#32
  let v1253 : BitVec 32 := Scalar.muli arg10 c16_i32_695
  let v1256 : Index := Scalar.indexCast v1253
  ![74, 0, v1256.toNat]
def k1_off150 (k1_t1 : Fin k1_t1_loop.trips) : Fin 3 → Nat :=
  let c74_i32_698 : BitVec 32 := 74#32
  let v1261 : Index := Scalar.indexCast c74_i32_698
  let c1_i32_699 : BitVec 32 := 1#32
  let v1262 : Index := Scalar.indexCast c1_i32_699
  let c0_i32_0 : BitVec 32 := 0#32
  let c1_i32 : BitVec 32 := 1#32
  let arg10 : BitVec 32 := Scf.iv c0_i32_0 c1_i32 k1_t1
  let c16_i32_697 : BitVec 32 := 16#32
  let v1260 : BitVec 32 := Scalar.muli arg10 c16_i32_697
  let v1263 : Index := Scalar.indexCast v1260
  ![74, 1, v1263.toNat]
def k1_off151 (k1_t1 : Fin k1_t1_loop.trips) : Fin 3 → Nat :=
  let c75_i32 : BitVec 32 := 75#32
  let v1268 : Index := Scalar.indexCast c75_i32
  let c0_i32_701 : BitVec 32 := 0#32
  let v1269 : Index := Scalar.indexCast c0_i32_701
  let c0_i32_0 : BitVec 32 := 0#32
  let c1_i32 : BitVec 32 := 1#32
  let arg10 : BitVec 32 := Scf.iv c0_i32_0 c1_i32 k1_t1
  let c16_i32_700 : BitVec 32 := 16#32
  let v1267 : BitVec 32 := Scalar.muli arg10 c16_i32_700
  let v1270 : Index := Scalar.indexCast v1267
  ![75, 0, v1270.toNat]
def k1_off152 (k1_t1 : Fin k1_t1_loop.trips) : Fin 3 → Nat :=
  let c75_i32_703 : BitVec 32 := 75#32
  let v1275 : Index := Scalar.indexCast c75_i32_703
  let c1_i32_704 : BitVec 32 := 1#32
  let v1276 : Index := Scalar.indexCast c1_i32_704
  let c0_i32_0 : BitVec 32 := 0#32
  let c1_i32 : BitVec 32 := 1#32
  let arg10 : BitVec 32 := Scf.iv c0_i32_0 c1_i32 k1_t1
  let c16_i32_702 : BitVec 32 := 16#32
  let v1274 : BitVec 32 := Scalar.muli arg10 c16_i32_702
  let v1277 : Index := Scalar.indexCast v1274
  ![75, 1, v1277.toNat]
def k1_off153 (k1_t1 : Fin k1_t1_loop.trips) : Fin 3 → Nat :=
  let c76_i32 : BitVec 32 := 76#32
  let v1282 : Index := Scalar.indexCast c76_i32
  let c0_i32_706 : BitVec 32 := 0#32
  let v1283 : Index := Scalar.indexCast c0_i32_706
  let c0_i32_0 : BitVec 32 := 0#32
  let c1_i32 : BitVec 32 := 1#32
  let arg10 : BitVec 32 := Scf.iv c0_i32_0 c1_i32 k1_t1
  let c16_i32_705 : BitVec 32 := 16#32
  let v1281 : BitVec 32 := Scalar.muli arg10 c16_i32_705
  let v1284 : Index := Scalar.indexCast v1281
  ![76, 0, v1284.toNat]
def k1_off154 (k1_t1 : Fin k1_t1_loop.trips) : Fin 3 → Nat :=
  let c76_i32_708 : BitVec 32 := 76#32
  let v1289 : Index := Scalar.indexCast c76_i32_708
  let c1_i32_709 : BitVec 32 := 1#32
  let v1290 : Index := Scalar.indexCast c1_i32_709
  let c0_i32_0 : BitVec 32 := 0#32
  let c1_i32 : BitVec 32 := 1#32
  let arg10 : BitVec 32 := Scf.iv c0_i32_0 c1_i32 k1_t1
  let c16_i32_707 : BitVec 32 := 16#32
  let v1288 : BitVec 32 := Scalar.muli arg10 c16_i32_707
  let v1291 : Index := Scalar.indexCast v1288
  ![76, 1, v1291.toNat]
def k1_off155 (k1_t1 : Fin k1_t1_loop.trips) : Fin 3 → Nat :=
  let c77_i32 : BitVec 32 := 77#32
  let v1296 : Index := Scalar.indexCast c77_i32
  let c0_i32_711 : BitVec 32 := 0#32
  let v1297 : Index := Scalar.indexCast c0_i32_711
  let c0_i32_0 : BitVec 32 := 0#32
  let c1_i32 : BitVec 32 := 1#32
  let arg10 : BitVec 32 := Scf.iv c0_i32_0 c1_i32 k1_t1
  let c16_i32_710 : BitVec 32 := 16#32
  let v1295 : BitVec 32 := Scalar.muli arg10 c16_i32_710
  let v1298 : Index := Scalar.indexCast v1295
  ![77, 0, v1298.toNat]
def k1_off156 (k1_t1 : Fin k1_t1_loop.trips) : Fin 3 → Nat :=
  let c77_i32_713 : BitVec 32 := 77#32
  let v1303 : Index := Scalar.indexCast c77_i32_713
  let c1_i32_714 : BitVec 32 := 1#32
  let v1304 : Index := Scalar.indexCast c1_i32_714
  let c0_i32_0 : BitVec 32 := 0#32
  let c1_i32 : BitVec 32 := 1#32
  let arg10 : BitVec 32 := Scf.iv c0_i32_0 c1_i32 k1_t1
  let c16_i32_712 : BitVec 32 := 16#32
  let v1302 : BitVec 32 := Scalar.muli arg10 c16_i32_712
  let v1305 : Index := Scalar.indexCast v1302
  ![77, 1, v1305.toNat]
def k1_off157 (k1_t1 : Fin k1_t1_loop.trips) : Fin 3 → Nat :=
  let c78_i32 : BitVec 32 := 78#32
  let v1310 : Index := Scalar.indexCast c78_i32
  let c0_i32_716 : BitVec 32 := 0#32
  let v1311 : Index := Scalar.indexCast c0_i32_716
  let c0_i32_0 : BitVec 32 := 0#32
  let c1_i32 : BitVec 32 := 1#32
  let arg10 : BitVec 32 := Scf.iv c0_i32_0 c1_i32 k1_t1
  let c16_i32_715 : BitVec 32 := 16#32
  let v1309 : BitVec 32 := Scalar.muli arg10 c16_i32_715
  let v1312 : Index := Scalar.indexCast v1309
  ![78, 0, v1312.toNat]
def k1_off158 (k1_t1 : Fin k1_t1_loop.trips) : Fin 3 → Nat :=
  let c78_i32_718 : BitVec 32 := 78#32
  let v1317 : Index := Scalar.indexCast c78_i32_718
  let c1_i32_719 : BitVec 32 := 1#32
  let v1318 : Index := Scalar.indexCast c1_i32_719
  let c0_i32_0 : BitVec 32 := 0#32
  let c1_i32 : BitVec 32 := 1#32
  let arg10 : BitVec 32 := Scf.iv c0_i32_0 c1_i32 k1_t1
  let c16_i32_717 : BitVec 32 := 16#32
  let v1316 : BitVec 32 := Scalar.muli arg10 c16_i32_717
  let v1319 : Index := Scalar.indexCast v1316
  ![78, 1, v1319.toNat]
def k1_off159 (k1_t1 : Fin k1_t1_loop.trips) : Fin 3 → Nat :=
  let c79_i32 : BitVec 32 := 79#32
  let v1324 : Index := Scalar.indexCast c79_i32
  let c0_i32_721 : BitVec 32 := 0#32
  let v1325 : Index := Scalar.indexCast c0_i32_721
  let c0_i32_0 : BitVec 32 := 0#32
  let c1_i32 : BitVec 32 := 1#32
  let arg10 : BitVec 32 := Scf.iv c0_i32_0 c1_i32 k1_t1
  let c16_i32_720 : BitVec 32 := 16#32
  let v1323 : BitVec 32 := Scalar.muli arg10 c16_i32_720
  let v1326 : Index := Scalar.indexCast v1323
  ![79, 0, v1326.toNat]
def k1_off160 (k1_t1 : Fin k1_t1_loop.trips) : Fin 3 → Nat :=
  let c79_i32_723 : BitVec 32 := 79#32
  let v1331 : Index := Scalar.indexCast c79_i32_723
  let c1_i32_724 : BitVec 32 := 1#32
  let v1332 : Index := Scalar.indexCast c1_i32_724
  let c0_i32_0 : BitVec 32 := 0#32
  let c1_i32 : BitVec 32 := 1#32
  let arg10 : BitVec 32 := Scf.iv c0_i32_0 c1_i32 k1_t1
  let c16_i32_722 : BitVec 32 := 16#32
  let v1330 : BitVec 32 := Scalar.muli arg10 c16_i32_722
  let v1333 : Index := Scalar.indexCast v1330
  ![79, 1, v1333.toNat]
def k1_off161 (k1_t1 : Fin k1_t1_loop.trips) : Fin 3 → Nat :=
  let c80_i32_726 : BitVec 32 := 80#32
  let v1338 : Index := Scalar.indexCast c80_i32_726
  let c0_i32_727 : BitVec 32 := 0#32
  let v1339 : Index := Scalar.indexCast c0_i32_727
  let c0_i32_0 : BitVec 32 := 0#32
  let c1_i32 : BitVec 32 := 1#32
  let arg10 : BitVec 32 := Scf.iv c0_i32_0 c1_i32 k1_t1
  let c16_i32_725 : BitVec 32 := 16#32
  let v1337 : BitVec 32 := Scalar.muli arg10 c16_i32_725
  let v1340 : Index := Scalar.indexCast v1337
  ![80, 0, v1340.toNat]
def k1_off162 (k1_t1 : Fin k1_t1_loop.trips) : Fin 3 → Nat :=
  let c80_i32_729 : BitVec 32 := 80#32
  let v1345 : Index := Scalar.indexCast c80_i32_729
  let c1_i32_730 : BitVec 32 := 1#32
  let v1346 : Index := Scalar.indexCast c1_i32_730
  let c0_i32_0 : BitVec 32 := 0#32
  let c1_i32 : BitVec 32 := 1#32
  let arg10 : BitVec 32 := Scf.iv c0_i32_0 c1_i32 k1_t1
  let c16_i32_728 : BitVec 32 := 16#32
  let v1344 : BitVec 32 := Scalar.muli arg10 c16_i32_728
  let v1347 : Index := Scalar.indexCast v1344
  ![80, 1, v1347.toNat]
def k1_off163 (k1_t1 : Fin k1_t1_loop.trips) : Fin 3 → Nat :=
  let c81_i32 : BitVec 32 := 81#32
  let v1352 : Index := Scalar.indexCast c81_i32
  let c0_i32_732 : BitVec 32 := 0#32
  let v1353 : Index := Scalar.indexCast c0_i32_732
  let c0_i32_0 : BitVec 32 := 0#32
  let c1_i32 : BitVec 32 := 1#32
  let arg10 : BitVec 32 := Scf.iv c0_i32_0 c1_i32 k1_t1
  let c16_i32_731 : BitVec 32 := 16#32
  let v1351 : BitVec 32 := Scalar.muli arg10 c16_i32_731
  let v1354 : Index := Scalar.indexCast v1351
  ![81, 0, v1354.toNat]
def k1_off164 (k1_t1 : Fin k1_t1_loop.trips) : Fin 3 → Nat :=
  let c81_i32_734 : BitVec 32 := 81#32
  let v1359 : Index := Scalar.indexCast c81_i32_734
  let c1_i32_735 : BitVec 32 := 1#32
  let v1360 : Index := Scalar.indexCast c1_i32_735
  let c0_i32_0 : BitVec 32 := 0#32
  let c1_i32 : BitVec 32 := 1#32
  let arg10 : BitVec 32 := Scf.iv c0_i32_0 c1_i32 k1_t1
  let c16_i32_733 : BitVec 32 := 16#32
  let v1358 : BitVec 32 := Scalar.muli arg10 c16_i32_733
  let v1361 : Index := Scalar.indexCast v1358
  ![81, 1, v1361.toNat]
def k1_off165 (k1_t1 : Fin k1_t1_loop.trips) : Fin 3 → Nat :=
  let c82_i32 : BitVec 32 := 82#32
  let v1366 : Index := Scalar.indexCast c82_i32
  let c0_i32_737 : BitVec 32 := 0#32
  let v1367 : Index := Scalar.indexCast c0_i32_737
  let c0_i32_0 : BitVec 32 := 0#32
  let c1_i32 : BitVec 32 := 1#32
  let arg10 : BitVec 32 := Scf.iv c0_i32_0 c1_i32 k1_t1
  let c16_i32_736 : BitVec 32 := 16#32
  let v1365 : BitVec 32 := Scalar.muli arg10 c16_i32_736
  let v1368 : Index := Scalar.indexCast v1365
  ![82, 0, v1368.toNat]
def k1_off166 (k1_t1 : Fin k1_t1_loop.trips) : Fin 3 → Nat :=
  let c82_i32_739 : BitVec 32 := 82#32
  let v1373 : Index := Scalar.indexCast c82_i32_739
  let c1_i32_740 : BitVec 32 := 1#32
  let v1374 : Index := Scalar.indexCast c1_i32_740
  let c0_i32_0 : BitVec 32 := 0#32
  let c1_i32 : BitVec 32 := 1#32
  let arg10 : BitVec 32 := Scf.iv c0_i32_0 c1_i32 k1_t1
  let c16_i32_738 : BitVec 32 := 16#32
  let v1372 : BitVec 32 := Scalar.muli arg10 c16_i32_738
  let v1375 : Index := Scalar.indexCast v1372
  ![82, 1, v1375.toNat]
def k1_off167 (k1_t1 : Fin k1_t1_loop.trips) : Fin 3 → Nat :=
  let c83_i32 : BitVec 32 := 83#32
  let v1380 : Index := Scalar.indexCast c83_i32
  let c0_i32_742 : BitVec 32 := 0#32
  let v1381 : Index := Scalar.indexCast c0_i32_742
  let c0_i32_0 : BitVec 32 := 0#32
  let c1_i32 : BitVec 32 := 1#32
  let arg10 : BitVec 32 := Scf.iv c0_i32_0 c1_i32 k1_t1
  let c16_i32_741 : BitVec 32 := 16#32
  let v1379 : BitVec 32 := Scalar.muli arg10 c16_i32_741
  let v1382 : Index := Scalar.indexCast v1379
  ![83, 0, v1382.toNat]
def k1_off168 (k1_t1 : Fin k1_t1_loop.trips) : Fin 3 → Nat :=
  let c83_i32_744 : BitVec 32 := 83#32
  let v1387 : Index := Scalar.indexCast c83_i32_744
  let c1_i32_745 : BitVec 32 := 1#32
  let v1388 : Index := Scalar.indexCast c1_i32_745
  let c0_i32_0 : BitVec 32 := 0#32
  let c1_i32 : BitVec 32 := 1#32
  let arg10 : BitVec 32 := Scf.iv c0_i32_0 c1_i32 k1_t1
  let c16_i32_743 : BitVec 32 := 16#32
  let v1386 : BitVec 32 := Scalar.muli arg10 c16_i32_743
  let v1389 : Index := Scalar.indexCast v1386
  ![83, 1, v1389.toNat]
def k1_off169 (k1_t1 : Fin k1_t1_loop.trips) : Fin 3 → Nat :=
  let c84_i32 : BitVec 32 := 84#32
  let v1394 : Index := Scalar.indexCast c84_i32
  let c0_i32_747 : BitVec 32 := 0#32
  let v1395 : Index := Scalar.indexCast c0_i32_747
  let c0_i32_0 : BitVec 32 := 0#32
  let c1_i32 : BitVec 32 := 1#32
  let arg10 : BitVec 32 := Scf.iv c0_i32_0 c1_i32 k1_t1
  let c16_i32_746 : BitVec 32 := 16#32
  let v1393 : BitVec 32 := Scalar.muli arg10 c16_i32_746
  let v1396 : Index := Scalar.indexCast v1393
  ![84, 0, v1396.toNat]
def k1_off170 (k1_t1 : Fin k1_t1_loop.trips) : Fin 3 → Nat :=
  let c84_i32_749 : BitVec 32 := 84#32
  let v1401 : Index := Scalar.indexCast c84_i32_749
  let c1_i32_750 : BitVec 32 := 1#32
  let v1402 : Index := Scalar.indexCast c1_i32_750
  let c0_i32_0 : BitVec 32 := 0#32
  let c1_i32 : BitVec 32 := 1#32
  let arg10 : BitVec 32 := Scf.iv c0_i32_0 c1_i32 k1_t1
  let c16_i32_748 : BitVec 32 := 16#32
  let v1400 : BitVec 32 := Scalar.muli arg10 c16_i32_748
  let v1403 : Index := Scalar.indexCast v1400
  ![84, 1, v1403.toNat]
def k1_off171 (k1_t1 : Fin k1_t1_loop.trips) : Fin 3 → Nat :=
  let c85_i32 : BitVec 32 := 85#32
  let v1408 : Index := Scalar.indexCast c85_i32
  let c0_i32_752 : BitVec 32 := 0#32
  let v1409 : Index := Scalar.indexCast c0_i32_752
  let c0_i32_0 : BitVec 32 := 0#32
  let c1_i32 : BitVec 32 := 1#32
  let arg10 : BitVec 32 := Scf.iv c0_i32_0 c1_i32 k1_t1
  let c16_i32_751 : BitVec 32 := 16#32
  let v1407 : BitVec 32 := Scalar.muli arg10 c16_i32_751
  let v1410 : Index := Scalar.indexCast v1407
  ![85, 0, v1410.toNat]
def k1_off172 (k1_t1 : Fin k1_t1_loop.trips) : Fin 3 → Nat :=
  let c85_i32_754 : BitVec 32 := 85#32
  let v1415 : Index := Scalar.indexCast c85_i32_754
  let c1_i32_755 : BitVec 32 := 1#32
  let v1416 : Index := Scalar.indexCast c1_i32_755
  let c0_i32_0 : BitVec 32 := 0#32
  let c1_i32 : BitVec 32 := 1#32
  let arg10 : BitVec 32 := Scf.iv c0_i32_0 c1_i32 k1_t1
  let c16_i32_753 : BitVec 32 := 16#32
  let v1414 : BitVec 32 := Scalar.muli arg10 c16_i32_753
  let v1417 : Index := Scalar.indexCast v1414
  ![85, 1, v1417.toNat]
def k1_off173 (k1_t1 : Fin k1_t1_loop.trips) : Fin 3 → Nat :=
  let c86_i32 : BitVec 32 := 86#32
  let v1422 : Index := Scalar.indexCast c86_i32
  let c0_i32_757 : BitVec 32 := 0#32
  let v1423 : Index := Scalar.indexCast c0_i32_757
  let c0_i32_0 : BitVec 32 := 0#32
  let c1_i32 : BitVec 32 := 1#32
  let arg10 : BitVec 32 := Scf.iv c0_i32_0 c1_i32 k1_t1
  let c16_i32_756 : BitVec 32 := 16#32
  let v1421 : BitVec 32 := Scalar.muli arg10 c16_i32_756
  let v1424 : Index := Scalar.indexCast v1421
  ![86, 0, v1424.toNat]
def k1_off174 (k1_t1 : Fin k1_t1_loop.trips) : Fin 3 → Nat :=
  let c86_i32_759 : BitVec 32 := 86#32
  let v1429 : Index := Scalar.indexCast c86_i32_759
  let c1_i32_760 : BitVec 32 := 1#32
  let v1430 : Index := Scalar.indexCast c1_i32_760
  let c0_i32_0 : BitVec 32 := 0#32
  let c1_i32 : BitVec 32 := 1#32
  let arg10 : BitVec 32 := Scf.iv c0_i32_0 c1_i32 k1_t1
  let c16_i32_758 : BitVec 32 := 16#32
  let v1428 : BitVec 32 := Scalar.muli arg10 c16_i32_758
  let v1431 : Index := Scalar.indexCast v1428
  ![86, 1, v1431.toNat]
def k1_off175 (k1_t1 : Fin k1_t1_loop.trips) : Fin 3 → Nat :=
  let c87_i32 : BitVec 32 := 87#32
  let v1436 : Index := Scalar.indexCast c87_i32
  let c0_i32_762 : BitVec 32 := 0#32
  let v1437 : Index := Scalar.indexCast c0_i32_762
  let c0_i32_0 : BitVec 32 := 0#32
  let c1_i32 : BitVec 32 := 1#32
  let arg10 : BitVec 32 := Scf.iv c0_i32_0 c1_i32 k1_t1
  let c16_i32_761 : BitVec 32 := 16#32
  let v1435 : BitVec 32 := Scalar.muli arg10 c16_i32_761
  let v1438 : Index := Scalar.indexCast v1435
  ![87, 0, v1438.toNat]
def k1_off176 (k1_t1 : Fin k1_t1_loop.trips) : Fin 3 → Nat :=
  let c87_i32_764 : BitVec 32 := 87#32
  let v1443 : Index := Scalar.indexCast c87_i32_764
  let c1_i32_765 : BitVec 32 := 1#32
  let v1444 : Index := Scalar.indexCast c1_i32_765
  let c0_i32_0 : BitVec 32 := 0#32
  let c1_i32 : BitVec 32 := 1#32
  let arg10 : BitVec 32 := Scf.iv c0_i32_0 c1_i32 k1_t1
  let c16_i32_763 : BitVec 32 := 16#32
  let v1442 : BitVec 32 := Scalar.muli arg10 c16_i32_763
  let v1445 : Index := Scalar.indexCast v1442
  ![87, 1, v1445.toNat]
def k1_off177 (k1_t1 : Fin k1_t1_loop.trips) : Fin 3 → Nat :=
  let c88_i32 : BitVec 32 := 88#32
  let v1450 : Index := Scalar.indexCast c88_i32
  let c0_i32_767 : BitVec 32 := 0#32
  let v1451 : Index := Scalar.indexCast c0_i32_767
  let c0_i32_0 : BitVec 32 := 0#32
  let c1_i32 : BitVec 32 := 1#32
  let arg10 : BitVec 32 := Scf.iv c0_i32_0 c1_i32 k1_t1
  let c16_i32_766 : BitVec 32 := 16#32
  let v1449 : BitVec 32 := Scalar.muli arg10 c16_i32_766
  let v1452 : Index := Scalar.indexCast v1449
  ![88, 0, v1452.toNat]
def k1_off178 (k1_t1 : Fin k1_t1_loop.trips) : Fin 3 → Nat :=
  let c88_i32_769 : BitVec 32 := 88#32
  let v1457 : Index := Scalar.indexCast c88_i32_769
  let c1_i32_770 : BitVec 32 := 1#32
  let v1458 : Index := Scalar.indexCast c1_i32_770
  let c0_i32_0 : BitVec 32 := 0#32
  let c1_i32 : BitVec 32 := 1#32
  let arg10 : BitVec 32 := Scf.iv c0_i32_0 c1_i32 k1_t1
  let c16_i32_768 : BitVec 32 := 16#32
  let v1456 : BitVec 32 := Scalar.muli arg10 c16_i32_768
  let v1459 : Index := Scalar.indexCast v1456
  ![88, 1, v1459.toNat]
def k1_off179 (k1_t1 : Fin k1_t1_loop.trips) : Fin 3 → Nat :=
  let c89_i32 : BitVec 32 := 89#32
  let v1464 : Index := Scalar.indexCast c89_i32
  let c0_i32_772 : BitVec 32 := 0#32
  let v1465 : Index := Scalar.indexCast c0_i32_772
  let c0_i32_0 : BitVec 32 := 0#32
  let c1_i32 : BitVec 32 := 1#32
  let arg10 : BitVec 32 := Scf.iv c0_i32_0 c1_i32 k1_t1
  let c16_i32_771 : BitVec 32 := 16#32
  let v1463 : BitVec 32 := Scalar.muli arg10 c16_i32_771
  let v1466 : Index := Scalar.indexCast v1463
  ![89, 0, v1466.toNat]
def k1_off180 (k1_t1 : Fin k1_t1_loop.trips) : Fin 3 → Nat :=
  let c89_i32_774 : BitVec 32 := 89#32
  let v1471 : Index := Scalar.indexCast c89_i32_774
  let c1_i32_775 : BitVec 32 := 1#32
  let v1472 : Index := Scalar.indexCast c1_i32_775
  let c0_i32_0 : BitVec 32 := 0#32
  let c1_i32 : BitVec 32 := 1#32
  let arg10 : BitVec 32 := Scf.iv c0_i32_0 c1_i32 k1_t1
  let c16_i32_773 : BitVec 32 := 16#32
  let v1470 : BitVec 32 := Scalar.muli arg10 c16_i32_773
  let v1473 : Index := Scalar.indexCast v1470
  ![89, 1, v1473.toNat]
def k1_off181 (k1_t1 : Fin k1_t1_loop.trips) : Fin 3 → Nat :=
  let c90_i32 : BitVec 32 := 90#32
  let v1478 : Index := Scalar.indexCast c90_i32
  let c0_i32_777 : BitVec 32 := 0#32
  let v1479 : Index := Scalar.indexCast c0_i32_777
  let c0_i32_0 : BitVec 32 := 0#32
  let c1_i32 : BitVec 32 := 1#32
  let arg10 : BitVec 32 := Scf.iv c0_i32_0 c1_i32 k1_t1
  let c16_i32_776 : BitVec 32 := 16#32
  let v1477 : BitVec 32 := Scalar.muli arg10 c16_i32_776
  let v1480 : Index := Scalar.indexCast v1477
  ![90, 0, v1480.toNat]
def k1_off182 (k1_t1 : Fin k1_t1_loop.trips) : Fin 3 → Nat :=
  let c90_i32_779 : BitVec 32 := 90#32
  let v1485 : Index := Scalar.indexCast c90_i32_779
  let c1_i32_780 : BitVec 32 := 1#32
  let v1486 : Index := Scalar.indexCast c1_i32_780
  let c0_i32_0 : BitVec 32 := 0#32
  let c1_i32 : BitVec 32 := 1#32
  let arg10 : BitVec 32 := Scf.iv c0_i32_0 c1_i32 k1_t1
  let c16_i32_778 : BitVec 32 := 16#32
  let v1484 : BitVec 32 := Scalar.muli arg10 c16_i32_778
  let v1487 : Index := Scalar.indexCast v1484
  ![90, 1, v1487.toNat]
def k1_off183 (k1_t1 : Fin k1_t1_loop.trips) : Fin 3 → Nat :=
  let c91_i32 : BitVec 32 := 91#32
  let v1492 : Index := Scalar.indexCast c91_i32
  let c0_i32_782 : BitVec 32 := 0#32
  let v1493 : Index := Scalar.indexCast c0_i32_782
  let c0_i32_0 : BitVec 32 := 0#32
  let c1_i32 : BitVec 32 := 1#32
  let arg10 : BitVec 32 := Scf.iv c0_i32_0 c1_i32 k1_t1
  let c16_i32_781 : BitVec 32 := 16#32
  let v1491 : BitVec 32 := Scalar.muli arg10 c16_i32_781
  let v1494 : Index := Scalar.indexCast v1491
  ![91, 0, v1494.toNat]
def k1_off184 (k1_t1 : Fin k1_t1_loop.trips) : Fin 3 → Nat :=
  let c91_i32_784 : BitVec 32 := 91#32
  let v1499 : Index := Scalar.indexCast c91_i32_784
  let c1_i32_785 : BitVec 32 := 1#32
  let v1500 : Index := Scalar.indexCast c1_i32_785
  let c0_i32_0 : BitVec 32 := 0#32
  let c1_i32 : BitVec 32 := 1#32
  let arg10 : BitVec 32 := Scf.iv c0_i32_0 c1_i32 k1_t1
  let c16_i32_783 : BitVec 32 := 16#32
  let v1498 : BitVec 32 := Scalar.muli arg10 c16_i32_783
  let v1501 : Index := Scalar.indexCast v1498
  ![91, 1, v1501.toNat]
def k1_off185 (k1_t1 : Fin k1_t1_loop.trips) : Fin 3 → Nat :=
  let c92_i32 : BitVec 32 := 92#32
  let v1506 : Index := Scalar.indexCast c92_i32
  let c0_i32_787 : BitVec 32 := 0#32
  let v1507 : Index := Scalar.indexCast c0_i32_787
  let c0_i32_0 : BitVec 32 := 0#32
  let c1_i32 : BitVec 32 := 1#32
  let arg10 : BitVec 32 := Scf.iv c0_i32_0 c1_i32 k1_t1
  let c16_i32_786 : BitVec 32 := 16#32
  let v1505 : BitVec 32 := Scalar.muli arg10 c16_i32_786
  let v1508 : Index := Scalar.indexCast v1505
  ![92, 0, v1508.toNat]
def k1_off186 (k1_t1 : Fin k1_t1_loop.trips) : Fin 3 → Nat :=
  let c92_i32_789 : BitVec 32 := 92#32
  let v1513 : Index := Scalar.indexCast c92_i32_789
  let c1_i32_790 : BitVec 32 := 1#32
  let v1514 : Index := Scalar.indexCast c1_i32_790
  let c0_i32_0 : BitVec 32 := 0#32
  let c1_i32 : BitVec 32 := 1#32
  let arg10 : BitVec 32 := Scf.iv c0_i32_0 c1_i32 k1_t1
  let c16_i32_788 : BitVec 32 := 16#32
  let v1512 : BitVec 32 := Scalar.muli arg10 c16_i32_788
  let v1515 : Index := Scalar.indexCast v1512
  ![92, 1, v1515.toNat]
def k1_off187 (k1_t1 : Fin k1_t1_loop.trips) : Fin 3 → Nat :=
  let c93_i32 : BitVec 32 := 93#32
  let v1520 : Index := Scalar.indexCast c93_i32
  let c0_i32_792 : BitVec 32 := 0#32
  let v1521 : Index := Scalar.indexCast c0_i32_792
  let c0_i32_0 : BitVec 32 := 0#32
  let c1_i32 : BitVec 32 := 1#32
  let arg10 : BitVec 32 := Scf.iv c0_i32_0 c1_i32 k1_t1
  let c16_i32_791 : BitVec 32 := 16#32
  let v1519 : BitVec 32 := Scalar.muli arg10 c16_i32_791
  let v1522 : Index := Scalar.indexCast v1519
  ![93, 0, v1522.toNat]
def k1_off188 (k1_t1 : Fin k1_t1_loop.trips) : Fin 3 → Nat :=
  let c93_i32_794 : BitVec 32 := 93#32
  let v1527 : Index := Scalar.indexCast c93_i32_794
  let c1_i32_795 : BitVec 32 := 1#32
  let v1528 : Index := Scalar.indexCast c1_i32_795
  let c0_i32_0 : BitVec 32 := 0#32
  let c1_i32 : BitVec 32 := 1#32
  let arg10 : BitVec 32 := Scf.iv c0_i32_0 c1_i32 k1_t1
  let c16_i32_793 : BitVec 32 := 16#32
  let v1526 : BitVec 32 := Scalar.muli arg10 c16_i32_793
  let v1529 : Index := Scalar.indexCast v1526
  ![93, 1, v1529.toNat]
def k1_off189 (k1_t1 : Fin k1_t1_loop.trips) : Fin 3 → Nat :=
  let c94_i32 : BitVec 32 := 94#32
  let v1534 : Index := Scalar.indexCast c94_i32
  let c0_i32_797 : BitVec 32 := 0#32
  let v1535 : Index := Scalar.indexCast c0_i32_797
  let c0_i32_0 : BitVec 32 := 0#32
  let c1_i32 : BitVec 32 := 1#32
  let arg10 : BitVec 32 := Scf.iv c0_i32_0 c1_i32 k1_t1
  let c16_i32_796 : BitVec 32 := 16#32
  let v1533 : BitVec 32 := Scalar.muli arg10 c16_i32_796
  let v1536 : Index := Scalar.indexCast v1533
  ![94, 0, v1536.toNat]
def k1_off190 (k1_t1 : Fin k1_t1_loop.trips) : Fin 3 → Nat :=
  let c94_i32_799 : BitVec 32 := 94#32
  let v1541 : Index := Scalar.indexCast c94_i32_799
  let c1_i32_800 : BitVec 32 := 1#32
  let v1542 : Index := Scalar.indexCast c1_i32_800
  let c0_i32_0 : BitVec 32 := 0#32
  let c1_i32 : BitVec 32 := 1#32
  let arg10 : BitVec 32 := Scf.iv c0_i32_0 c1_i32 k1_t1
  let c16_i32_798 : BitVec 32 := 16#32
  let v1540 : BitVec 32 := Scalar.muli arg10 c16_i32_798
  let v1543 : Index := Scalar.indexCast v1540
  ![94, 1, v1543.toNat]
def k1_off191 (k1_t1 : Fin k1_t1_loop.trips) : Fin 3 → Nat :=
  let c95_i32 : BitVec 32 := 95#32
  let v1548 : Index := Scalar.indexCast c95_i32
  let c0_i32_802 : BitVec 32 := 0#32
  let v1549 : Index := Scalar.indexCast c0_i32_802
  let c0_i32_0 : BitVec 32 := 0#32
  let c1_i32 : BitVec 32 := 1#32
  let arg10 : BitVec 32 := Scf.iv c0_i32_0 c1_i32 k1_t1
  let c16_i32_801 : BitVec 32 := 16#32
  let v1547 : BitVec 32 := Scalar.muli arg10 c16_i32_801
  let v1550 : Index := Scalar.indexCast v1547
  ![95, 0, v1550.toNat]
def k1_off192 (k1_t1 : Fin k1_t1_loop.trips) : Fin 3 → Nat :=
  let c95_i32_804 : BitVec 32 := 95#32
  let v1555 : Index := Scalar.indexCast c95_i32_804
  let c1_i32_805 : BitVec 32 := 1#32
  let v1556 : Index := Scalar.indexCast c1_i32_805
  let c0_i32_0 : BitVec 32 := 0#32
  let c1_i32 : BitVec 32 := 1#32
  let arg10 : BitVec 32 := Scf.iv c0_i32_0 c1_i32 k1_t1
  let c16_i32_803 : BitVec 32 := 16#32
  let v1554 : BitVec 32 := Scalar.muli arg10 c16_i32_803
  let v1557 : Index := Scalar.indexCast v1554
  ![95, 1, v1557.toNat]
def k1_off193 (k1_t1 : Fin k1_t1_loop.trips) : Fin 3 → Nat :=
  let c96_i32_807 : BitVec 32 := 96#32
  let v1562 : Index := Scalar.indexCast c96_i32_807
  let c0_i32_808 : BitVec 32 := 0#32
  let v1563 : Index := Scalar.indexCast c0_i32_808
  let c0_i32_0 : BitVec 32 := 0#32
  let c1_i32 : BitVec 32 := 1#32
  let arg10 : BitVec 32 := Scf.iv c0_i32_0 c1_i32 k1_t1
  let c16_i32_806 : BitVec 32 := 16#32
  let v1561 : BitVec 32 := Scalar.muli arg10 c16_i32_806
  let v1564 : Index := Scalar.indexCast v1561
  ![96, 0, v1564.toNat]
def k1_off194 (k1_t1 : Fin k1_t1_loop.trips) : Fin 3 → Nat :=
  let c96_i32_810 : BitVec 32 := 96#32
  let v1569 : Index := Scalar.indexCast c96_i32_810
  let c1_i32_811 : BitVec 32 := 1#32
  let v1570 : Index := Scalar.indexCast c1_i32_811
  let c0_i32_0 : BitVec 32 := 0#32
  let c1_i32 : BitVec 32 := 1#32
  let arg10 : BitVec 32 := Scf.iv c0_i32_0 c1_i32 k1_t1
  let c16_i32_809 : BitVec 32 := 16#32
  let v1568 : BitVec 32 := Scalar.muli arg10 c16_i32_809
  let v1571 : Index := Scalar.indexCast v1568
  ![96, 1, v1571.toNat]
def k1_off195 (k1_t1 : Fin k1_t1_loop.trips) : Fin 3 → Nat :=
  let c97_i32 : BitVec 32 := 97#32
  let v1576 : Index := Scalar.indexCast c97_i32
  let c0_i32_813 : BitVec 32 := 0#32
  let v1577 : Index := Scalar.indexCast c0_i32_813
  let c0_i32_0 : BitVec 32 := 0#32
  let c1_i32 : BitVec 32 := 1#32
  let arg10 : BitVec 32 := Scf.iv c0_i32_0 c1_i32 k1_t1
  let c16_i32_812 : BitVec 32 := 16#32
  let v1575 : BitVec 32 := Scalar.muli arg10 c16_i32_812
  let v1578 : Index := Scalar.indexCast v1575
  ![97, 0, v1578.toNat]
def k1_off196 (k1_t1 : Fin k1_t1_loop.trips) : Fin 3 → Nat :=
  let c97_i32_815 : BitVec 32 := 97#32
  let v1583 : Index := Scalar.indexCast c97_i32_815
  let c1_i32_816 : BitVec 32 := 1#32
  let v1584 : Index := Scalar.indexCast c1_i32_816
  let c0_i32_0 : BitVec 32 := 0#32
  let c1_i32 : BitVec 32 := 1#32
  let arg10 : BitVec 32 := Scf.iv c0_i32_0 c1_i32 k1_t1
  let c16_i32_814 : BitVec 32 := 16#32
  let v1582 : BitVec 32 := Scalar.muli arg10 c16_i32_814
  let v1585 : Index := Scalar.indexCast v1582
  ![97, 1, v1585.toNat]
def k1_off197 (k1_t1 : Fin k1_t1_loop.trips) : Fin 3 → Nat :=
  let c98_i32 : BitVec 32 := 98#32
  let v1590 : Index := Scalar.indexCast c98_i32
  let c0_i32_818 : BitVec 32 := 0#32
  let v1591 : Index := Scalar.indexCast c0_i32_818
  let c0_i32_0 : BitVec 32 := 0#32
  let c1_i32 : BitVec 32 := 1#32
  let arg10 : BitVec 32 := Scf.iv c0_i32_0 c1_i32 k1_t1
  let c16_i32_817 : BitVec 32 := 16#32
  let v1589 : BitVec 32 := Scalar.muli arg10 c16_i32_817
  let v1592 : Index := Scalar.indexCast v1589
  ![98, 0, v1592.toNat]
def k1_off198 (k1_t1 : Fin k1_t1_loop.trips) : Fin 3 → Nat :=
  let c98_i32_820 : BitVec 32 := 98#32
  let v1597 : Index := Scalar.indexCast c98_i32_820
  let c1_i32_821 : BitVec 32 := 1#32
  let v1598 : Index := Scalar.indexCast c1_i32_821
  let c0_i32_0 : BitVec 32 := 0#32
  let c1_i32 : BitVec 32 := 1#32
  let arg10 : BitVec 32 := Scf.iv c0_i32_0 c1_i32 k1_t1
  let c16_i32_819 : BitVec 32 := 16#32
  let v1596 : BitVec 32 := Scalar.muli arg10 c16_i32_819
  let v1599 : Index := Scalar.indexCast v1596
  ![98, 1, v1599.toNat]
def k1_off199 (k1_t1 : Fin k1_t1_loop.trips) : Fin 3 → Nat :=
  let c99_i32 : BitVec 32 := 99#32
  let v1604 : Index := Scalar.indexCast c99_i32
  let c0_i32_823 : BitVec 32 := 0#32
  let v1605 : Index := Scalar.indexCast c0_i32_823
  let c0_i32_0 : BitVec 32 := 0#32
  let c1_i32 : BitVec 32 := 1#32
  let arg10 : BitVec 32 := Scf.iv c0_i32_0 c1_i32 k1_t1
  let c16_i32_822 : BitVec 32 := 16#32
  let v1603 : BitVec 32 := Scalar.muli arg10 c16_i32_822
  let v1606 : Index := Scalar.indexCast v1603
  ![99, 0, v1606.toNat]
def k1_off200 (k1_t1 : Fin k1_t1_loop.trips) : Fin 3 → Nat :=
  let c99_i32_825 : BitVec 32 := 99#32
  let v1611 : Index := Scalar.indexCast c99_i32_825
  let c1_i32_826 : BitVec 32 := 1#32
  let v1612 : Index := Scalar.indexCast c1_i32_826
  let c0_i32_0 : BitVec 32 := 0#32
  let c1_i32 : BitVec 32 := 1#32
  let arg10 : BitVec 32 := Scf.iv c0_i32_0 c1_i32 k1_t1
  let c16_i32_824 : BitVec 32 := 16#32
  let v1610 : BitVec 32 := Scalar.muli arg10 c16_i32_824
  let v1613 : Index := Scalar.indexCast v1610
  ![99, 1, v1613.toNat]
def k1_off201 (k1_t1 : Fin k1_t1_loop.trips) : Fin 3 → Nat :=
  let c100_i32 : BitVec 32 := 100#32
  let v1618 : Index := Scalar.indexCast c100_i32
  let c0_i32_828 : BitVec 32 := 0#32
  let v1619 : Index := Scalar.indexCast c0_i32_828
  let c0_i32_0 : BitVec 32 := 0#32
  let c1_i32 : BitVec 32 := 1#32
  let arg10 : BitVec 32 := Scf.iv c0_i32_0 c1_i32 k1_t1
  let c16_i32_827 : BitVec 32 := 16#32
  let v1617 : BitVec 32 := Scalar.muli arg10 c16_i32_827
  let v1620 : Index := Scalar.indexCast v1617
  ![100, 0, v1620.toNat]
def k1_off202 (k1_t1 : Fin k1_t1_loop.trips) : Fin 3 → Nat :=
  let c100_i32_830 : BitVec 32 := 100#32
  let v1625 : Index := Scalar.indexCast c100_i32_830
  let c1_i32_831 : BitVec 32 := 1#32
  let v1626 : Index := Scalar.indexCast c1_i32_831
  let c0_i32_0 : BitVec 32 := 0#32
  let c1_i32 : BitVec 32 := 1#32
  let arg10 : BitVec 32 := Scf.iv c0_i32_0 c1_i32 k1_t1
  let c16_i32_829 : BitVec 32 := 16#32
  let v1624 : BitVec 32 := Scalar.muli arg10 c16_i32_829
  let v1627 : Index := Scalar.indexCast v1624
  ![100, 1, v1627.toNat]
def k1_off203 (k1_t1 : Fin k1_t1_loop.trips) : Fin 3 → Nat :=
  let c101_i32 : BitVec 32 := 101#32
  let v1632 : Index := Scalar.indexCast c101_i32
  let c0_i32_833 : BitVec 32 := 0#32
  let v1633 : Index := Scalar.indexCast c0_i32_833
  let c0_i32_0 : BitVec 32 := 0#32
  let c1_i32 : BitVec 32 := 1#32
  let arg10 : BitVec 32 := Scf.iv c0_i32_0 c1_i32 k1_t1
  let c16_i32_832 : BitVec 32 := 16#32
  let v1631 : BitVec 32 := Scalar.muli arg10 c16_i32_832
  let v1634 : Index := Scalar.indexCast v1631
  ![101, 0, v1634.toNat]
def k1_off204 (k1_t1 : Fin k1_t1_loop.trips) : Fin 3 → Nat :=
  let c101_i32_835 : BitVec 32 := 101#32
  let v1639 : Index := Scalar.indexCast c101_i32_835
  let c1_i32_836 : BitVec 32 := 1#32
  let v1640 : Index := Scalar.indexCast c1_i32_836
  let c0_i32_0 : BitVec 32 := 0#32
  let c1_i32 : BitVec 32 := 1#32
  let arg10 : BitVec 32 := Scf.iv c0_i32_0 c1_i32 k1_t1
  let c16_i32_834 : BitVec 32 := 16#32
  let v1638 : BitVec 32 := Scalar.muli arg10 c16_i32_834
  let v1641 : Index := Scalar.indexCast v1638
  ![101, 1, v1641.toNat]
def k1_off205 (k1_t1 : Fin k1_t1_loop.trips) : Fin 3 → Nat :=
  let c102_i32 : BitVec 32 := 102#32
  let v1646 : Index := Scalar.indexCast c102_i32
  let c0_i32_838 : BitVec 32 := 0#32
  let v1647 : Index := Scalar.indexCast c0_i32_838
  let c0_i32_0 : BitVec 32 := 0#32
  let c1_i32 : BitVec 32 := 1#32
  let arg10 : BitVec 32 := Scf.iv c0_i32_0 c1_i32 k1_t1
  let c16_i32_837 : BitVec 32 := 16#32
  let v1645 : BitVec 32 := Scalar.muli arg10 c16_i32_837
  let v1648 : Index := Scalar.indexCast v1645
  ![102, 0, v1648.toNat]
def k1_off206 (k1_t1 : Fin k1_t1_loop.trips) : Fin 3 → Nat :=
  let c102_i32_840 : BitVec 32 := 102#32
  let v1653 : Index := Scalar.indexCast c102_i32_840
  let c1_i32_841 : BitVec 32 := 1#32
  let v1654 : Index := Scalar.indexCast c1_i32_841
  let c0_i32_0 : BitVec 32 := 0#32
  let c1_i32 : BitVec 32 := 1#32
  let arg10 : BitVec 32 := Scf.iv c0_i32_0 c1_i32 k1_t1
  let c16_i32_839 : BitVec 32 := 16#32
  let v1652 : BitVec 32 := Scalar.muli arg10 c16_i32_839
  let v1655 : Index := Scalar.indexCast v1652
  ![102, 1, v1655.toNat]
def k1_off207 (k1_t1 : Fin k1_t1_loop.trips) : Fin 3 → Nat :=
  let c103_i32 : BitVec 32 := 103#32
  let v1660 : Index := Scalar.indexCast c103_i32
  let c0_i32_843 : BitVec 32 := 0#32
  let v1661 : Index := Scalar.indexCast c0_i32_843
  let c0_i32_0 : BitVec 32 := 0#32
  let c1_i32 : BitVec 32 := 1#32
  let arg10 : BitVec 32 := Scf.iv c0_i32_0 c1_i32 k1_t1
  let c16_i32_842 : BitVec 32 := 16#32
  let v1659 : BitVec 32 := Scalar.muli arg10 c16_i32_842
  let v1662 : Index := Scalar.indexCast v1659
  ![103, 0, v1662.toNat]
def k1_off208 (k1_t1 : Fin k1_t1_loop.trips) : Fin 3 → Nat :=
  let c103_i32_845 : BitVec 32 := 103#32
  let v1667 : Index := Scalar.indexCast c103_i32_845
  let c1_i32_846 : BitVec 32 := 1#32
  let v1668 : Index := Scalar.indexCast c1_i32_846
  let c0_i32_0 : BitVec 32 := 0#32
  let c1_i32 : BitVec 32 := 1#32
  let arg10 : BitVec 32 := Scf.iv c0_i32_0 c1_i32 k1_t1
  let c16_i32_844 : BitVec 32 := 16#32
  let v1666 : BitVec 32 := Scalar.muli arg10 c16_i32_844
  let v1669 : Index := Scalar.indexCast v1666
  ![103, 1, v1669.toNat]
def k1_off209 (k1_t1 : Fin k1_t1_loop.trips) : Fin 3 → Nat :=
  let c104_i32 : BitVec 32 := 104#32
  let v1674 : Index := Scalar.indexCast c104_i32
  let c0_i32_848 : BitVec 32 := 0#32
  let v1675 : Index := Scalar.indexCast c0_i32_848
  let c0_i32_0 : BitVec 32 := 0#32
  let c1_i32 : BitVec 32 := 1#32
  let arg10 : BitVec 32 := Scf.iv c0_i32_0 c1_i32 k1_t1
  let c16_i32_847 : BitVec 32 := 16#32
  let v1673 : BitVec 32 := Scalar.muli arg10 c16_i32_847
  let v1676 : Index := Scalar.indexCast v1673
  ![104, 0, v1676.toNat]
def k1_off210 (k1_t1 : Fin k1_t1_loop.trips) : Fin 3 → Nat :=
  let c104_i32_850 : BitVec 32 := 104#32
  let v1681 : Index := Scalar.indexCast c104_i32_850
  let c1_i32_851 : BitVec 32 := 1#32
  let v1682 : Index := Scalar.indexCast c1_i32_851
  let c0_i32_0 : BitVec 32 := 0#32
  let c1_i32 : BitVec 32 := 1#32
  let arg10 : BitVec 32 := Scf.iv c0_i32_0 c1_i32 k1_t1
  let c16_i32_849 : BitVec 32 := 16#32
  let v1680 : BitVec 32 := Scalar.muli arg10 c16_i32_849
  let v1683 : Index := Scalar.indexCast v1680
  ![104, 1, v1683.toNat]
def k1_off211 (k1_t1 : Fin k1_t1_loop.trips) : Fin 3 → Nat :=
  let c105_i32 : BitVec 32 := 105#32
  let v1688 : Index := Scalar.indexCast c105_i32
  let c0_i32_853 : BitVec 32 := 0#32
  let v1689 : Index := Scalar.indexCast c0_i32_853
  let c0_i32_0 : BitVec 32 := 0#32
  let c1_i32 : BitVec 32 := 1#32
  let arg10 : BitVec 32 := Scf.iv c0_i32_0 c1_i32 k1_t1
  let c16_i32_852 : BitVec 32 := 16#32
  let v1687 : BitVec 32 := Scalar.muli arg10 c16_i32_852
  let v1690 : Index := Scalar.indexCast v1687
  ![105, 0, v1690.toNat]
def k1_off212 (k1_t1 : Fin k1_t1_loop.trips) : Fin 3 → Nat :=
  let c105_i32_855 : BitVec 32 := 105#32
  let v1695 : Index := Scalar.indexCast c105_i32_855
  let c1_i32_856 : BitVec 32 := 1#32
  let v1696 : Index := Scalar.indexCast c1_i32_856
  let c0_i32_0 : BitVec 32 := 0#32
  let c1_i32 : BitVec 32 := 1#32
  let arg10 : BitVec 32 := Scf.iv c0_i32_0 c1_i32 k1_t1
  let c16_i32_854 : BitVec 32 := 16#32
  let v1694 : BitVec 32 := Scalar.muli arg10 c16_i32_854
  let v1697 : Index := Scalar.indexCast v1694
  ![105, 1, v1697.toNat]
def k1_off213 (k1_t1 : Fin k1_t1_loop.trips) : Fin 3 → Nat :=
  let c106_i32 : BitVec 32 := 106#32
  let v1702 : Index := Scalar.indexCast c106_i32
  let c0_i32_858 : BitVec 32 := 0#32
  let v1703 : Index := Scalar.indexCast c0_i32_858
  let c0_i32_0 : BitVec 32 := 0#32
  let c1_i32 : BitVec 32 := 1#32
  let arg10 : BitVec 32 := Scf.iv c0_i32_0 c1_i32 k1_t1
  let c16_i32_857 : BitVec 32 := 16#32
  let v1701 : BitVec 32 := Scalar.muli arg10 c16_i32_857
  let v1704 : Index := Scalar.indexCast v1701
  ![106, 0, v1704.toNat]
def k1_off214 (k1_t1 : Fin k1_t1_loop.trips) : Fin 3 → Nat :=
  let c106_i32_860 : BitVec 32 := 106#32
  let v1709 : Index := Scalar.indexCast c106_i32_860
  let c1_i32_861 : BitVec 32 := 1#32
  let v1710 : Index := Scalar.indexCast c1_i32_861
  let c0_i32_0 : BitVec 32 := 0#32
  let c1_i32 : BitVec 32 := 1#32
  let arg10 : BitVec 32 := Scf.iv c0_i32_0 c1_i32 k1_t1
  let c16_i32_859 : BitVec 32 := 16#32
  let v1708 : BitVec 32 := Scalar.muli arg10 c16_i32_859
  let v1711 : Index := Scalar.indexCast v1708
  ![106, 1, v1711.toNat]
def k1_off215 (k1_t1 : Fin k1_t1_loop.trips) : Fin 3 → Nat :=
  let c107_i32 : BitVec 32 := 107#32
  let v1716 : Index := Scalar.indexCast c107_i32
  let c0_i32_863 : BitVec 32 := 0#32
  let v1717 : Index := Scalar.indexCast c0_i32_863
  let c0_i32_0 : BitVec 32 := 0#32
  let c1_i32 : BitVec 32 := 1#32
  let arg10 : BitVec 32 := Scf.iv c0_i32_0 c1_i32 k1_t1
  let c16_i32_862 : BitVec 32 := 16#32
  let v1715 : BitVec 32 := Scalar.muli arg10 c16_i32_862
  let v1718 : Index := Scalar.indexCast v1715
  ![107, 0, v1718.toNat]
def k1_off216 (k1_t1 : Fin k1_t1_loop.trips) : Fin 3 → Nat :=
  let c107_i32_865 : BitVec 32 := 107#32
  let v1723 : Index := Scalar.indexCast c107_i32_865
  let c1_i32_866 : BitVec 32 := 1#32
  let v1724 : Index := Scalar.indexCast c1_i32_866
  let c0_i32_0 : BitVec 32 := 0#32
  let c1_i32 : BitVec 32 := 1#32
  let arg10 : BitVec 32 := Scf.iv c0_i32_0 c1_i32 k1_t1
  let c16_i32_864 : BitVec 32 := 16#32
  let v1722 : BitVec 32 := Scalar.muli arg10 c16_i32_864
  let v1725 : Index := Scalar.indexCast v1722
  ![107, 1, v1725.toNat]
def k1_off217 (k1_t1 : Fin k1_t1_loop.trips) : Fin 3 → Nat :=
  let c108_i32 : BitVec 32 := 108#32
  let v1730 : Index := Scalar.indexCast c108_i32
  let c0_i32_868 : BitVec 32 := 0#32
  let v1731 : Index := Scalar.indexCast c0_i32_868
  let c0_i32_0 : BitVec 32 := 0#32
  let c1_i32 : BitVec 32 := 1#32
  let arg10 : BitVec 32 := Scf.iv c0_i32_0 c1_i32 k1_t1
  let c16_i32_867 : BitVec 32 := 16#32
  let v1729 : BitVec 32 := Scalar.muli arg10 c16_i32_867
  let v1732 : Index := Scalar.indexCast v1729
  ![108, 0, v1732.toNat]
def k1_off218 (k1_t1 : Fin k1_t1_loop.trips) : Fin 3 → Nat :=
  let c108_i32_870 : BitVec 32 := 108#32
  let v1737 : Index := Scalar.indexCast c108_i32_870
  let c1_i32_871 : BitVec 32 := 1#32
  let v1738 : Index := Scalar.indexCast c1_i32_871
  let c0_i32_0 : BitVec 32 := 0#32
  let c1_i32 : BitVec 32 := 1#32
  let arg10 : BitVec 32 := Scf.iv c0_i32_0 c1_i32 k1_t1
  let c16_i32_869 : BitVec 32 := 16#32
  let v1736 : BitVec 32 := Scalar.muli arg10 c16_i32_869
  let v1739 : Index := Scalar.indexCast v1736
  ![108, 1, v1739.toNat]
def k1_off219 (k1_t1 : Fin k1_t1_loop.trips) : Fin 3 → Nat :=
  let c109_i32 : BitVec 32 := 109#32
  let v1744 : Index := Scalar.indexCast c109_i32
  let c0_i32_873 : BitVec 32 := 0#32
  let v1745 : Index := Scalar.indexCast c0_i32_873
  let c0_i32_0 : BitVec 32 := 0#32
  let c1_i32 : BitVec 32 := 1#32
  let arg10 : BitVec 32 := Scf.iv c0_i32_0 c1_i32 k1_t1
  let c16_i32_872 : BitVec 32 := 16#32
  let v1743 : BitVec 32 := Scalar.muli arg10 c16_i32_872
  let v1746 : Index := Scalar.indexCast v1743
  ![109, 0, v1746.toNat]
def k1_off220 (k1_t1 : Fin k1_t1_loop.trips) : Fin 3 → Nat :=
  let c109_i32_875 : BitVec 32 := 109#32
  let v1751 : Index := Scalar.indexCast c109_i32_875
  let c1_i32_876 : BitVec 32 := 1#32
  let v1752 : Index := Scalar.indexCast c1_i32_876
  let c0_i32_0 : BitVec 32 := 0#32
  let c1_i32 : BitVec 32 := 1#32
  let arg10 : BitVec 32 := Scf.iv c0_i32_0 c1_i32 k1_t1
  let c16_i32_874 : BitVec 32 := 16#32
  let v1750 : BitVec 32 := Scalar.muli arg10 c16_i32_874
  let v1753 : Index := Scalar.indexCast v1750
  ![109, 1, v1753.toNat]
def k1_off221 (k1_t1 : Fin k1_t1_loop.trips) : Fin 3 → Nat :=
  let c110_i32 : BitVec 32 := 110#32
  let v1758 : Index := Scalar.indexCast c110_i32
  let c0_i32_878 : BitVec 32 := 0#32
  let v1759 : Index := Scalar.indexCast c0_i32_878
  let c0_i32_0 : BitVec 32 := 0#32
  let c1_i32 : BitVec 32 := 1#32
  let arg10 : BitVec 32 := Scf.iv c0_i32_0 c1_i32 k1_t1
  let c16_i32_877 : BitVec 32 := 16#32
  let v1757 : BitVec 32 := Scalar.muli arg10 c16_i32_877
  let v1760 : Index := Scalar.indexCast v1757
  ![110, 0, v1760.toNat]
def k1_off222 (k1_t1 : Fin k1_t1_loop.trips) : Fin 3 → Nat :=
  let c110_i32_880 : BitVec 32 := 110#32
  let v1765 : Index := Scalar.indexCast c110_i32_880
  let c1_i32_881 : BitVec 32 := 1#32
  let v1766 : Index := Scalar.indexCast c1_i32_881
  let c0_i32_0 : BitVec 32 := 0#32
  let c1_i32 : BitVec 32 := 1#32
  let arg10 : BitVec 32 := Scf.iv c0_i32_0 c1_i32 k1_t1
  let c16_i32_879 : BitVec 32 := 16#32
  let v1764 : BitVec 32 := Scalar.muli arg10 c16_i32_879
  let v1767 : Index := Scalar.indexCast v1764
  ![110, 1, v1767.toNat]
def k1_off223 (k1_t1 : Fin k1_t1_loop.trips) : Fin 3 → Nat :=
  let c111_i32 : BitVec 32 := 111#32
  let v1772 : Index := Scalar.indexCast c111_i32
  let c0_i32_883 : BitVec 32 := 0#32
  let v1773 : Index := Scalar.indexCast c0_i32_883
  let c0_i32_0 : BitVec 32 := 0#32
  let c1_i32 : BitVec 32 := 1#32
  let arg10 : BitVec 32 := Scf.iv c0_i32_0 c1_i32 k1_t1
  let c16_i32_882 : BitVec 32 := 16#32
  let v1771 : BitVec 32 := Scalar.muli arg10 c16_i32_882
  let v1774 : Index := Scalar.indexCast v1771
  ![111, 0, v1774.toNat]
def k1_off224 (k1_t1 : Fin k1_t1_loop.trips) : Fin 3 → Nat :=
  let c111_i32_885 : BitVec 32 := 111#32
  let v1779 : Index := Scalar.indexCast c111_i32_885
  let c1_i32_886 : BitVec 32 := 1#32
  let v1780 : Index := Scalar.indexCast c1_i32_886
  let c0_i32_0 : BitVec 32 := 0#32
  let c1_i32 : BitVec 32 := 1#32
  let arg10 : BitVec 32 := Scf.iv c0_i32_0 c1_i32 k1_t1
  let c16_i32_884 : BitVec 32 := 16#32
  let v1778 : BitVec 32 := Scalar.muli arg10 c16_i32_884
  let v1781 : Index := Scalar.indexCast v1778
  ![111, 1, v1781.toNat]
def k1_off225 (k1_t1 : Fin k1_t1_loop.trips) : Fin 3 → Nat :=
  let c112_i32_888 : BitVec 32 := 112#32
  let v1786 : Index := Scalar.indexCast c112_i32_888
  let c0_i32_889 : BitVec 32 := 0#32
  let v1787 : Index := Scalar.indexCast c0_i32_889
  let c0_i32_0 : BitVec 32 := 0#32
  let c1_i32 : BitVec 32 := 1#32
  let arg10 : BitVec 32 := Scf.iv c0_i32_0 c1_i32 k1_t1
  let c16_i32_887 : BitVec 32 := 16#32
  let v1785 : BitVec 32 := Scalar.muli arg10 c16_i32_887
  let v1788 : Index := Scalar.indexCast v1785
  ![112, 0, v1788.toNat]
def k1_off226 (k1_t1 : Fin k1_t1_loop.trips) : Fin 3 → Nat :=
  let c112_i32_891 : BitVec 32 := 112#32
  let v1793 : Index := Scalar.indexCast c112_i32_891
  let c1_i32_892 : BitVec 32 := 1#32
  let v1794 : Index := Scalar.indexCast c1_i32_892
  let c0_i32_0 : BitVec 32 := 0#32
  let c1_i32 : BitVec 32 := 1#32
  let arg10 : BitVec 32 := Scf.iv c0_i32_0 c1_i32 k1_t1
  let c16_i32_890 : BitVec 32 := 16#32
  let v1792 : BitVec 32 := Scalar.muli arg10 c16_i32_890
  let v1795 : Index := Scalar.indexCast v1792
  ![112, 1, v1795.toNat]
def k1_off227 (k1_t1 : Fin k1_t1_loop.trips) : Fin 3 → Nat :=
  let c113_i32 : BitVec 32 := 113#32
  let v1800 : Index := Scalar.indexCast c113_i32
  let c0_i32_894 : BitVec 32 := 0#32
  let v1801 : Index := Scalar.indexCast c0_i32_894
  let c0_i32_0 : BitVec 32 := 0#32
  let c1_i32 : BitVec 32 := 1#32
  let arg10 : BitVec 32 := Scf.iv c0_i32_0 c1_i32 k1_t1
  let c16_i32_893 : BitVec 32 := 16#32
  let v1799 : BitVec 32 := Scalar.muli arg10 c16_i32_893
  let v1802 : Index := Scalar.indexCast v1799
  ![113, 0, v1802.toNat]
def k1_off228 (k1_t1 : Fin k1_t1_loop.trips) : Fin 3 → Nat :=
  let c113_i32_896 : BitVec 32 := 113#32
  let v1807 : Index := Scalar.indexCast c113_i32_896
  let c1_i32_897 : BitVec 32 := 1#32
  let v1808 : Index := Scalar.indexCast c1_i32_897
  let c0_i32_0 : BitVec 32 := 0#32
  let c1_i32 : BitVec 32 := 1#32
  let arg10 : BitVec 32 := Scf.iv c0_i32_0 c1_i32 k1_t1
  let c16_i32_895 : BitVec 32 := 16#32
  let v1806 : BitVec 32 := Scalar.muli arg10 c16_i32_895
  let v1809 : Index := Scalar.indexCast v1806
  ![113, 1, v1809.toNat]
def k1_off229 (k1_t1 : Fin k1_t1_loop.trips) : Fin 3 → Nat :=
  let c114_i32 : BitVec 32 := 114#32
  let v1814 : Index := Scalar.indexCast c114_i32
  let c0_i32_899 : BitVec 32 := 0#32
  let v1815 : Index := Scalar.indexCast c0_i32_899
  let c0_i32_0 : BitVec 32 := 0#32
  let c1_i32 : BitVec 32 := 1#32
  let arg10 : BitVec 32 := Scf.iv c0_i32_0 c1_i32 k1_t1
  let c16_i32_898 : BitVec 32 := 16#32
  let v1813 : BitVec 32 := Scalar.muli arg10 c16_i32_898
  let v1816 : Index := Scalar.indexCast v1813
  ![114, 0, v1816.toNat]
def k1_off230 (k1_t1 : Fin k1_t1_loop.trips) : Fin 3 → Nat :=
  let c114_i32_901 : BitVec 32 := 114#32
  let v1821 : Index := Scalar.indexCast c114_i32_901
  let c1_i32_902 : BitVec 32 := 1#32
  let v1822 : Index := Scalar.indexCast c1_i32_902
  let c0_i32_0 : BitVec 32 := 0#32
  let c1_i32 : BitVec 32 := 1#32
  let arg10 : BitVec 32 := Scf.iv c0_i32_0 c1_i32 k1_t1
  let c16_i32_900 : BitVec 32 := 16#32
  let v1820 : BitVec 32 := Scalar.muli arg10 c16_i32_900
  let v1823 : Index := Scalar.indexCast v1820
  ![114, 1, v1823.toNat]
def k1_off231 (k1_t1 : Fin k1_t1_loop.trips) : Fin 3 → Nat :=
  let c115_i32 : BitVec 32 := 115#32
  let v1828 : Index := Scalar.indexCast c115_i32
  let c0_i32_904 : BitVec 32 := 0#32
  let v1829 : Index := Scalar.indexCast c0_i32_904
  let c0_i32_0 : BitVec 32 := 0#32
  let c1_i32 : BitVec 32 := 1#32
  let arg10 : BitVec 32 := Scf.iv c0_i32_0 c1_i32 k1_t1
  let c16_i32_903 : BitVec 32 := 16#32
  let v1827 : BitVec 32 := Scalar.muli arg10 c16_i32_903
  let v1830 : Index := Scalar.indexCast v1827
  ![115, 0, v1830.toNat]
def k1_off232 (k1_t1 : Fin k1_t1_loop.trips) : Fin 3 → Nat :=
  let c115_i32_906 : BitVec 32 := 115#32
  let v1835 : Index := Scalar.indexCast c115_i32_906
  let c1_i32_907 : BitVec 32 := 1#32
  let v1836 : Index := Scalar.indexCast c1_i32_907
  let c0_i32_0 : BitVec 32 := 0#32
  let c1_i32 : BitVec 32 := 1#32
  let arg10 : BitVec 32 := Scf.iv c0_i32_0 c1_i32 k1_t1
  let c16_i32_905 : BitVec 32 := 16#32
  let v1834 : BitVec 32 := Scalar.muli arg10 c16_i32_905
  let v1837 : Index := Scalar.indexCast v1834
  ![115, 1, v1837.toNat]
def k1_off233 (k1_t1 : Fin k1_t1_loop.trips) : Fin 3 → Nat :=
  let c116_i32 : BitVec 32 := 116#32
  let v1842 : Index := Scalar.indexCast c116_i32
  let c0_i32_909 : BitVec 32 := 0#32
  let v1843 : Index := Scalar.indexCast c0_i32_909
  let c0_i32_0 : BitVec 32 := 0#32
  let c1_i32 : BitVec 32 := 1#32
  let arg10 : BitVec 32 := Scf.iv c0_i32_0 c1_i32 k1_t1
  let c16_i32_908 : BitVec 32 := 16#32
  let v1841 : BitVec 32 := Scalar.muli arg10 c16_i32_908
  let v1844 : Index := Scalar.indexCast v1841
  ![116, 0, v1844.toNat]
def k1_off234 (k1_t1 : Fin k1_t1_loop.trips) : Fin 3 → Nat :=
  let c116_i32_911 : BitVec 32 := 116#32
  let v1849 : Index := Scalar.indexCast c116_i32_911
  let c1_i32_912 : BitVec 32 := 1#32
  let v1850 : Index := Scalar.indexCast c1_i32_912
  let c0_i32_0 : BitVec 32 := 0#32
  let c1_i32 : BitVec 32 := 1#32
  let arg10 : BitVec 32 := Scf.iv c0_i32_0 c1_i32 k1_t1
  let c16_i32_910 : BitVec 32 := 16#32
  let v1848 : BitVec 32 := Scalar.muli arg10 c16_i32_910
  let v1851 : Index := Scalar.indexCast v1848
  ![116, 1, v1851.toNat]
def k1_off235 (k1_t1 : Fin k1_t1_loop.trips) : Fin 3 → Nat :=
  let c117_i32 : BitVec 32 := 117#32
  let v1856 : Index := Scalar.indexCast c117_i32
  let c0_i32_914 : BitVec 32 := 0#32
  let v1857 : Index := Scalar.indexCast c0_i32_914
  let c0_i32_0 : BitVec 32 := 0#32
  let c1_i32 : BitVec 32 := 1#32
  let arg10 : BitVec 32 := Scf.iv c0_i32_0 c1_i32 k1_t1
  let c16_i32_913 : BitVec 32 := 16#32
  let v1855 : BitVec 32 := Scalar.muli arg10 c16_i32_913
  let v1858 : Index := Scalar.indexCast v1855
  ![117, 0, v1858.toNat]
def k1_off236 (k1_t1 : Fin k1_t1_loop.trips) : Fin 3 → Nat :=
  let c117_i32_916 : BitVec 32 := 117#32
  let v1863 : Index := Scalar.indexCast c117_i32_916
  let c1_i32_917 : BitVec 32 := 1#32
  let v1864 : Index := Scalar.indexCast c1_i32_917
  let c0_i32_0 : BitVec 32 := 0#32
  let c1_i32 : BitVec 32 := 1#32
  let arg10 : BitVec 32 := Scf.iv c0_i32_0 c1_i32 k1_t1
  let c16_i32_915 : BitVec 32 := 16#32
  let v1862 : BitVec 32 := Scalar.muli arg10 c16_i32_915
  let v1865 : Index := Scalar.indexCast v1862
  ![117, 1, v1865.toNat]
def k1_off237 (k1_t1 : Fin k1_t1_loop.trips) : Fin 3 → Nat :=
  let c118_i32 : BitVec 32 := 118#32
  let v1870 : Index := Scalar.indexCast c118_i32
  let c0_i32_919 : BitVec 32 := 0#32
  let v1871 : Index := Scalar.indexCast c0_i32_919
  let c0_i32_0 : BitVec 32 := 0#32
  let c1_i32 : BitVec 32 := 1#32
  let arg10 : BitVec 32 := Scf.iv c0_i32_0 c1_i32 k1_t1
  let c16_i32_918 : BitVec 32 := 16#32
  let v1869 : BitVec 32 := Scalar.muli arg10 c16_i32_918
  let v1872 : Index := Scalar.indexCast v1869
  ![118, 0, v1872.toNat]
def k1_off238 (k1_t1 : Fin k1_t1_loop.trips) : Fin 3 → Nat :=
  let c118_i32_921 : BitVec 32 := 118#32
  let v1877 : Index := Scalar.indexCast c118_i32_921
  let c1_i32_922 : BitVec 32 := 1#32
  let v1878 : Index := Scalar.indexCast c1_i32_922
  let c0_i32_0 : BitVec 32 := 0#32
  let c1_i32 : BitVec 32 := 1#32
  let arg10 : BitVec 32 := Scf.iv c0_i32_0 c1_i32 k1_t1
  let c16_i32_920 : BitVec 32 := 16#32
  let v1876 : BitVec 32 := Scalar.muli arg10 c16_i32_920
  let v1879 : Index := Scalar.indexCast v1876
  ![118, 1, v1879.toNat]
def k1_off239 (k1_t1 : Fin k1_t1_loop.trips) : Fin 3 → Nat :=
  let c119_i32 : BitVec 32 := 119#32
  let v1884 : Index := Scalar.indexCast c119_i32
  let c0_i32_924 : BitVec 32 := 0#32
  let v1885 : Index := Scalar.indexCast c0_i32_924
  let c0_i32_0 : BitVec 32 := 0#32
  let c1_i32 : BitVec 32 := 1#32
  let arg10 : BitVec 32 := Scf.iv c0_i32_0 c1_i32 k1_t1
  let c16_i32_923 : BitVec 32 := 16#32
  let v1883 : BitVec 32 := Scalar.muli arg10 c16_i32_923
  let v1886 : Index := Scalar.indexCast v1883
  ![119, 0, v1886.toNat]
def k1_off240 (k1_t1 : Fin k1_t1_loop.trips) : Fin 3 → Nat :=
  let c119_i32_926 : BitVec 32 := 119#32
  let v1891 : Index := Scalar.indexCast c119_i32_926
  let c1_i32_927 : BitVec 32 := 1#32
  let v1892 : Index := Scalar.indexCast c1_i32_927
  let c0_i32_0 : BitVec 32 := 0#32
  let c1_i32 : BitVec 32 := 1#32
  let arg10 : BitVec 32 := Scf.iv c0_i32_0 c1_i32 k1_t1
  let c16_i32_925 : BitVec 32 := 16#32
  let v1890 : BitVec 32 := Scalar.muli arg10 c16_i32_925
  let v1893 : Index := Scalar.indexCast v1890
  ![119, 1, v1893.toNat]
def k1_off241 (k1_t1 : Fin k1_t1_loop.trips) : Fin 3 → Nat :=
  let c120_i32 : BitVec 32 := 120#32
  let v1898 : Index := Scalar.indexCast c120_i32
  let c0_i32_929 : BitVec 32 := 0#32
  let v1899 : Index := Scalar.indexCast c0_i32_929
  let c0_i32_0 : BitVec 32 := 0#32
  let c1_i32 : BitVec 32 := 1#32
  let arg10 : BitVec 32 := Scf.iv c0_i32_0 c1_i32 k1_t1
  let c16_i32_928 : BitVec 32 := 16#32
  let v1897 : BitVec 32 := Scalar.muli arg10 c16_i32_928
  let v1900 : Index := Scalar.indexCast v1897
  ![120, 0, v1900.toNat]
def k1_off242 (k1_t1 : Fin k1_t1_loop.trips) : Fin 3 → Nat :=
  let c120_i32_931 : BitVec 32 := 120#32
  let v1905 : Index := Scalar.indexCast c120_i32_931
  let c1_i32_932 : BitVec 32 := 1#32
  let v1906 : Index := Scalar.indexCast c1_i32_932
  let c0_i32_0 : BitVec 32 := 0#32
  let c1_i32 : BitVec 32 := 1#32
  let arg10 : BitVec 32 := Scf.iv c0_i32_0 c1_i32 k1_t1
  let c16_i32_930 : BitVec 32 := 16#32
  let v1904 : BitVec 32 := Scalar.muli arg10 c16_i32_930
  let v1907 : Index := Scalar.indexCast v1904
  ![120, 1, v1907.toNat]
def k1_off243 (k1_t1 : Fin k1_t1_loop.trips) : Fin 3 → Nat :=
  let c121_i32 : BitVec 32 := 121#32
  let v1912 : Index := Scalar.indexCast c121_i32
  let c0_i32_934 : BitVec 32 := 0#32
  let v1913 : Index := Scalar.indexCast c0_i32_934
  let c0_i32_0 : BitVec 32 := 0#32
  let c1_i32 : BitVec 32 := 1#32
  let arg10 : BitVec 32 := Scf.iv c0_i32_0 c1_i32 k1_t1
  let c16_i32_933 : BitVec 32 := 16#32
  let v1911 : BitVec 32 := Scalar.muli arg10 c16_i32_933
  let v1914 : Index := Scalar.indexCast v1911
  ![121, 0, v1914.toNat]
def k1_off244 (k1_t1 : Fin k1_t1_loop.trips) : Fin 3 → Nat :=
  let c121_i32_936 : BitVec 32 := 121#32
  let v1919 : Index := Scalar.indexCast c121_i32_936
  let c1_i32_937 : BitVec 32 := 1#32
  let v1920 : Index := Scalar.indexCast c1_i32_937
  let c0_i32_0 : BitVec 32 := 0#32
  let c1_i32 : BitVec 32 := 1#32
  let arg10 : BitVec 32 := Scf.iv c0_i32_0 c1_i32 k1_t1
  let c16_i32_935 : BitVec 32 := 16#32
  let v1918 : BitVec 32 := Scalar.muli arg10 c16_i32_935
  let v1921 : Index := Scalar.indexCast v1918
  ![121, 1, v1921.toNat]
def k1_off245 (k1_t1 : Fin k1_t1_loop.trips) : Fin 3 → Nat :=
  let c122_i32 : BitVec 32 := 122#32
  let v1926 : Index := Scalar.indexCast c122_i32
  let c0_i32_939 : BitVec 32 := 0#32
  let v1927 : Index := Scalar.indexCast c0_i32_939
  let c0_i32_0 : BitVec 32 := 0#32
  let c1_i32 : BitVec 32 := 1#32
  let arg10 : BitVec 32 := Scf.iv c0_i32_0 c1_i32 k1_t1
  let c16_i32_938 : BitVec 32 := 16#32
  let v1925 : BitVec 32 := Scalar.muli arg10 c16_i32_938
  let v1928 : Index := Scalar.indexCast v1925
  ![122, 0, v1928.toNat]
def k1_off246 (k1_t1 : Fin k1_t1_loop.trips) : Fin 3 → Nat :=
  let c122_i32_941 : BitVec 32 := 122#32
  let v1933 : Index := Scalar.indexCast c122_i32_941
  let c1_i32_942 : BitVec 32 := 1#32
  let v1934 : Index := Scalar.indexCast c1_i32_942
  let c0_i32_0 : BitVec 32 := 0#32
  let c1_i32 : BitVec 32 := 1#32
  let arg10 : BitVec 32 := Scf.iv c0_i32_0 c1_i32 k1_t1
  let c16_i32_940 : BitVec 32 := 16#32
  let v1932 : BitVec 32 := Scalar.muli arg10 c16_i32_940
  let v1935 : Index := Scalar.indexCast v1932
  ![122, 1, v1935.toNat]
def k1_off247 (k1_t1 : Fin k1_t1_loop.trips) : Fin 3 → Nat :=
  let c123_i32 : BitVec 32 := 123#32
  let v1940 : Index := Scalar.indexCast c123_i32
  let c0_i32_944 : BitVec 32 := 0#32
  let v1941 : Index := Scalar.indexCast c0_i32_944
  let c0_i32_0 : BitVec 32 := 0#32
  let c1_i32 : BitVec 32 := 1#32
  let arg10 : BitVec 32 := Scf.iv c0_i32_0 c1_i32 k1_t1
  let c16_i32_943 : BitVec 32 := 16#32
  let v1939 : BitVec 32 := Scalar.muli arg10 c16_i32_943
  let v1942 : Index := Scalar.indexCast v1939
  ![123, 0, v1942.toNat]
def k1_off248 (k1_t1 : Fin k1_t1_loop.trips) : Fin 3 → Nat :=
  let c123_i32_946 : BitVec 32 := 123#32
  let v1947 : Index := Scalar.indexCast c123_i32_946
  let c1_i32_947 : BitVec 32 := 1#32
  let v1948 : Index := Scalar.indexCast c1_i32_947
  let c0_i32_0 : BitVec 32 := 0#32
  let c1_i32 : BitVec 32 := 1#32
  let arg10 : BitVec 32 := Scf.iv c0_i32_0 c1_i32 k1_t1
  let c16_i32_945 : BitVec 32 := 16#32
  let v1946 : BitVec 32 := Scalar.muli arg10 c16_i32_945
  let v1949 : Index := Scalar.indexCast v1946
  ![123, 1, v1949.toNat]
def k1_off249 (k1_t1 : Fin k1_t1_loop.trips) : Fin 3 → Nat :=
  let c124_i32 : BitVec 32 := 124#32
  let v1954 : Index := Scalar.indexCast c124_i32
  let c0_i32_949 : BitVec 32 := 0#32
  let v1955 : Index := Scalar.indexCast c0_i32_949
  let c0_i32_0 : BitVec 32 := 0#32
  let c1_i32 : BitVec 32 := 1#32
  let arg10 : BitVec 32 := Scf.iv c0_i32_0 c1_i32 k1_t1
  let c16_i32_948 : BitVec 32 := 16#32
  let v1953 : BitVec 32 := Scalar.muli arg10 c16_i32_948
  let v1956 : Index := Scalar.indexCast v1953
  ![124, 0, v1956.toNat]
def k1_off250 (k1_t1 : Fin k1_t1_loop.trips) : Fin 3 → Nat :=
  let c124_i32_951 : BitVec 32 := 124#32
  let v1961 : Index := Scalar.indexCast c124_i32_951
  let c1_i32_952 : BitVec 32 := 1#32
  let v1962 : Index := Scalar.indexCast c1_i32_952
  let c0_i32_0 : BitVec 32 := 0#32
  let c1_i32 : BitVec 32 := 1#32
  let arg10 : BitVec 32 := Scf.iv c0_i32_0 c1_i32 k1_t1
  let c16_i32_950 : BitVec 32 := 16#32
  let v1960 : BitVec 32 := Scalar.muli arg10 c16_i32_950
  let v1963 : Index := Scalar.indexCast v1960
  ![124, 1, v1963.toNat]
def k1_off251 (k1_t1 : Fin k1_t1_loop.trips) : Fin 3 → Nat :=
  let c125_i32 : BitVec 32 := 125#32
  let v1968 : Index := Scalar.indexCast c125_i32
  let c0_i32_954 : BitVec 32 := 0#32
  let v1969 : Index := Scalar.indexCast c0_i32_954
  let c0_i32_0 : BitVec 32 := 0#32
  let c1_i32 : BitVec 32 := 1#32
  let arg10 : BitVec 32 := Scf.iv c0_i32_0 c1_i32 k1_t1
  let c16_i32_953 : BitVec 32 := 16#32
  let v1967 : BitVec 32 := Scalar.muli arg10 c16_i32_953
  let v1970 : Index := Scalar.indexCast v1967
  ![125, 0, v1970.toNat]
def k1_off252 (k1_t1 : Fin k1_t1_loop.trips) : Fin 3 → Nat :=
  let c125_i32_956 : BitVec 32 := 125#32
  let v1975 : Index := Scalar.indexCast c125_i32_956
  let c1_i32_957 : BitVec 32 := 1#32
  let v1976 : Index := Scalar.indexCast c1_i32_957
  let c0_i32_0 : BitVec 32 := 0#32
  let c1_i32 : BitVec 32 := 1#32
  let arg10 : BitVec 32 := Scf.iv c0_i32_0 c1_i32 k1_t1
  let c16_i32_955 : BitVec 32 := 16#32
  let v1974 : BitVec 32 := Scalar.muli arg10 c16_i32_955
  let v1977 : Index := Scalar.indexCast v1974
  ![125, 1, v1977.toNat]
def k1_off253 (k1_t1 : Fin k1_t1_loop.trips) : Fin 3 → Nat :=
  let c126_i32 : BitVec 32 := 126#32
  let v1982 : Index := Scalar.indexCast c126_i32
  let c0_i32_959 : BitVec 32 := 0#32
  let v1983 : Index := Scalar.indexCast c0_i32_959
  let c0_i32_0 : BitVec 32 := 0#32
  let c1_i32 : BitVec 32 := 1#32
  let arg10 : BitVec 32 := Scf.iv c0_i32_0 c1_i32 k1_t1
  let c16_i32_958 : BitVec 32 := 16#32
  let v1981 : BitVec 32 := Scalar.muli arg10 c16_i32_958
  let v1984 : Index := Scalar.indexCast v1981
  ![126, 0, v1984.toNat]
def k1_off254 (k1_t1 : Fin k1_t1_loop.trips) : Fin 3 → Nat :=
  let c126_i32_961 : BitVec 32 := 126#32
  let v1989 : Index := Scalar.indexCast c126_i32_961
  let c1_i32_962 : BitVec 32 := 1#32
  let v1990 : Index := Scalar.indexCast c1_i32_962
  let c0_i32_0 : BitVec 32 := 0#32
  let c1_i32 : BitVec 32 := 1#32
  let arg10 : BitVec 32 := Scf.iv c0_i32_0 c1_i32 k1_t1
  let c16_i32_960 : BitVec 32 := 16#32
  let v1988 : BitVec 32 := Scalar.muli arg10 c16_i32_960
  let v1991 : Index := Scalar.indexCast v1988
  ![126, 1, v1991.toNat]
def k1_off255 (k1_t1 : Fin k1_t1_loop.trips) : Fin 3 → Nat :=
  let c127_i32 : BitVec 32 := 127#32
  let v1996 : Index := Scalar.indexCast c127_i32
  let c0_i32_964 : BitVec 32 := 0#32
  let v1997 : Index := Scalar.indexCast c0_i32_964
  let c0_i32_0 : BitVec 32 := 0#32
  let c1_i32 : BitVec 32 := 1#32
  let arg10 : BitVec 32 := Scf.iv c0_i32_0 c1_i32 k1_t1
  let c16_i32_963 : BitVec 32 := 16#32
  let v1995 : BitVec 32 := Scalar.muli arg10 c16_i32_963
  let v1998 : Index := Scalar.indexCast v1995
  ![127, 0, v1998.toNat]
def k1_off256 (k1_t1 : Fin k1_t1_loop.trips) : Fin 3 → Nat :=
  let c127_i32_966 : BitVec 32 := 127#32
  let v2003 : Index := Scalar.indexCast c127_i32_966
  let c1_i32_967 : BitVec 32 := 1#32
  let v2004 : Index := Scalar.indexCast c1_i32_967
  let c0_i32_0 : BitVec 32 := 0#32
  let c1_i32 : BitVec 32 := 1#32
  let arg10 : BitVec 32 := Scf.iv c0_i32_0 c1_i32 k1_t1
  let c16_i32_965 : BitVec 32 := 16#32
  let v2002 : BitVec 32 := Scalar.muli arg10 c16_i32_965
  let v2005 : Index := Scalar.indexCast v2002
  ![127, 1, v2005.toNat]
def k1_off257 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_2 : BitVec 32 := 8#32
  let v5 : BitVec 32 := Scalar.muli v1 c8_i32_2
  let c0_i32_312_r0 : BitVec 32 := 0#32
  ![v5.toNat, 0]
def k1_off258 (i : grid1.Coords) (c0_i32_3 : BitVec 32) : Fin 3 → Nat :=
  let c4096_i32 : BitVec 32 := 4096#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c384_i32 : BitVec 32 := 384#32
  let v6 : BitVec 32 := Scalar.muli v1 c384_i32
  let v7 : BitVec 32 := Scalar.addi c4096_i32 v6
  let v9 : BitVec 32 := Scalar.addi v7 c0_i32_3
  let c8_i32_4 : BitVec 32 := 8#32
  let v10 : BitVec 32 := Scalar.muli v9 c8_i32_4
  let c0_i32_5 : BitVec 32 := 0#32
  let c0_i32_6 : BitVec 32 := 0#32
  ![v10.toNat, 0, 0]
def k1_off259 (i : grid1.Coords) (c0_i32_19 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v8 : BitVec 32 := Scalar.muli v1 c128_i32
  let v21 : BitVec 32 := Scalar.addi v8 c0_i32_19
  let c8_i32_20 : BitVec 32 := 8#32
  let v22 : BitVec 32 := Scalar.muli v21 c8_i32_20
  let c0_i32_312_r1 : BitVec 32 := 0#32
  let c0_i32_313_r1 : BitVec 32 := 0#32
  ![v22.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x16x128 : Shape := ⟨3, ![4096, 16, 128]⟩
abbrev S1024x16x16x128 : Shape := ⟨4, ![1024, 16, 16, 128]⟩
abbrev S4096 : Shape := ⟨1, ![4096]⟩
abbrev S1 : Shape := ⟨1, ![1]⟩
abbrev S16384x16x128 : Shape := ⟨3, ![16384, 16, 128]⟩
abbrev S_ : Shape := ⟨0, ![]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x16x128, .f32⟩
  | .hbm, ⟨1, _⟩ => ⟨S4096x16x128, .f32⟩
  | .hbm, ⟨2, _⟩ => ⟨S1024x16x16x128, .f32⟩
  | .hbm, ⟨3, _⟩ => ⟨S1024x16x16x128, .f32⟩
  | .hbm, ⟨4, _⟩ => ⟨S4096, .i32⟩
  | .hbm, ⟨5, _⟩ => ⟨S1, .f32⟩
  | .hbm, ⟨6, _⟩ => ⟨S1, .f32⟩
  | .hbm, ⟨7, _⟩ => ⟨S16384x16x128, .f32⟩
  | .hbm, ⟨8, _⟩ => ⟨S16384x16x128, .f32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S16384x16x128, .f32⟩
  | .hbm, ⟨18, _⟩ => ⟨S1024x16x16x128, .f32⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096, .i32⟩
  | .hbm, ⟨26, _⟩ => ⟨S4096x1, .i32⟩
  | .hbm, ⟨27, _⟩ => ⟨S16384x16x128, .f32⟩
  | .hbm, ⟨28, _⟩ => ⟨S1024x16x16x128, .f32⟩
  | _, _ => ⟨S4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Proof.Base.lean ====
/-
  The setting shared by the modules of this certificate: the resource algebra, the memory references the vector
  subcore's task works on, the thread a task runs on, and the two small facts about sequencing that every later module
  uses. Everything is stated over any float values `F`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.SparseCore.Scatter
public import Idealize.ShloMosaic.Lib.Batch
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

/-- The labels of the program without its SparseCore call. -/
abbrev ΛP : Labels := Pipeline.Sig Λ₀ (Fin 1) fun p => (pcfgs (F := F) p).Adm
/-- The SparseCore call. -/
abbrev K : SparseCore.Cfg τ sig (ΛP (F := F)) 1 := sc (F := F)
/-- The call runs on both SparseCores. -/
theorem nCore_zero : (K (F := F)).nCore 0 = 2 := rfl
/-- Each SparseCore runs sixteen tasks. -/
theorem nSub_zero : (K (F := F)).nSub 0 = 16 := rfl
/-- The definitions the call's threads run under. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake's semaphores are distinct and unscoped, and no buffer is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
/-- The handshakes' rounds, the rounds of the TensorCore's windows, and the counters of the transfers. -/
abbrev UU : Type := UH × (UR sig nD τ × Counters)

local notation "𝕄" => MT nD τ sig (HIx 1) (Elt F) ℕ UU ℕ

abbrev EH : Emb UH (MT nD τ sig (HIx 1) (Elt F) ℕ UU ℕ) := embL
/-- Where the rounds of the TensorCore's windows live. -/
abbrev EP : Emb (UR sig nD τ) (MT nD τ sig (HIx 1) (Elt F) ℕ UU ℕ) := (Emb.inl : Emb (UR sig nD τ) (UR sig nD τ × Counters)).trans embR
instance EP_landsIn : (EP (F := F)).LandsIn (upEmb : UEmb _ 𝕄) := by unfold EP; infer_instance

/-! ## The task's memory references -/

/-- The rows of the key, two hundred and fifty-six words each. -/
abbrev kM : Memref sig Kind.scVector Space.hbm S32768x2x128 EltTy.f32 := Memref.whole main_v10_scv
/-- The list of destination rows. -/
abbrev lM : Memref sig Kind.scVector Space.hbm S256x128 EltTy.i32 := Memref.whole main_v9_scv
/-- The rows of the new key cache. -/
abbrev oM : Memref sig Kind.scVector Space.hbm S131072x2x128 EltTy.f32 := Memref.whole main_v11_scv
/-- The block of zeros. -/
abbrev zB : Memref sig Kind.scVector Space.vmem S128x2x128 EltTy.f32 := Memref.whole cc1_scratch0
/-- The block of key rows in transit. -/
abbrev kB : Memref sig Kind.scVector Space.vmem S128x2x128 EltTy.f32 := Memref.whole cc1_scratch1
/-- The task's eight lists. -/
abbrev lB : Memref sig Kind.scVector Space.vmem S8x128 EltTy.i32 := Memref.whole cc1_scratch2

abbrev cV (L : grid1.Coords) : Fin τ.nSC := (L 0).castLE hcore1
abbrev jV (L : grid1.Coords) : Fin τ.nSub := (L 1).castLE hsub1
/-- The thread of the task at `L` on device `d`. -/
abbrev thr (d : Dev nD) (L : grid1.Coords) : Thread nD τ := V d (cV L) (jV L)

/-- The task's number, `0 … 31`. -/
def wid (L : grid1.Coords) : ℕ := 2 * (L 1).val + (L 0).val

theorem wid_lt (L : grid1.Coords) : wid L < 32 := by
  have h0 : (L 0).val < 2 := (L 0).isLt
  have h1 : (L 1).val < 16 := (L 1).isLt
  unfold wid; omega

/-! ## Sequencing -/

/-- The weakest precondition of a program of the task at `L`. -/
abbrev tp {α : Type} (d : Dev nD) (L : grid1.Coords)
    (p : Prog (TpuEff nD τ sig (Elt F) Λ₀ (.scVector (cV L) (jV L))) α) (Q : α → sProp 𝕄) : sProp 𝕄 :=
  wp frame (wpE (defs₀ (F := F)) 𝒱₀ (thr d L) none) Set.univ p Q

/-- A program then its continuation. -/
theorem tp_seq {α β : Type} (d : Dev nD) (L : grid1.Coords) {p : Prog (TpuEff nD τ sig (Elt F) Λ₀ (.scVector (cV L) (jV L))) α}
    {k : α → Prog (TpuEff nD τ sig (Elt F) Λ₀ (.scVector (cV L) (jV L))) β} {A : sProp 𝕄} {B : α → sProp 𝕄} {Q : β → sProp 𝕄}
    (hp : A ⊢ tp d L p B) (hk : ∀ a, B a ⊢ tp d L (k a) Q) : A ⊢ tp d L (p >>= k) Q := by
  refine hp.trans ?_
  unfold tp
  rw [wp_bind]
  exact wp_mono frame _ _ hk

/-- A program that only returns. -/
theorem tp_ret {α : Type} (d : Dev nD) (L : grid1.Coords) {a : α} {A : sProp 𝕄} {Q : α → sProp 𝕄} (h : A ⊢ Q a) :
    A ⊢ tp d L (pure a) Q := by
  refine h.trans ?_
  unfold tp
  rw [wp_pure]
  exact fupd_intro

end Cert.Proof.Cache

end
-- ==== Proof.VBody.lean ====
/-
  The body of the kernel on the TensorCore, which writes the new value cache block by block: at the first ninety-six
  grid points it stores a block of zeros, at the last thirty-two it copies its block of the value.
-/
module

public import proofs.«01_k».proof.Proof.Base

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.TcCoe
open Idealize.ShloMosaic.Pipeline (Dat Cfg Window BodyObligationLoose)

/-! ## The kernel on the TensorCore: its body -/

/-- At a grid point below ninety-six the body stores zeros. -/
theorem cond1_iff (i : grid0.Coords) : k0_cond1 i = 1#1 ↔ (i 0).val < 96 := by
  have h : ∀ n : Fin 128, (Scalar.cmpi .ne (Scalar.extui (Scalar.cmpi .slt (BitVec.ofNat 32 n.val) 96#32) : BitVec 32) 0#32 = 1#1) ↔ n.val < 96 := by
    decide +kernel
  exact h (i 0)

/-- From ninety-six on it copies its block. -/
theorem cond2_iff (i : grid0.Coords) : k0_cond2 i = 1#1 ↔ 96 ≤ (i 0).val := by
  have h : ∀ n : Fin 128, (Scalar.cmpi .ne (Scalar.extui (Scalar.cmpi .sge (BitVec.ofNat 32 n.val) 96#32) : BitVec 32) 0#32 = 1#1) ↔ 96 ≤ n.val := by
    decide +kernel
  exact h (i 0)

/-- What the body leaves in the result's staging buffer when the value's holds `X`. -/
def vout (i : grid0.Coords) (X : S128x16x128.Idx → Elt F .f32) : S128x16x128.Idx → Elt F .f32 :=
  if (i 0).val < 96 then k0_pay1 (F := F) else X

/-- The body on its two staging buffers: the value's stays as it was, the result's ends at zeros or at the value's. -/
theorem vbody (c : Dev nD) (E : Set ℕ) (i : grid0.Coords) (s0 s1 : Fin 2)
    (h1 : (Memref.whole main_arg4).IsWhole)
    (X0 X1 : S128x16x128.Idx → Elt F .f32) (Q : PUnit → sProp 𝕄) :
    iprop((owns (c : Thread nD τ) (spec0_0.stage s0) fullShare X0 ∗ owns (c : Thread nD τ) (spec0_1.stage s1) fullShare X1)
          ∗ (iprop(owns (c : Thread nD τ) (spec0_0.stage s0) fullShare X0 ∗ owns (c : Thread nD τ) (spec0_1.stage s1) fullShare (vout i X0)) -∗ Q ⟨⟩))
      ⊢ wp frame (wpE (defs₀ (F := F)) 𝒱₀ c none) E
          (cc0_body i (Memref.whole main_arg4) h1 (spec0_0.stage s0) (hstage0_0 s0) (spec0_1.stage s1) (hstage0_1 s1)) Q := by
  have hz : (![0, 0, 0] : Fin 3 → Nat) = fun _ => 0 := funext fun a => by fin_cases a <;> rfl
  by_cases hc : (i 0).val < 96
  · have c1 : k0_cond1 i = 1#1 := (cond1_iff i).mpr hc
    have c2 : ¬ k0_cond2 i = 1#1 := fun h => absurd ((cond2_iff i).mp h) (by omega)
    have hv : vout i X0 = k0_pay1 (F := F) := if_pos hc
    fin_cases s0 <;> fin_cases s1
    · have hr0 : (Memref.whole cc0_stg0_0 : Memref sig .tc _ _ _).view.readAt (Elt F) (Rect.unit (s := S128x16x128) ![0, 0, 0] S128x16x128.size
          inb_S128x16x128_S128x16x128_0_0_0).toLoadRect = id := funext (Memref.readAt_unit_zero (Elt F) cc0_stg0_0 hz _)
      have hw1 : ∀ f w, (((Memref.whole cc0_stg1_0).access (Rect.unit (s := S128x16x128) ![0, 0, 0] S128x16x128.size inb_S128x16x128_S128x16x128_0_0_0)) :
          View sig .tc _ _ _).write (Elt F) f w Finset.univ = w := Memref.write_access_unit_zero_univ (Elt F) cc0_stg1_0 hz _
      rw [hv]
      simp only [owns_whole_eq, cc0_body_eq_skeleton]; unfold cc0_body_skel
      rw [dif_pos c1, dif_neg c2]
      simp only [Prog.lift, Prog.bind_op, Prog.bind_ret, pure_bind]
      iintro ⟨⟨⟨%f0, %hf0, H0⟩, ⟨%f1, %hf1, H1⟩⟩, Hk⟩
      sl_steps
      iapply Hk
      rw [hw1]
      isplitl [H0]
      · iexists f0; isplitr; · ipureintro; exact hf0
        iexact H0
      · iexists _; isplitr; swap; (· iexact H1); ipureintro; rfl
    · have hr0 : (Memref.whole cc0_stg0_0 : Memref sig .tc _ _ _).view.readAt (Elt F) (Rect.unit (s := S128x16x128) ![0, 0, 0] S128x16x128.size
          inb_S128x16x128_S128x16x128_0_0_0).toLoadRect = id := funext (Memref.readAt_unit_zero (Elt F) cc0_stg0_0 hz _)
      have hw1 : ∀ f w, (((Memref.whole cc0_stg1_1).access (Rect.unit (s := S128x16x128) ![0, 0, 0] S128x16x128.size inb_S128x16x128_S128x16x128_0_0_0)) :
          View sig .tc _ _ _).write (Elt F) f w Finset.univ = w := Memref.write_access_unit_zero_univ (Elt F) cc0_stg1_1 hz _
      rw [hv]
      simp only [owns_whole_eq, cc0_body_eq_skeleton]; unfold cc0_body_skel
      rw [dif_pos c1, dif_neg c2]
      simp only [Prog.lift, Prog.bind_op, Prog.bind_ret, pure_bind]
      iintro ⟨⟨⟨%f0, %hf0, H0⟩, ⟨%f1, %hf1, H1⟩⟩, Hk⟩
      sl_steps
      iapply Hk
      rw [hw1]
      isplitl [H0]
      · iexists f0; isplitr; · ipureintro; exact hf0
        iexact H0
      · iexists _; isplitr; swap; (· iexact H1); ipureintro; rfl
    · have hr0 : (Memref.whole cc0_stg0_1 : Memref sig .tc _ _ _).view.readAt (Elt F) (Rect.unit (s := S128x16x128) ![0, 0, 0] S128x16x128.size
          inb_S128x16x128_S128x16x128_0_0_0).toLoadRect = id := funext (Memref.readAt_unit_zero (Elt F) cc0_stg0_1 hz _)
      have hw1 : ∀ f w, (((Memref.whole cc0_stg1_0).access (Rect.unit (s := S128x16x128) ![0, 0, 0] S128x16x128.size inb_S128x16x128_S128x16x128_0_0_0)) :
          View sig .tc _ _ _).write (Elt F) f w Finset.univ = w := Memref.write_access_unit_zero_univ (Elt F) cc0_stg1_0 hz _
      rw [hv]
      simp only [owns_whole_eq, cc0_body_eq_skeleton]; unfold cc0_body_skel
      rw [dif_pos c1, dif_neg c2]
      simp only [Prog.lift, Prog.bind_op, Prog.bind_ret, pure_bind]
      iintro ⟨⟨⟨%f0, %hf0, H0⟩, ⟨%f1, %hf1, H1⟩⟩, Hk⟩
      sl_steps
      iapply Hk
      rw [hw1]
      isplitl [H0]
      · iexists f0; isplitr; · ipureintro; exact hf0
        iexact H0
      · iexists _; isplitr; swap; (· iexact H1); ipureintro; rfl
    · have hr0 : (Memref.whole cc0_stg0_1 : Memref sig .tc _ _ _).view.readAt (Elt F) (Rect.unit (s := S128x16x128) ![0, 0, 0] S128x16x128.size
          inb_S128x16x128_S128x16x128_0_0_0).toLoadRect = id := funext (Memref.readAt_unit_zero (Elt F) cc0_stg0_1 hz _)
      have hw1 : ∀ f w, (((Memref.whole cc0_stg1_1).access (Rect.unit (s := S128x16x128) ![0, 0, 0] S128x16x128.size inb_S128x16x128_S128x16x128_0_0_0)) :
          View sig .tc _ _ _).write (Elt F) f w Finset.univ = w := Memref.write_access_unit_zero_univ (Elt F) cc0_stg1_1 hz _
      rw [hv]
      simp only [owns_whole_eq, cc0_body_eq_skeleton]; unfold cc0_body_skel
      rw [dif_pos c1, dif_neg c2]
      simp only [Prog.lift, Prog.bind_op, Prog.bind_ret, pure_bind]
      iintro ⟨⟨⟨%f0, %hf0, H0⟩, ⟨%f1, %hf1, H1⟩⟩, Hk⟩
      sl_steps
      iapply Hk
      rw [hw1]
      isplitl [H0]
      · iexists f0; isplitr; · ipureintro; exact hf0
        iexact H0
      · iexists _; isplitr; swap; (· iexact H1); ipureintro; rfl
  · have c1 : ¬ k0_cond1 i = 1#1 := fun h => hc ((cond1_iff i).mp h)
    have c2 : k0_cond2 i = 1#1 := (cond2_iff i).mpr (by omega)
    have hv : vout i X0 = X0 := if_neg hc
    fin_cases s0 <;> fin_cases s1
    · have hr0 : (Memref.whole cc0_stg0_0 : Memref sig .tc _ _ _).view.readAt (Elt F) (Rect.unit (s := S128x16x128) ![0, 0, 0] S128x16x128.size
          inb_S128x16x128_S128x16x128_0_0_0).toLoadRect = id := funext (Memref.readAt_unit_zero (Elt F) cc0_stg0_0 hz _)
      have hw1 : ∀ f w, (((Memref.whole cc0_stg1_0).access (Rect.unit (s := S128x16x128) ![0, 0, 0] S128x16x128.size inb_S128x16x128_S128x16x128_0_0_0)) :
          View sig .tc _ _ _).write (Elt F) f w Finset.univ = w := Memref.write_access_unit_zero_univ (Elt F) cc0_stg1_0 hz _
      rw [hv]
      simp only [owns_whole_eq, cc0_body_eq_skeleton]; unfold cc0_body_skel
      rw [dif_neg c1, dif_pos c2]
      simp only [Prog.lift, Prog.bind_op, Prog.bind_ret, pure_bind]
      iintro ⟨⟨⟨%f0, %hf0, H0⟩, ⟨%f1, %hf1, H1⟩⟩, Hk⟩
      sl_steps
      iapply Hk
      rw [hr0, hw1]
      isplitl [H0]
      · iexists f0; isplitr; · ipureintro; exact hf0
        iexact H0
      · iexists _; isplitr; swap; (· iexact H1); ipureintro; exact hf0
    · have hr0 : (Memref.whole cc0_stg0_0 : Memref sig .tc _ _ _).view.readAt (Elt F) (Rect.unit (s := S128x16x128) ![0, 0, 0] S128x16x128.size
          inb_S128x16x128_S128x16x128_0_0_0).toLoadRect = id := funext (Memref.readAt_unit_zero (Elt F) cc0_stg0_0 hz _)
      have hw1 : ∀ f w, (((Memref.whole cc0_stg1_1).access (Rect.unit (s := S128x16x128) ![0, 0, 0] S128x16x128.size inb_S128x16x128_S128x16x128_0_0_0)) :
          View sig .tc _ _ _).write (Elt F) f w Finset.univ = w := Memref.write_access_unit_zero_univ (Elt F) cc0_stg1_1 hz _
      rw [hv]
      simp only [owns_whole_eq, cc0_body_eq_skeleton]; unfold cc0_body_skel
      rw [dif_neg c1, dif_pos c2]
      simp only [Prog.lift, Prog.bind_op, Prog.bind_ret, pure_bind]
      iintro ⟨⟨⟨%f0, %hf0, H0⟩, ⟨%f1, %hf1, H1⟩⟩, Hk⟩
      sl_steps
      iapply Hk
      rw [hr0, hw1]
      isplitl [H0]
      · iexists f0; isplitr; · ipureintro; exact hf0
        iexact H0
      · iexists _; isplitr; swap; (· iexact H1); ipureintro; exact hf0
    · have hr0 : (Memref.whole cc0_stg0_1 : Memref sig .tc _ _ _).view.readAt (Elt F) (Rect.unit (s := S128x16x128) ![0, 0, 0] S128x16x128.size
          inb_S128x16x128_S128x16x128_0_0_0).toLoadRect = id := funext (Memref.readAt_unit_zero (Elt F) cc0_stg0_1 hz _)
      have hw1 : ∀ f w, (((Memref.whole cc0_stg1_0).access (Rect.unit (s := S128x16x128) ![0, 0, 0] S128x16x128.size inb_S128x16x128_S128x16x128_0_0_0)) :
          View sig .tc _ _ _).write (Elt F) f w Finset.univ = w := Memref.write_access_unit_zero_univ (Elt F) cc0_stg1_0 hz _
      rw [hv]
      simp only [owns_whole_eq, cc0_body_eq_skeleton]; unfold cc0_body_skel
      rw [dif_neg c1, dif_pos c2]
      simp only [Prog.lift, Prog.bind_op, Prog.bind_ret, pure_bind]
      iintro ⟨⟨⟨%f0, %hf0, H0⟩, ⟨%f1, %hf1, H1⟩⟩, Hk⟩
      sl_steps
      iapply Hk
      rw [hr0, hw1]
      isplitl [H0]
      · iexists f0; isplitr; · ipureintro; exact hf0
        iexact H0
      · iexists _; isplitr; swap; (· iexact H1); ipureintro; exact hf0
    · have hr0 : (Memref.whole cc0_stg0_1 : Memref sig .tc _ _ _).view.readAt (Elt F) (Rect.unit (s := S128x16x128) ![0, 0, 0] S128x16x128.size
          inb_S128x16x128_S128x16x128_0_0_0).toLoadRect = id := funext (Memref.readAt_unit_zero (Elt F) cc0_stg0_1 hz _)
      have hw1 : ∀ f w, (((Memref.whole cc0_stg1_1).access (Rect.unit (s := S128x16x128) ![0, 0, 0] S128x16x128.size inb_S128x16x128_S128x16x128_0_0_0)) :
          View sig .tc _ _ _).write (Elt F) f w Finset.univ = w := Memref.write_access_unit_zero_univ (Elt F) cc0_stg1_1 hz _
      rw [hv]
      simp only [owns_whole_eq, cc0_body_eq_skeleton]; unfold cc0_body_skel
      rw [dif_neg c1, dif_pos c2]
      simp only [Prog.lift, Prog.bind_op, Prog.bind_ret, pure_bind]
      iintro ⟨⟨⟨%f0, %hf0, H0⟩, ⟨%f1, %hf1, H1⟩⟩, Hk⟩
      sl_steps
      iapply Hk
      rw [hr0, hw1]
      isplitl [H0]
      · iexists f0; isplitr; · ipureintro; exact hf0
        iexact H0
      · iexists _; isplitr; swap; (· iexact H1); ipureintro; exact hf0

end Cert.Proof.Cache

end
-- ==== Proof.Region.lean ====
/-
  The region of the kernel on the TensorCore, entered while the core still owes the starts of the SparseCore call: the
  value's and the result's rows go in, the result's rows come out as the body wrote them block by block.
-/
module

public import proofs.«01_k».proof.Proof.VBody
public import Idealize.ShloMosaic.Lib.Pipeline.FrameBody

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.TcCoe
open Idealize.ShloMosaic.Pipeline (Dat Cfg Window BodyObligationLoose)

variable (a : (pcfg0 (F := F)).Adm) (x : (c : Dev nD) → Buf (Elt F) ((c : Thread nD τ).loc main_arg1))
  (y : (c : Dev nD) → Buf (Elt F) ((c : Thread nD τ).loc main_v0))

/-- The one region's tables. -/
abbrev adm : (p : Fin 1) → (pcfgs (F := F) p).Adm := fun _ => a

/-- The value's block at grid point `t`. -/
def vblk (c : Dev nD) (t : Fin (cfg0 a).N) : S128x16x128.Idx → Elt F .f32 :=
  (((cfg0 a).win 0).blk t).view.read (Elt F) (x c)

/-- What the TensorCore has waited for before its first launch of the SparseCore call. -/
def waited (c : Dev nD) : Set (SemLoc sig × HIx 1) := {p | (K (F := F)).lev (T c, p.1) p.2 ≤ 8 * (inferInstance : SparseCore.Cfg.Blocks 1 1).fst 0}

/-- The region's data: the value and the result at what they hold on entry; after the body the value's staging buffer
    at its block, the result's at what the body stores; the list of slots held throughout. The core owes the starts of
    the SparseCore call. -/
def vdat (c : Dev nD) : Dat τ (Elt F) (HIx 1) ℕ UU ℕ (Pipeline.pin (pcfgs (F := F)) (adm a) 0) c where
  A w := match w with
    | ⟨0, _⟩ => x c
    | ⟨1, _⟩ => y c
  after w t := match w with
    | ⟨0, _⟩ => vblk a x c t
    | ⟨1, _⟩ => vout (grid0.coords t) (vblk a x c t)
  Φ _ := Pipeline.prefHeld pre0 c (fun _ => fullShare) a.1
  q _ := fullShare
  owed _ := (K (F := F)).Otc c 0
  recorded _ := waited (F := F) c

/-- The same, for every region. -/
def vdats : (p : Fin 1) → (c : Dev nD) → Dat τ (Elt F) (HIx 1) ℕ UU ℕ (Pipeline.pin (pcfgs (F := F)) (adm a) p) c
  | ⟨0, _⟩ => fun c => vdat a x y c

theorem vbefore (c : Dev nD) (t : Fin (cfg0 a).N) (d) : (vdat a x y c).before (0 : Fin 2) t d = vblk a x c t :=
  (vdat a x y c).before_in_eq_fetched 0 rfl (fun _ => rfl) (fun _ _ _ => rfl) (fun _ => rfl) t d

/-- The body's obligation at every grid point. -/
theorem vobl (c : Dev nD) : BodyObligationLoose (vdat a x y c) (defs₀ (F := F)) 𝒱₀ none Set.univ := fun t => by
  rw [bigSep_W0, bigSep_W0]
  have hidle : (Pipeline.pin (pcfgs (F := F)) (adm a) 0).idle (1 : Fin 2) ((Pipeline.pin (pcfgs (F := F)) (adm a) 0).grid.coords t) = false := by
    show (!(k0_cond1 (grid0.coords t) == 1#1) && !(k0_cond2 (grid0.coords t) == 1#1)) = false
    by_cases h : (grid0.coords t 0).val < 96
    · rw [(cond1_iff _).mpr h]; rfl
    · rw [(cond2_iff _).mpr (by omega)]; simp
  rw [hidle]
  iintro ⟨HΦ, Howes, ⟨%d0, H0⟩, ⟨%d1, H1⟩⟩
  rw [vbefore]
  iapply (vbody (F := F) c Set.univ (grid0.coords t) ((cfg0 a).slots t 0) ((cfg0 a).slots t 1) (Memref.isWhole_whole _) (vblk a x c t) _ _)
  isplitl [H0 H1]
  · isplitl [H0]; · iexact H0
    iexact H1
  iintro ⟨H0, H1⟩
  rw [show (vdat a x y c).Φ t.succ = (vdat a x y c).Φ t.castSucc from rfl]
  isplitl [HΦ]; · iexact HΦ
  isplitl [Howes]; · iexact Howes
  isplitl [H0]; · iexact H0
  iexact H1

/-- The TensorCore owes nothing at the index its own waits use. -/
theorem Otc_none (c : Dev nD) (n : ℕ) (g : GSem nD τ sig) : (K (F := F)).Otc (N := 1) c n g none = 0 := by
  by_contra h
  have h1 := (K (F := F)).lev_of_Otc_pos (Nat.pos_of_ne_zero h)
  have h2 : (K (F := F)).lev g none = 0 := rfl
  omega

/-- What the new value cache's rows hold after the region. -/
def vnew (c : Dev nD) : Buf (Elt F) ((c : Thread nD τ).loc main_v0) := (vdat a x y c).arrAt (1 : Fin 2) (cfg0 a).N

/-- What the region is entered from and left at: the value, the result's rows, the slots, what the core owes. -/
def vst (c : Dev nD) (y : (c : Dev nD) → Buf (Elt F) ((c : Thread nD τ).loc main_v0)) : sProp 𝕄 :=
  iprop(((c : Thread nD τ).loc main_arg1 ↦{fullShare} x c) ∗ ((c : Thread nD τ).loc main_v0 ↦{fullShare} y c)
    ∗ Pipeline.prefHeld pre0 c (fun _ => fullShare) a.1
    ∗ ∃ W, ⌜(K (F := F)).WBelow (T c) W (8 * (inferInstance : SparseCore.Cfg.Blocks 1 1).fst 0)⌝ ∗ owes (T c) ((K (F := F)).Otc c 0) W)

set_option backward.isDefEq.respectTransparency.types false in
/-- The two arrays as the region holds them. -/
theorem varrays (c : Dev nD) (G : (w : Fin 2) → Buf (Elt F) ((spec0 w).arr.view.loc (c : Thread nD τ))) :
    ((vdats a x y 0 c).arrays G : sProp 𝕄)
      = iprop(((c : Thread nD τ).loc main_arg1 ↦{fullShare} G 0) ∗ ((c : Thread nD τ).loc main_v0 ↦{fullShare} G 1)) := by
  rw [Pipeline.arrays_eq (Pipeline.pin (pcfgs (F := F)) (adm a)) (vdats a x y) 0 c (launch0 (F := F)).arr_whole
    ((vdats a x y 0 c).share_full fun _ => rfl)]
  exact bigSep_W0 _

set_option backward.isDefEq.respectTransparency.types false in
/-- The region. -/
def vreg : Pipeline.RegionSeg (pcfgs (F := F)) (adm a) (vdats a x y) none defs₀ 𝒱₀ (K (F := F)).L (K (F := F)).lev 0 where
  win := (launch0 (F := F)).win.to₀
  block_pos := (launch0 (F := F)).block_pos
  stage_whole := (launch0 (F := F)).stage_whole
  K := PEmpty
  osem k := k.elim
  ho := Pipeline.OwnSemFacts.none _
  hbody c := vobl a x y c
  hwaits c := Pipeline.cellsWaits_intro _ _ _ _ _ fun w s t => (K (F := F)).mayWait_none _ (Otc_none c 0)
  pre c := vst a x c y
  post c := vst a x c (vnew a x y)
  X _ := BI.emp
  Y c := Pipeline.prefHeld pre0 c (fun _ => fullShare) a.1
  Z _ := BI.emp
  hentry c := by
    rw [Pipeline.ownSems0_none, varrays]
    unfold vst
    iintro ⟨⟨Hx, Hy, Hp, %W, %hW, HO⟩, -, -⟩
    imodintro
    isplitl [Hx Hy]; · isplitl [Hx]; · iexact Hx
                       iexact Hy
    isplitl [Hp]; · iexact Hp
    isplitl [HO]
    · unfold Pipeline.Dat.owesAt Pipeline.owesWithin
      iexists W; isplitr; · ipureintro; exact fun p hp => Or.inl (hW p hp)
      iexact HO
    isplitr; · iempintro
    iempintro
  hin c := by
    rw [show (vdats a x y 0 c).Φ 0 = Pipeline.prefHeld pre0 c (fun _ => fullShare) a.1 from rfl]
    iintro ⟨-, Hp, -⟩; iexact Hp
  hout c := by
    rw [Pipeline.ownSems0_none, show (vdats a x y 0 c).Φ (Fin.last _) = Pipeline.prefHeld pre0 c (fun _ => fullShare) a.1 from rfl]
    iintro Hp
    isplitl [Hp]; · iexact Hp
    isplitr; · iempintro
    iapply (Entails.of_eq (scopedRest0_eq c).symm)
    iempintro
  hexit c := by
    rw [varrays]
    unfold vst
    iintro ⟨⟨Hx, Hy⟩, HO, Hp, -⟩
    imodintro
    isplitl [Hx]
    · iapply (Entails.of_eq (congrArg (fun f => ((c : Thread nD τ).loc main_arg1 ↦{fullShare} f : sProp 𝕄)) ((vdats a x y 0 c).arrAt_in 0 rfl _)))
      iexact Hx
    isplitl [Hy]; · iexact Hy
    isplitl [Hp]; · iexact Hp
    unfold Pipeline.Dat.owesAt Pipeline.owesWithin
    icases HO with ⟨%W, %hW, HO⟩
    iexists W; isplitr
    · ipureintro
      intro p hp
      rcases hW hp with h | ⟨w, s, h⟩
      · exact h
      · rw [h]; exact Nat.zero_le _
    iexact HO

end Cert.Proof.Cache

end
-- ==== Proof.VCall.lean ====
/-
  The kernel on the TensorCore as the program's first statement.
-/
module

public import proofs.«01_k».proof.Proof.Region

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.TcCoe

variable [∀ e, Nonempty (Elt F e)]
variable (a : (pcfg0 (F := F)).Adm) (x : (c : Dev nD) → Buf (Elt F) ((c : Thread nD τ).loc main_arg1))
  (y : (c : Dev nD) → Buf (Elt F) ((c : Thread nD τ).loc main_v0))

/-- The tokens the region's windows start from. -/
def vghost (c : Dev nD) : sProp 𝕄 :=
  iprop(Pipeline.cellsGhost (Pipeline.pin (pcfgs (F := F)) (adm a)) EP 0 c ∗ Pipeline.toksInit (Pipeline.pin (pcfgs (F := F)) (adm a)) EP 0 c)

/-- The region's statement, without the SparseCore call's labels. -/
def ventry : Prog (TpuEff nD τ sig (Elt F) (ΛP (F := F)) .tc) PUnit := .op (.customCall (Pipeline.entry 0) ()) .ret

theorem ventry_eq : (Prog.lift (.customCall (SparseCore.inner (Pipeline.entry 0)) ()) :
      Prog (TpuEff nD τ sig (Elt F) (SparseCore.Sig (ΛP (F := F)) 1) .tc) PUnit)
    = SparseCore.liftProg (ventry (F := F)) := rfl

/-- The region, as the first statement of the program on the TensorCore. -/
theorem vcall (c : Dev nD) (Q : PUnit → sProp 𝕄) :
    iprop((iprop(boundary (T c) ∗ vst a x c (vnew a x y)) -∗ Q ⟨⟩)
        ∗ boundary (T c) ∗ vst a x c y ∗ levAts (K (F := F)).L (K (F := F)).lev ∗ vghost a c)
      ⊢ wp frame (wpE ((K (F := F)).defs (D (F := F))) 𝒱 (T c) none) Set.univ
          (Prog.lift (.customCall (SparseCore.inner (Pipeline.entry 0)) ())) Q := by
  rw [ventry_eq]
  refine BIBase.Entails.trans ?_ ((K (F := F)).wp_liftProg (D (F := F)) 𝒱 (T c) Set.univ none (ventry (F := F)) Q)
  unfold ventry
  have hw := Pipeline.RegionSeg.wp (pcfgs (F := F)) (adm a) (vdats a x y) none (Gen.cellOf_inj (adm a)) EP defs₀ 𝒱₀
    (K (F := F)).L (K (F := F)).lev (p := 0) (vreg a x y) c none (fun _ h => nomatch h) .ret Q
  refine BIBase.Entails.trans ?_ hw
  rw [show (vreg a x y).pre c = vst a x c y from rfl, show (vreg a x y).post c = vst a x c (vnew a x y) from rfl]
  unfold vghost
  iintro ⟨HQ, Hb, Hv, Hl, Hg, Ht⟩
  isplitl [HQ]
  · iintro H
    rw [wp_ret]
    imodintro
    iapply HQ; iexact H
  isplitl [Hb]; · iexact Hb
  isplitl [Hv]; · iexact Hv
  isplitl [Hl]; · iexact Hl
  isplitl [Hg]; · iexact Hg
  iexact Ht

end Cert.Proof.Cache

end
-- ==== Proof.Memset.lean ====
/-
The block of zeros: the state of its fill, and what one load and one store of the fill do to it.
-/
module

public import proofs.«01_k».proof.Proof.Base

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The zero the block is filled with. -/
def z0 : Elt F EltTy.f32 := (Scalar.ofBits .f32 0x00000000#32 : F .f32)

/-- The block of zeros part way through the fill: every lane of the first `k` groups of sixteen is zero, and in group
    `k` the first `n` of the two hundred and fifty-six pairs (row, half) are. -/
def Zst (d : Dev nD) (L : grid1.Coords) (k n : ℕ) : sProp 𝕄 :=
  iprop(∃ f : Buf (Elt F) (zB.view.loc (thr d L)),
    ⌜∀ x : S128x2x128.Idx, ((x 2).val < 16 * k ∨ ((x 2).val < 16 * k + 16 ∧ 2 * (x 0).val + (x 1).val < n)) → f x = z0 (F := F)⌝
      ∗ (zB.view.loc (thr d L) ↦[Finset.univ]{fullShare} f))

/-- A fact beside a resource is a hypothesis. -/
theorem pureL {φ : Prop} {P Q : sProp 𝕄} (h : φ → P ⊢ Q) : iprop(⌜φ⌝ ∗ P) ⊢ Q := by
  iintro ⟨%hp, H⟩
  iapply (h hp)
  iexact H

/-- A load of the block leaves it as it is. -/
theorem zload {d : Dev nD} {L : grid1.Coords} {α : Type} {k n : ℕ} {r : LoadRect S128x2x128} {hl : (zB).view.LoadsAt r}
    {κ : (r.shape.Idx → Elt F .f32) → Prog (TpuEff nD τ sig (Elt F) Λ₀ (.scVector (cV L) (jV L))) α} {Q : α → sProp 𝕄}
    (h : ∀ v, Zst (F := F) d L k n ⊢ tp d L (κ v) Q) :
    Zst (F := F) d L k n ⊢ tp d L (Prog.lift (.load zB r hl) >>= κ) Q := by
  unfold Zst at *
  iintro HZ
  icases HZ with ⟨%f, %hf, Hz⟩
  iapply (wp_load 𝒱₀ (thr d L) none Set.univ (m := zB) (Finset.subset_univ _)) $$ Hz
  iintro Hz
  iapply (h _)
  iexists f
  isplitr
  · ipureintro; exact hf
  · iexact Hz

/-- What a store of zeros at the pair `n` of the group `k` leaves. -/
theorem zwrite {k n : ℕ} (hn : n < 256) {off : Fin 3 → ℕ} {inb : ∀ a, off a + S1x1x16.size a ≤ S128x2x128.size a}
    (ho : off = ![n / 2, n % 2, 16 * k]) {pay : S1x1x16.Idx → Elt F .f32} (hp : ∀ y, pay y = z0 (F := F))
    (f : zB.view.ty.Contents (Elt F))
    (hf : ∀ x : S128x2x128.Idx, ((x 2).val < 16 * k ∨ ((x 2).val < 16 * k + 16 ∧ 2 * (x 0).val + (x 1).val < n)) → f x = z0 (F := F))
    (x : S128x2x128.Idx) (hx : (x 2).val < 16 * k ∨ ((x 2).val < 16 * k + 16 ∧ 2 * (x 0).val + (x 1).val < n + 1)) :
    (zB.access (Rect.unit (s := S128x2x128) off S1x1x16.size inb)).write (Elt F) f pay Finset.univ x = z0 (F := F) := by
  by_cases hm : x ∈ (Rect.unit (s := S128x2x128) off S1x1x16.size inb).set
  · obtain ⟨y, rfl⟩ := LoadRect.exists_idx_of_mem _ hm
    exact (View.write_emb_of_mem (v := zB.access (Rect.unit (s := S128x2x128) off S1x1x16.size inb)) (Val := Elt F) f pay
      (Finset.mem_univ y)).trans (hp y)
  · refine (View.write_of_not_mem (v := zB.access (Rect.unit (s := S128x2x128) off S1x1x16.size inb)) f pay Finset.univ ?_).trans
      (hf x ?_)
    · intro hc
      obtain ⟨y, -, rfl⟩ := Finset.mem_map.mp hc
      exact hm (LoadRect.idx_mem _ y)
    · rcases hx with hx | ⟨h1, h2⟩
      · exact .inl hx
      · by_cases h3 : (x 2).val < 16 * k
        · exact .inl h3
        refine .inr ⟨h1, ?_⟩
        by_contra h4
        refine hm (Rect.mem_set_unit.mpr ?_)
        subst ho
        have hx1 : (x 1).val < 2 := (x 1).isLt
        intro a
        fin_cases a
        · show n / 2 ≤ (x 0).val ∧ (x 0).val < n / 2 + 1
          omega
        · show n % 2 ≤ (x 1).val ∧ (x 1).val < n % 2 + 1
          omega
        · show 16 * k ≤ (x 2).val ∧ (x 2).val < 16 * k + 16
          omega

/-- A store of zeros at the next pair takes the fill one pair further. -/
theorem zstore {d : Dev nD} {L : grid1.Coords} {α : Type} {k n : ℕ} (hn : n < 256) {off : Fin 3 → ℕ}
    {inb : ∀ a, off a + S1x1x16.size a ≤ S128x2x128.size a}
    (ho : off = ![n / 2, n % 2, 16 * k]) {pay : S1x1x16.Idx → Elt F .f32} (hp : ∀ y, pay y = z0 (F := F))
    {hx : (zB.access (Rect.unit (s := S128x2x128) off S1x1x16.size inb)).Stores Finset.univ} {hm}
    {κ : PUnit → Prog (TpuEff nD τ sig (Elt F) Λ₀ (.scVector (cV L) (jV L))) α} {Q : α → sProp 𝕄}
    (h : Zst (F := F) d L k (n + 1) ⊢ tp d L (κ ⟨⟩) Q) :
    Zst (F := F) d L k n ⊢ tp d L (Prog.lift (.store zB (Rect.unit (s := S128x2x128) off S1x1x16.size inb) pay Finset.univ hx hm) >>= κ) Q := by
  unfold Zst at *
  iintro HZ
  icases HZ with ⟨%f, %hf, Hz⟩
  iapply (wp_store 𝒱₀ (thr d L) none Set.univ (m := zB) (r := Rect.unit (s := S128x2x128) off S1x1x16.size inb)
    (Mk := Finset.univ) (Finset.subset_univ _)) $$ Hz
  iintro Hz
  iapply h
  iexists ((zB.access (Rect.unit (s := S128x2x128) off S1x1x16.size inb)).write (Elt F) f pay Finset.univ)
  isplitr
  · ipureintro; exact zwrite hn ho hp f hf
  · iexact Hz

end Cert.Proof.Cache

end
-- ==== Proof.Fill1.lean ====
/-
The fill, part by part: the first half of one round.
-/
module

public import proofs.«01_k».proof.Proof.Memset

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable {d : Dev nD} {L : grid1.Coords} {hk : kM.IsWhole} {hl : lM.IsWhole} {ho : oM.IsWhole} {hz : zB.IsWhole}
  {hb : kB.IsWhole} {hc : lB.IsWhole}
/-- The fill from pair 0 to pair 5. -/
theorem zpart1 (v2 : FVec F S16 .f32) (c0_i32_0 : BitVec 32) (c1_i32 : BitVec 32) (t : Fin k1_t1_loop.trips) (hv : ∀ y, v2 y = z0 (F := F)) :
    Zst (F := F) d L t.val 0 ⊢ tp d L (k1_part1 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 c0_i32_0 c1_i32 t) (fun _ => Zst (F := F) d L t.val 5) := by
  rw [k1_part1_eq_skeleton]
  unfold k1_part1_skel
  refine zload (fun _ => ?_)
  refine zstore (by decide) (k1_off1_eq t) (fun _ => hv _) ?_
  refine zload (fun _ => ?_)
  refine zstore (by decide) (k1_off2_eq t) (fun _ => hv _) ?_
  refine zload (fun _ => ?_)
  refine zstore (by decide) (k1_off3_eq t) (fun _ => hv _) ?_
  refine zload (fun _ => ?_)
  refine zstore (by decide) (k1_off4_eq t) (fun _ => hv _) ?_
  refine zload (fun _ => ?_)
  refine zstore (by decide) (k1_off5_eq t) (fun _ => hv _) ?_
  exact tp_ret d L .rfl

/-- The fill from pair 5 to pair 10. -/
theorem zpart2 (v2 : FVec F S16 .f32) (t : Fin k1_t1_loop.trips) (arg10 : BitVec 32) (v252 : BitVec 32) (c2_i32_328 : BitVec 32) (c1_i32_329 : BitVec 32) (hv : ∀ y, v2 y = z0 (F := F)) :
    Zst (F := F) d L t.val 5 ⊢ tp d L (k1_part2 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v252 c2_i32_328 c1_i32_329) (fun _ => Zst (F := F) d L t.val 10) := by
  rw [k1_part2_eq_skeleton]
  unfold k1_part2_skel
  refine zload (fun _ => ?_)
  refine zstore (by decide) (k1_off6_eq t) (fun _ => hv _) ?_
  refine zload (fun _ => ?_)
  refine zstore (by decide) (k1_off7_eq t) (fun _ => hv _) ?_
  refine zload (fun _ => ?_)
  refine zstore (by decide) (k1_off8_eq t) (fun _ => hv _) ?_
  refine zload (fun _ => ?_)
  refine zstore (by decide) (k1_off9_eq t) (fun _ => hv _) ?_
  refine zload (fun _ => ?_)
  refine zstore (by decide) (k1_off10_eq t) (fun _ => hv _) ?_
  refine zload (fun _ => ?_)
  exact tp_ret d L .rfl

/-- The fill from pair 10 to pair 16. -/
theorem zpart3 (v2 : FVec F S16 .f32) (t : Fin k1_t1_loop.trips) (arg10 : BitVec 32) (hv : ∀ y, v2 y = z0 (F := F)) :
    Zst (F := F) d L t.val 10 ⊢ tp d L (k1_part3 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10) (fun _ => Zst (F := F) d L t.val 16) := by
  rw [k1_part3_eq_skeleton]
  unfold k1_part3_skel
  refine zstore (by decide) (k1_off11_eq t) (fun _ => hv _) ?_
  refine zload (fun _ => ?_)
  refine zstore (by decide) (k1_off12_eq t) (fun _ => hv _) ?_
  refine zload (fun _ => ?_)
  refine zstore (by decide) (k1_off13_eq t) (fun _ => hv _) ?_
  refine zload (fun _ => ?_)
  refine zstore (by decide) (k1_off14_eq t) (fun _ => hv _) ?_
  refine zload (fun _ => ?_)
  refine zstore (by decide) (k1_off15_eq t) (fun _ => hv _) ?_
  refine zload (fun _ => ?_)
  refine zstore (by decide) (k1_off16_eq t) (fun _ => hv _) ?_
  exact tp_ret d L .rfl

/-- The fill from pair 16 to pair 21. -/
theorem zpart4 (v2 : FVec F S16 .f32) (t : Fin k1_t1_loop.trips) (arg10 : BitVec 32) (v329 : BitVec 32) (c8_i32_361 : BitVec 32) (hv : ∀ y, v2 y = z0 (F := F)) :
    Zst (F := F) d L t.val 16 ⊢ tp d L (k1_part4 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v329 c8_i32_361) (fun _ => Zst (F := F) d L t.val 21) := by
  rw [k1_part4_eq_skeleton]
  unfold k1_part4_skel
  refine zload (fun _ => ?_)
  refine zstore (by decide) (k1_off17_eq t) (fun _ => hv _) ?_
  refine zload (fun _ => ?_)
  refine zstore (by decide) (k1_off18_eq t) (fun _ => hv _) ?_
  refine zload (fun _ => ?_)
  refine zstore (by decide) (k1_off19_eq t) (fun _ => hv _) ?_
  refine zload (fun _ => ?_)
  refine zstore (by decide) (k1_off20_eq t) (fun _ => hv _) ?_
  refine zload (fun _ => ?_)
  refine zstore (by decide) (k1_off21_eq t) (fun _ => hv _) ?_
  refine zload (fun _ => ?_)
  exact tp_ret d L .rfl

/-- The fill from pair 21 to pair 27. -/
theorem zpart5 (v2 : FVec F S16 .f32) (t : Fin k1_t1_loop.trips) (arg10 : BitVec 32) (v368 : Vec F S1x1x16 .f32) (hv : ∀ y, v2 y = z0 (F := F)) :
    Zst (F := F) d L t.val 21 ⊢ tp d L (k1_part5 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v368) (fun _ => Zst (F := F) d L t.val 27) := by
  rw [k1_part5_eq_skeleton]
  unfold k1_part5_skel
  refine zstore (by decide) (k1_off22_eq t) (fun _ => hv _) ?_
  refine zload (fun _ => ?_)
  refine zstore (by decide) (k1_off23_eq t) (fun _ => hv _) ?_
  refine zload (fun _ => ?_)
  refine zstore (by decide) (k1_off24_eq t) (fun _ => hv _) ?_
  refine zload (fun _ => ?_)
  refine zstore (by decide) (k1_off25_eq t) (fun _ => hv _) ?_
  refine zload (fun _ => ?_)
  refine zstore (by decide) (k1_off26_eq t) (fun _ => hv _) ?_
  refine zload (fun _ => ?_)
  refine zstore (by decide) (k1_off27_eq t) (fun _ => hv _) ?_
  exact tp_ret d L .rfl

/-- The fill from pair 27 to pair 32. -/
theorem zpart6 (v2 : FVec F S16 .f32) (t : Fin k1_t1_loop.trips) (arg10 : BitVec 32) (v406 : BitVec 32) (hv : ∀ y, v2 y = z0 (F := F)) :
    Zst (F := F) d L t.val 27 ⊢ tp d L (k1_part6 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v406) (fun _ => Zst (F := F) d L t.val 32) := by
  rw [k1_part6_eq_skeleton]
  unfold k1_part6_skel
  refine zload (fun _ => ?_)
  refine zstore (by decide) (k1_off28_eq t) (fun _ => hv _) ?_
  refine zload (fun _ => ?_)
  refine zstore (by decide) (k1_off29_eq t) (fun _ => hv _) ?_
  refine zload (fun _ => ?_)
  refine zstore (by decide) (k1_off30_eq t) (fun _ => hv _) ?_
  refine zload (fun _ => ?_)
  refine zstore (by decide) (k1_off31_eq t) (fun _ => hv _) ?_
  refine zload (fun _ => ?_)
  refine zstore (by decide) (k1_off32_eq t) (fun _ => hv _) ?_
  exact tp_ret d L .rfl

/-- The fill from pair 32 to pair 38. -/
theorem zpart7 (v2 : FVec F S16 .f32) (t : Fin k1_t1_loop.trips) (arg10 : BitVec 32) (hv : ∀ y, v2 y = z0 (F := F)) :
    Zst (F := F) d L t.val 32 ⊢ tp d L (k1_part7 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10) (fun _ => Zst (F := F) d L t.val 38) := by
  rw [k1_part7_eq_skeleton]
  unfold k1_part7_skel
  refine zload (fun _ => ?_)
  refine zstore (by decide) (k1_off33_eq t) (fun _ => hv _) ?_
  refine zload (fun _ => ?_)
  refine zstore (by decide) (k1_off34_eq t) (fun _ => hv _) ?_
  refine zload (fun _ => ?_)
  refine zstore (by decide) (k1_off35_eq t) (fun _ => hv _) ?_
  refine zload (fun _ => ?_)
  refine zstore (by decide) (k1_off36_eq t) (fun _ => hv _) ?_
  refine zload (fun _ => ?_)
  refine zstore (by decide) (k1_off37_eq t) (fun _ => hv _) ?_
  refine zload (fun _ => ?_)
  refine zstore (by decide) (k1_off38_eq t) (fun _ => hv _) ?_
  exact tp_ret d L .rfl

/-- The fill from pair 38 to pair 43. -/
theorem zpart8 (v2 : FVec F S16 .f32) (t : Fin k1_t1_loop.trips) (arg10 : BitVec 32) (c16_i32_417 : BitVec 32) (hv : ∀ y, v2 y = z0 (F := F)) :
    Zst (F := F) d L t.val 38 ⊢ tp d L (k1_part8 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 c16_i32_417) (fun _ => Zst (F := F) d L t.val 43) := by
  rw [k1_part8_eq_skeleton]
  unfold k1_part8_skel
  refine zload (fun _ => ?_)
  refine zstore (by decide) (k1_off39_eq t) (fun _ => hv _) ?_
  refine zload (fun _ => ?_)
  refine zstore (by decide) (k1_off40_eq t) (fun _ => hv _) ?_
  refine zload (fun _ => ?_)
  refine zstore (by decide) (k1_off41_eq t) (fun _ => hv _) ?_
  refine zload (fun _ => ?_)
  refine zstore (by decide) (k1_off42_eq t) (fun _ => hv _) ?_
  refine zload (fun _ => ?_)
  refine zstore (by decide) (k1_off43_eq t) (fun _ => hv _) ?_
  exact tp_ret d L .rfl

/-- The fill from pair 43 to pair 49. -/
theorem zpart9 (v2 : FVec F S16 .f32) (t : Fin k1_t1_loop.trips) (arg10 : BitVec 32) (v518 : BitVec 32) (hv : ∀ y, v2 y = z0 (F := F)) :
    Zst (F := F) d L t.val 43 ⊢ tp d L (k1_part9 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v518) (fun _ => Zst (F := F) d L t.val 49) := by
  rw [k1_part9_eq_skeleton]
  unfold k1_part9_skel
  refine zload (fun _ => ?_)
  refine zstore (by decide) (k1_off44_eq t) (fun _ => hv _) ?_
  refine zload (fun _ => ?_)
  refine zstore (by decide) (k1_off45_eq t) (fun _ => hv _) ?_
  refine zload (fun _ => ?_)
  refine zstore (by decide) (k1_off46_eq t) (fun _ => hv _) ?_
  refine zload (fun _ => ?_)
  refine zstore (by decide) (k1_off47_eq t) (fun _ => hv _) ?_
  refine zload (fun _ => ?_)
  refine zstore (by decide) (k1_off48_eq t) (fun _ => hv _) ?_
  refine zload (fun _ => ?_)
  refine zstore (by decide) (k1_off49_eq t) (fun _ => hv _) ?_
  exact tp_ret d L .rfl

/-- The fill from pair 49 to pair 54. -/
theorem zpart10 (v2 : FVec F S16 .f32) (t : Fin k1_t1_loop.trips) (arg10 : BitVec 32) (hv : ∀ y, v2 y = z0 (F := F)) :
    Zst (F := F) d L t.val 49 ⊢ tp d L (k1_part10 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10) (fun _ => Zst (F := F) d L t.val 54) := by
  rw [k1_part10_eq_skeleton]
  unfold k1_part10_skel
  refine zload (fun _ => ?_)
  refine zstore (by decide) (k1_off50_eq t) (fun _ => hv _) ?_
  refine zload (fun _ => ?_)
  refine zstore (by decide) (k1_off51_eq t) (fun _ => hv _) ?_
  refine zload (fun _ => ?_)
  refine zstore (by decide) (k1_off52_eq t) (fun _ => hv _) ?_
  refine zload (fun _ => ?_)
  refine zstore (by decide) (k1_off53_eq t) (fun _ => hv _) ?_
  refine zload (fun _ => ?_)
  refine zstore (by decide) (k1_off54_eq t) (fun _ => hv _) ?_
  exact tp_ret d L .rfl

/-- The fill from pair 54 to pair 59. -/
theorem zpart11 (v2 : FVec F S16 .f32) (t : Fin k1_t1_loop.trips) (arg10 : BitVec 32) (v595 : BitVec 32) (c0_i32_458 : BitVec 32) (hv : ∀ y, v2 y = z0 (F := F)) :
    Zst (F := F) d L t.val 54 ⊢ tp d L (k1_part11 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v595 c0_i32_458) (fun r => iprop(⌜∀ y, r y = z0 (F := F)⌝ ∗ Zst (F := F) d L t.val 59)) := by
  rw [k1_part11_eq_skeleton]
  unfold k1_part11_skel
  refine zload (fun _ => ?_)
  refine zstore (by decide) (k1_off55_eq t) (fun _ => hv _) ?_
  refine zload (fun _ => ?_)
  refine zstore (by decide) (k1_off56_eq t) (fun _ => hv _) ?_
  refine zload (fun _ => ?_)
  refine zstore (by decide) (k1_off57_eq t) (fun _ => hv _) ?_
  refine zload (fun _ => ?_)
  refine zstore (by decide) (k1_off58_eq t) (fun _ => hv _) ?_
  refine zload (fun _ => ?_)
  refine zstore (by decide) (k1_off59_eq t) (fun _ => hv _) ?_
  refine zload (fun _ => ?_)
  refine tp_ret d L ?_
  iintro HZ
  isplitr
  · ipureintro; exact fun _ => hv _
  · iexact HZ

/-- The fill from pair 59 to pair 65. -/
theorem zpart12 (v2 : FVec F S16 .f32) (t : Fin k1_t1_loop.trips) (arg10 : BitVec 32) (v636 : FVec F S1x1x16 .f32) (hv : ∀ y, v2 y = z0 (F := F)) (hw : ∀ y, v636 y = z0 (F := F)) :
    Zst (F := F) d L t.val 59 ⊢ tp d L (k1_part12 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v636) (fun _ => Zst (F := F) d L t.val 65) := by
  rw [k1_part12_eq_skeleton]
  unfold k1_part12_skel
  refine zstore (by decide) (k1_off60_eq t) (fun _ => hw _) ?_
  refine zload (fun _ => ?_)
  refine zstore (by decide) (k1_off61_eq t) (fun _ => hv _) ?_
  refine zload (fun _ => ?_)
  refine zstore (by decide) (k1_off62_eq t) (fun _ => hv _) ?_
  refine zload (fun _ => ?_)
  refine zstore (by decide) (k1_off63_eq t) (fun _ => hv _) ?_
  refine zload (fun _ => ?_)
  refine zstore (by decide) (k1_off64_eq t) (fun _ => hv _) ?_
  refine zload (fun _ => ?_)
  refine zstore (by decide) (k1_off65_eq t) (fun _ => hv _) ?_
  exact tp_ret d L .rfl

/-- The fill from pair 65 to pair 70. -/
theorem zpart13 (v2 : FVec F S16 .f32) (t : Fin k1_t1_loop.trips) (arg10 : BitVec 32) (v672 : BitVec 32) (c32_i32_486 : BitVec 32) (c1_i32_487 : BitVec 32) (hv : ∀ y, v2 y = z0 (F := F)) :
    Zst (F := F) d L t.val 65 ⊢ tp d L (k1_part13 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v672 c32_i32_486 c1_i32_487) (fun _ => Zst (F := F) d L t.val 70) := by
  rw [k1_part13_eq_skeleton]
  unfold k1_part13_skel
  refine zload (fun _ => ?_)
  refine zstore (by decide) (k1_off66_eq t) (fun _ => hv _) ?_
  refine zload (fun _ => ?_)
  refine zstore (by decide) (k1_off67_eq t) (fun _ => hv _) ?_
  refine zload (fun _ => ?_)
  refine zstore (by decide) (k1_off68_eq t) (fun _ => hv _) ?_
  refine zload (fun _ => ?_)
  refine zstore (by decide) (k1_off69_eq t) (fun _ => hv _) ?_
  refine zload (fun _ => ?_)
  refine zstore (by decide) (k1_off70_eq t) (fun _ => hv _) ?_
  refine zload (fun _ => ?_)
  exact tp_ret d L .rfl

/-- The fill from pair 70 to pair 76. -/
theorem zpart14 (v2 : FVec F S16 .f32) (t : Fin k1_t1_loop.trips) (arg10 : BitVec 32) (hv : ∀ y, v2 y = z0 (F := F)) :
    Zst (F := F) d L t.val 70 ⊢ tp d L (k1_part14 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10) (fun _ => Zst (F := F) d L t.val 76) := by
  rw [k1_part14_eq_skeleton]
  unfold k1_part14_skel
  refine zstore (by decide) (k1_off71_eq t) (fun _ => hv _) ?_
  refine zload (fun _ => ?_)
  refine zstore (by decide) (k1_off72_eq t) (fun _ => hv _) ?_
  refine zload (fun _ => ?_)
  refine zstore (by decide) (k1_off73_eq t) (fun _ => hv _) ?_
  refine zload (fun _ => ?_)
  refine zstore (by decide) (k1_off74_eq t) (fun _ => hv _) ?_
  refine zload (fun _ => ?_)
  refine zstore (by decide) (k1_off75_eq t) (fun _ => hv _) ?_
  refine zload (fun _ => ?_)
  refine zstore (by decide) (k1_off76_eq t) (fun _ => hv _) ?_
  exact tp_ret d L .rfl

/-- The fill from pair 76 to pair 81. -/
theorem zpart15 (v2 : FVec F S16 .f32) (t : Fin k1_t1_loop.trips) (arg10 : BitVec 32) (v749 : BitVec 32) (c38_i32 : BitVec 32) (hv : ∀ y, v2 y = z0 (F := F)) :
    Zst (F := F) d L t.val 76 ⊢ tp d L (k1_part15 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v749 c38_i32) (fun _ => Zst (F := F) d L t.val 81) := by
  rw [k1_part15_eq_skeleton]
  unfold k1_part15_skel
  refine zload (fun _ => ?_)
  refine zstore (by decide) (k1_off77_eq t) (fun _ => hv _) ?_
  refine zload (fun _ => ?_)
  refine zstore (by decide) (k1_off78_eq t) (fun _ => hv _) ?_
  refine zload (fun _ => ?_)
  refine zstore (by decide) (k1_off79_eq t) (fun _ => hv _) ?_
  refine zload (fun _ => ?_)
  refine zstore (by decide) (k1_off80_eq t) (fun _ => hv _) ?_
  refine zload (fun _ => ?_)
  refine zstore (by decide) (k1_off81_eq t) (fun _ => hv _) ?_
  refine zload (fun _ => ?_)
  exact tp_ret d L .rfl

/-- The fill from pair 81 to pair 87. -/
theorem zpart16 (v2 : FVec F S16 .f32) (t : Fin k1_t1_loop.trips) (arg10 : BitVec 32) (v788 : Vec F S1x1x16 .f32) (hv : ∀ y, v2 y = z0 (F := F)) :
    Zst (F := F) d L t.val 81 ⊢ tp d L (k1_part16 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v788) (fun _ => Zst (F := F) d L t.val 87) := by
  rw [k1_part16_eq_skeleton]
  unfold k1_part16_skel
  refine zstore (by decide) (k1_off82_eq t) (fun _ => hv _) ?_
  refine zload (fun _ => ?_)
  refine zstore (by decide) (k1_off83_eq t) (fun _ => hv _) ?_
  refine zload (fun _ => ?_)
  refine zstore (by decide) (k1_off84_eq t) (fun _ => hv _) ?_
  refine zload (fun _ => ?_)
  refine zstore (by decide) (k1_off85_eq t) (fun _ => hv _) ?_
  refine zload (fun _ => ?_)
  refine zstore (by decide) (k1_off86_eq t) (fun _ => hv _) ?_
  refine zload (fun _ => ?_)
  refine zstore (by decide) (k1_off87_eq t) (fun _ => hv _) ?_
  exact tp_ret d L .rfl

/-- The fill from pair 87 to pair 92. -/
theorem zpart17 (v2 : FVec F S16 .f32) (t : Fin k1_t1_loop.trips) (arg10 : BitVec 32) (v826 : BitVec 32) (hv : ∀ y, v2 y = z0 (F := F)) :
    Zst (F := F) d L t.val 87 ⊢ tp d L (k1_part17 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v826) (fun _ => Zst (F := F) d L t.val 92) := by
  rw [k1_part17_eq_skeleton]
  unfold k1_part17_skel
  refine zload (fun _ => ?_)
  refine zstore (by decide) (k1_off88_eq t) (fun _ => hv _) ?_
  refine zload (fun _ => ?_)
  refine zstore (by decide) (k1_off89_eq t) (fun _ => hv _) ?_
  refine zload (fun _ => ?_)
  refine zstore (by decide) (k1_off90_eq t) (fun _ => hv _) ?_
  refine zload (fun _ => ?_)
  refine zstore (by decide) (k1_off91_eq t) (fun _ => hv _) ?_
  refine zload (fun _ => ?_)
  refine zstore (by decide) (k1_off92_eq t) (fun _ => hv _) ?_
  exact tp_ret d L .rfl

/-- The fill from pair 92 to pair 98. -/
theorem zpart18 (v2 : FVec F S16 .f32) (t : Fin k1_t1_loop.trips) (arg10 : BitVec 32) (hv : ∀ y, v2 y = z0 (F := F)) :
    Zst (F := F) d L t.val 92 ⊢ tp d L (k1_part18 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10) (fun _ => Zst (F := F) d L t.val 98) := by
  rw [k1_part18_eq_skeleton]
  unfold k1_part18_skel
  refine zload (fun _ => ?_)
  refine zstore (by decide) (k1_off93_eq t) (fun _ => hv _) ?_
  refine zload (fun _ => ?_)
  refine zstore (by decide) (k1_off94_eq t) (fun _ => hv _) ?_
  refine zload (fun _ => ?_)
  refine zstore (by decide) (k1_off95_eq t) (fun _ => hv _) ?_
  refine zload (fun _ => ?_)
  refine zstore (by decide) (k1_off96_eq t) (fun _ => hv _) ?_
  refine zload (fun _ => ?_)
  refine zstore (by decide) (k1_off97_eq t) (fun _ => hv _) ?_
  refine zload (fun _ => ?_)
  refine zstore (by decide) (k1_off98_eq t) (fun _ => hv _) ?_
  exact tp_ret d L .rfl

/-- The fill from pair 98 to pair 103. -/
theorem zpart19 (v2 : FVec F S16 .f32) (t : Fin k1_t1_loop.trips) (arg10 : BitVec 32) (c16_i32_569 : BitVec 32) (hv : ∀ y, v2 y = z0 (F := F)) :
    Zst (F := F) d L t.val 98 ⊢ tp d L (k1_part19 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 c16_i32_569) (fun _ => Zst (F := F) d L t.val 103) := by
  rw [k1_part19_eq_skeleton]
  unfold k1_part19_skel
  refine zload (fun _ => ?_)
  refine zstore (by decide) (k1_off99_eq t) (fun _ => hv _) ?_
  refine zload (fun _ => ?_)
  refine zstore (by decide) (k1_off100_eq t) (fun _ => hv _) ?_
  refine zload (fun _ => ?_)
  refine zstore (by decide) (k1_off101_eq t) (fun _ => hv _) ?_
  refine zload (fun _ => ?_)
  refine zstore (by decide) (k1_off102_eq t) (fun _ => hv _) ?_
  refine zload (fun _ => ?_)
  refine zstore (by decide) (k1_off103_eq t) (fun _ => hv _) ?_
  exact tp_ret d L .rfl

/-- The fill from pair 103 to pair 109. -/
theorem zpart20 (v2 : FVec F S16 .f32) (t : Fin k1_t1_loop.trips) (arg10 : BitVec 32) (v938 : BitVec 32) (hv : ∀ y, v2 y = z0 (F := F)) :
    Zst (F := F) d L t.val 103 ⊢ tp d L (k1_part20 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v938) (fun _ => Zst (F := F) d L t.val 109) := by
  rw [k1_part20_eq_skeleton]
  unfold k1_part20_skel
  refine zload (fun _ => ?_)
  refine zstore (by decide) (k1_off104_eq t) (fun _ => hv _) ?_
  refine zload (fun _ => ?_)
  refine zstore (by decide) (k1_off105_eq t) (fun _ => hv _) ?_
  refine zload (fun _ => ?_)
  refine zstore (by decide) (k1_off106_eq t) (fun _ => hv _) ?_
  refine zload (fun _ => ?_)
  refine zstore (by decide) (k1_off107_eq t) (fun _ => hv _) ?_
  refine zload (fun _ => ?_)
  refine zstore (by decide) (k1_off108_eq t) (fun _ => hv _) ?_
  refine zload (fun _ => ?_)
  refine zstore (by decide) (k1_off109_eq t) (fun _ => hv _) ?_
  exact tp_ret d L .rfl

/-- The fill from pair 109 to pair 114. -/
theorem zpart21 (v2 : FVec F S16 .f32) (t : Fin k1_t1_loop.trips) (arg10 : BitVec 32) (hv : ∀ y, v2 y = z0 (F := F)) :
    Zst (F := F) d L t.val 109 ⊢ tp d L (k1_part21 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10) (fun _ => Zst (F := F) d L t.val 114) := by
  rw [k1_part21_eq_skeleton]
  unfold k1_part21_skel
  refine zload (fun _ => ?_)
  refine zstore (by decide) (k1_off110_eq t) (fun _ => hv _) ?_
  refine zload (fun _ => ?_)
  refine zstore (by decide) (k1_off111_eq t) (fun _ => hv _) ?_
  refine zload (fun _ => ?_)
  refine zstore (by decide) (k1_off112_eq t) (fun _ => hv _) ?_
  refine zload (fun _ => ?_)
  refine zstore (by decide) (k1_off113_eq t) (fun _ => hv _) ?_
  refine zload (fun _ => ?_)
  refine zstore (by decide) (k1_off114_eq t) (fun _ => hv _) ?_
  exact tp_ret d L .rfl

/-- The fill from pair 114 to pair 119. -/
theorem zpart22 (v2 : FVec F S16 .f32) (t : Fin k1_t1_loop.trips) (arg10 : BitVec 32) (v1015 : BitVec 32) (c0_i32_610 : BitVec 32) (hv : ∀ y, v2 y = z0 (F := F)) :
    Zst (F := F) d L t.val 114 ⊢ tp d L (k1_part22 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v1015 c0_i32_610) (fun r => iprop(⌜∀ y, r y = z0 (F := F)⌝ ∗ Zst (F := F) d L t.val 119)) := by
  rw [k1_part22_eq_skeleton]
  unfold k1_part22_skel
  refine zload (fun _ => ?_)
  refine zstore (by decide) (k1_off115_eq t) (fun _ => hv _) ?_
  refine zload (fun _ => ?_)
  refine zstore (by decide) (k1_off116_eq t) (fun _ => hv _) ?_
  refine zload (fun _ => ?_)
  refine zstore (by decide) (k1_off117_eq t) (fun _ => hv _) ?_
  refine zload (fun _ => ?_)
  refine zstore (by decide) (k1_off118_eq t) (fun _ => hv _) ?_
  refine zload (fun _ => ?_)
  refine zstore (by decide) (k1_off119_eq t) (fun _ => hv _) ?_
  refine zload (fun _ => ?_)
  refine tp_ret d L ?_
  iintro HZ
  isplitr
  · ipureintro; exact fun _ => hv _
  · iexact HZ

/-- The fill from pair 119 to pair 125. -/
theorem zpart23 (v2 : FVec F S16 .f32) (t : Fin k1_t1_loop.trips) (arg10 : BitVec 32) (v1056 : FVec F S1x1x16 .f32) (hv : ∀ y, v2 y = z0 (F := F)) (hw : ∀ y, v1056 y = z0 (F := F)) :
    Zst (F := F) d L t.val 119 ⊢ tp d L (k1_part23 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v1056) (fun _ => Zst (F := F) d L t.val 125) := by
  rw [k1_part23_eq_skeleton]
  unfold k1_part23_skel
  refine zstore (by decide) (k1_off120_eq t) (fun _ => hw _) ?_
  refine zload (fun _ => ?_)
  refine zstore (by decide) (k1_off121_eq t) (fun _ => hv _) ?_
  refine zload (fun _ => ?_)
  refine zstore (by decide) (k1_off122_eq t) (fun _ => hv _) ?_
  refine zload (fun _ => ?_)
  refine zstore (by decide) (k1_off123_eq t) (fun _ => hv _) ?_
  refine zload (fun _ => ?_)
  refine zstore (by decide) (k1_off124_eq t) (fun _ => hv _) ?_
  refine zload (fun _ => ?_)
  refine zstore (by decide) (k1_off125_eq t) (fun _ => hv _) ?_
  exact tp_ret d L .rfl

end Cert.Proof.Cache

end
-- ==== Proof.Fill2.lean ====
/-
The fill, part by part: the second half of one round.
-/
module

public import proofs.«01_k».proof.Proof.Memset

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable {d : Dev nD} {L : grid1.Coords} {hk : kM.IsWhole} {hl : lM.IsWhole} {ho : oM.IsWhole} {hz : zB.IsWhole}
  {hb : kB.IsWhole} {hc : lB.IsWhole}
/-- The fill from pair 125 to pair 130. -/
theorem zpart24 (v2 : FVec F S16 .f32) (t : Fin k1_t1_loop.trips) (arg10 : BitVec 32) (v1092 : BitVec 32) (c62_i32_637 : BitVec 32) (c1_i32_638 : BitVec 32) (hv : ∀ y, v2 y = z0 (F := F)) :
    Zst (F := F) d L t.val 125 ⊢ tp d L (k1_part24 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v1092 c62_i32_637 c1_i32_638) (fun _ => Zst (F := F) d L t.val 130) := by
  rw [k1_part24_eq_skeleton]
  unfold k1_part24_skel
  refine zload (fun _ => ?_)
  refine zstore (by decide) (k1_off126_eq t) (fun _ => hv _) ?_
  refine zload (fun _ => ?_)
  refine zstore (by decide) (k1_off127_eq t) (fun _ => hv _) ?_
  refine zload (fun _ => ?_)
  refine zstore (by decide) (k1_off128_eq t) (fun _ => hv _) ?_
  refine zload (fun _ => ?_)
  refine zstore (by decide) (k1_off129_eq t) (fun _ => hv _) ?_
  refine zload (fun _ => ?_)
  refine zstore (by decide) (k1_off130_eq t) (fun _ => hv _) ?_
  refine zload (fun _ => ?_)
  exact tp_ret d L .rfl

/-- The fill from pair 130 to pair 136. -/
theorem zpart25 (v2 : FVec F S16 .f32) (t : Fin k1_t1_loop.trips) (arg10 : BitVec 32) (hv : ∀ y, v2 y = z0 (F := F)) :
    Zst (F := F) d L t.val 130 ⊢ tp d L (k1_part25 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10) (fun _ => Zst (F := F) d L t.val 136) := by
  rw [k1_part25_eq_skeleton]
  unfold k1_part25_skel
  refine zstore (by decide) (k1_off131_eq t) (fun _ => hv _) ?_
  refine zload (fun _ => ?_)
  refine zstore (by decide) (k1_off132_eq t) (fun _ => hv _) ?_
  refine zload (fun _ => ?_)
  refine zstore (by decide) (k1_off133_eq t) (fun _ => hv _) ?_
  refine zload (fun _ => ?_)
  refine zstore (by decide) (k1_off134_eq t) (fun _ => hv _) ?_
  refine zload (fun _ => ?_)
  refine zstore (by decide) (k1_off135_eq t) (fun _ => hv _) ?_
  refine zload (fun _ => ?_)
  refine zstore (by decide) (k1_off136_eq t) (fun _ => hv _) ?_
  exact tp_ret d L .rfl

/-- The fill from pair 136 to pair 141. -/
theorem zpart26 (v2 : FVec F S16 .f32) (t : Fin k1_t1_loop.trips) (arg10 : BitVec 32) (v1169 : BitVec 32) (c68_i32 : BitVec 32) (hv : ∀ y, v2 y = z0 (F := F)) :
    Zst (F := F) d L t.val 136 ⊢ tp d L (k1_part26 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v1169 c68_i32) (fun _ => Zst (F := F) d L t.val 141) := by
  rw [k1_part26_eq_skeleton]
  unfold k1_part26_skel
  refine zload (fun _ => ?_)
  refine zstore (by decide) (k1_off137_eq t) (fun _ => hv _) ?_
  refine zload (fun _ => ?_)
  refine zstore (by decide) (k1_off138_eq t) (fun _ => hv _) ?_
  refine zload (fun _ => ?_)
  refine zstore (by decide) (k1_off139_eq t) (fun _ => hv _) ?_
  refine zload (fun _ => ?_)
  refine zstore (by decide) (k1_off140_eq t) (fun _ => hv _) ?_
  refine zload (fun _ => ?_)
  refine zstore (by decide) (k1_off141_eq t) (fun _ => hv _) ?_
  refine zload (fun _ => ?_)
  exact tp_ret d L .rfl

/-- The fill from pair 141 to pair 147. -/
theorem zpart27 (v2 : FVec F S16 .f32) (t : Fin k1_t1_loop.trips) (arg10 : BitVec 32) (v1208 : Vec F S1x1x16 .f32) (hv : ∀ y, v2 y = z0 (F := F)) :
    Zst (F := F) d L t.val 141 ⊢ tp d L (k1_part27 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v1208) (fun _ => Zst (F := F) d L t.val 147) := by
  rw [k1_part27_eq_skeleton]
  unfold k1_part27_skel
  refine zstore (by decide) (k1_off142_eq t) (fun _ => hv _) ?_
  refine zload (fun _ => ?_)
  refine zstore (by decide) (k1_off143_eq t) (fun _ => hv _) ?_
  refine zload (fun _ => ?_)
  refine zstore (by decide) (k1_off144_eq t) (fun _ => hv _) ?_
  refine zload (fun _ => ?_)
  refine zstore (by decide) (k1_off145_eq t) (fun _ => hv _) ?_
  refine zload (fun _ => ?_)
  refine zstore (by decide) (k1_off146_eq t) (fun _ => hv _) ?_
  refine zload (fun _ => ?_)
  refine zstore (by decide) (k1_off147_eq t) (fun _ => hv _) ?_
  exact tp_ret d L .rfl

/-- The fill from pair 147 to pair 152. -/
theorem zpart28 (v2 : FVec F S16 .f32) (t : Fin k1_t1_loop.trips) (arg10 : BitVec 32) (v1246 : BitVec 32) (hv : ∀ y, v2 y = z0 (F := F)) :
    Zst (F := F) d L t.val 147 ⊢ tp d L (k1_part28 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v1246) (fun _ => Zst (F := F) d L t.val 152) := by
  rw [k1_part28_eq_skeleton]
  unfold k1_part28_skel
  refine zload (fun _ => ?_)
  refine zstore (by decide) (k1_off148_eq t) (fun _ => hv _) ?_
  refine zload (fun _ => ?_)
  refine zstore (by decide) (k1_off149_eq t) (fun _ => hv _) ?_
  refine zload (fun _ => ?_)
  refine zstore (by decide) (k1_off150_eq t) (fun _ => hv _) ?_
  refine zload (fun _ => ?_)
  refine zstore (by decide) (k1_off151_eq t) (fun _ => hv _) ?_
  refine zload (fun _ => ?_)
  refine zstore (by decide) (k1_off152_eq t) (fun _ => hv _) ?_
  exact tp_ret d L .rfl

/-- The fill from pair 152 to pair 158. -/
theorem zpart29 (v2 : FVec F S16 .f32) (t : Fin k1_t1_loop.trips) (arg10 : BitVec 32) (hv : ∀ y, v2 y = z0 (F := F)) :
    Zst (F := F) d L t.val 152 ⊢ tp d L (k1_part29 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10) (fun _ => Zst (F := F) d L t.val 158) := by
  rw [k1_part29_eq_skeleton]
  unfold k1_part29_skel
  refine zload (fun _ => ?_)
  refine zstore (by decide) (k1_off153_eq t) (fun _ => hv _) ?_
  refine zload (fun _ => ?_)
  refine zstore (by decide) (k1_off154_eq t) (fun _ => hv _) ?_
  refine zload (fun _ => ?_)
  refine zstore (by decide) (k1_off155_eq t) (fun _ => hv _) ?_
  refine zload (fun _ => ?_)
  refine zstore (by decide) (k1_off156_eq t) (fun _ => hv _) ?_
  refine zload (fun _ => ?_)
  refine zstore (by decide) (k1_off157_eq t) (fun _ => hv _) ?_
  refine zload (fun _ => ?_)
  refine zstore (by decide) (k1_off158_eq t) (fun _ => hv _) ?_
  exact tp_ret d L .rfl

/-- The fill from pair 158 to pair 163. -/
theorem zpart30 (v2 : FVec F S16 .f32) (t : Fin k1_t1_loop.trips) (arg10 : BitVec 32) (c16_i32_720 : BitVec 32) (hv : ∀ y, v2 y = z0 (F := F)) :
    Zst (F := F) d L t.val 158 ⊢ tp d L (k1_part30 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 c16_i32_720) (fun _ => Zst (F := F) d L t.val 163) := by
  rw [k1_part30_eq_skeleton]
  unfold k1_part30_skel
  refine zload (fun _ => ?_)
  refine zstore (by decide) (k1_off159_eq t) (fun _ => hv _) ?_
  refine zload (fun _ => ?_)
  refine zstore (by decide) (k1_off160_eq t) (fun _ => hv _) ?_
  refine zload (fun _ => ?_)
  refine zstore (by decide) (k1_off161_eq t) (fun _ => hv _) ?_
  refine zload (fun _ => ?_)
  refine zstore (by decide) (k1_off162_eq t) (fun _ => hv _) ?_
  refine zload (fun _ => ?_)
  refine zstore (by decide) (k1_off163_eq t) (fun _ => hv _) ?_
  exact tp_ret d L .rfl

/-- The fill from pair 163 to pair 169. -/
theorem zpart31 (v2 : FVec F S16 .f32) (t : Fin k1_t1_loop.trips) (arg10 : BitVec 32) (v1358 : BitVec 32) (hv : ∀ y, v2 y = z0 (F := F)) :
    Zst (F := F) d L t.val 163 ⊢ tp d L (k1_part31 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v1358) (fun _ => Zst (F := F) d L t.val 169) := by
  rw [k1_part31_eq_skeleton]
  unfold k1_part31_skel
  refine zload (fun _ => ?_)
  refine zstore (by decide) (k1_off164_eq t) (fun _ => hv _) ?_
  refine zload (fun _ => ?_)
  refine zstore (by decide) (k1_off165_eq t) (fun _ => hv _) ?_
  refine zload (fun _ => ?_)
  refine zstore (by decide) (k1_off166_eq t) (fun _ => hv _) ?_
  refine zload (fun _ => ?_)
  refine zstore (by decide) (k1_off167_eq t) (fun _ => hv _) ?_
  refine zload (fun _ => ?_)
  refine zstore (by decide) (k1_off168_eq t) (fun _ => hv _) ?_
  refine zload (fun _ => ?_)
  refine zstore (by decide) (k1_off169_eq t) (fun _ => hv _) ?_
  exact tp_ret d L .rfl

/-- The fill from pair 169 to pair 174. -/
theorem zpart32 (v2 : FVec F S16 .f32) (t : Fin k1_t1_loop.trips) (arg10 : BitVec 32) (hv : ∀ y, v2 y = z0 (F := F)) :
    Zst (F := F) d L t.val 169 ⊢ tp d L (k1_part32 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10) (fun _ => Zst (F := F) d L t.val 174) := by
  rw [k1_part32_eq_skeleton]
  unfold k1_part32_skel
  refine zload (fun _ => ?_)
  refine zstore (by decide) (k1_off170_eq t) (fun _ => hv _) ?_
  refine zload (fun _ => ?_)
  refine zstore (by decide) (k1_off171_eq t) (fun _ => hv _) ?_
  refine zload (fun _ => ?_)
  refine zstore (by decide) (k1_off172_eq t) (fun _ => hv _) ?_
  refine zload (fun _ => ?_)
  refine zstore (by decide) (k1_off173_eq t) (fun _ => hv _) ?_
  refine zload (fun _ => ?_)
  refine zstore (by decide) (k1_off174_eq t) (fun _ => hv _) ?_
  exact tp_ret d L .rfl

/-- The fill from pair 174 to pair 179. -/
theorem zpart33 (v2 : FVec F S16 .f32) (t : Fin k1_t1_loop.trips) (arg10 : BitVec 32) (v1435 : BitVec 32) (c0_i32_762 : BitVec 32) (hv : ∀ y, v2 y = z0 (F := F)) :
    Zst (F := F) d L t.val 174 ⊢ tp d L (k1_part33 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v1435 c0_i32_762) (fun r => iprop(⌜∀ y, r y = z0 (F := F)⌝ ∗ Zst (F := F) d L t.val 179)) := by
  rw [k1_part33_eq_skeleton]
  unfold k1_part33_skel
  refine zload (fun _ => ?_)
  refine zstore (by decide) (k1_off175_eq t) (fun _ => hv _) ?_
  refine zload (fun _ => ?_)
  refine zstore (by decide) (k1_off176_eq t) (fun _ => hv _) ?_
  refine zload (fun _ => ?_)
  refine zstore (by decide) (k1_off177_eq t) (fun _ => hv _) ?_
  refine zload (fun _ => ?_)
  refine zstore (by decide) (k1_off178_eq t) (fun _ => hv _) ?_
  refine zload (fun _ => ?_)
  refine zstore (by decide) (k1_off179_eq t) (fun _ => hv _) ?_
  refine zload (fun _ => ?_)
  refine tp_ret d L ?_
  iintro HZ
  isplitr
  · ipureintro; exact fun _ => hv _
  · iexact HZ

/-- The fill from pair 179 to pair 185. -/
theorem zpart34 (v2 : FVec F S16 .f32) (t : Fin k1_t1_loop.trips) (arg10 : BitVec 32) (v1476 : FVec F S1x1x16 .f32) (hv : ∀ y, v2 y = z0 (F := F)) (hw : ∀ y, v1476 y = z0 (F := F)) :
    Zst (F := F) d L t.val 179 ⊢ tp d L (k1_part34 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v1476) (fun _ => Zst (F := F) d L t.val 185) := by
  rw [k1_part34_eq_skeleton]
  unfold k1_part34_skel
  refine zstore (by decide) (k1_off180_eq t) (fun _ => hw _) ?_
  refine zload (fun _ => ?_)
  refine zstore (by decide) (k1_off181_eq t) (fun _ => hv _) ?_
  refine zload (fun _ => ?_)
  refine zstore (by decide) (k1_off182_eq t) (fun _ => hv _) ?_
  refine zload (fun _ => ?_)
  refine zstore (by decide) (k1_off183_eq t) (fun _ => hv _) ?_
  refine zload (fun _ => ?_)
  refine zstore (by decide) (k1_off184_eq t) (fun _ => hv _) ?_
  refine zload (fun _ => ?_)
  refine zstore (by decide) (k1_off185_eq t) (fun _ => hv _) ?_
  exact tp_ret d L .rfl

/-- The fill from pair 185 to pair 190. -/
theorem zpart35 (v2 : FVec F S16 .f32) (t : Fin k1_t1_loop.trips) (arg10 : BitVec 32) (v1512 : BitVec 32) (c92_i32_789 : BitVec 32) (c1_i32_790 : BitVec 32) (hv : ∀ y, v2 y = z0 (F := F)) :
    Zst (F := F) d L t.val 185 ⊢ tp d L (k1_part35 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v1512 c92_i32_789 c1_i32_790) (fun _ => Zst (F := F) d L t.val 190) := by
  rw [k1_part35_eq_skeleton]
  unfold k1_part35_skel
  refine zload (fun _ => ?_)
  refine zstore (by decide) (k1_off186_eq t) (fun _ => hv _) ?_
  refine zload (fun _ => ?_)
  refine zstore (by decide) (k1_off187_eq t) (fun _ => hv _) ?_
  refine zload (fun _ => ?_)
  refine zstore (by decide) (k1_off188_eq t) (fun _ => hv _) ?_
  refine zload (fun _ => ?_)
  refine zstore (by decide) (k1_off189_eq t) (fun _ => hv _) ?_
  refine zload (fun _ => ?_)
  refine zstore (by decide) (k1_off190_eq t) (fun _ => hv _) ?_
  refine zload (fun _ => ?_)
  exact tp_ret d L .rfl

/-- The fill from pair 190 to pair 196. -/
theorem zpart36 (v2 : FVec F S16 .f32) (t : Fin k1_t1_loop.trips) (arg10 : BitVec 32) (hv : ∀ y, v2 y = z0 (F := F)) :
    Zst (F := F) d L t.val 190 ⊢ tp d L (k1_part36 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10) (fun _ => Zst (F := F) d L t.val 196) := by
  rw [k1_part36_eq_skeleton]
  unfold k1_part36_skel
  refine zstore (by decide) (k1_off191_eq t) (fun _ => hv _) ?_
  refine zload (fun _ => ?_)
  refine zstore (by decide) (k1_off192_eq t) (fun _ => hv _) ?_
  refine zload (fun _ => ?_)
  refine zstore (by decide) (k1_off193_eq t) (fun _ => hv _) ?_
  refine zload (fun _ => ?_)
  refine zstore (by decide) (k1_off194_eq t) (fun _ => hv _) ?_
  refine zload (fun _ => ?_)
  refine zstore (by decide) (k1_off195_eq t) (fun _ => hv _) ?_
  refine zload (fun _ => ?_)
  refine zstore (by decide) (k1_off196_eq t) (fun _ => hv _) ?_
  exact tp_ret d L .rfl

/-- The fill from pair 196 to pair 201. -/
theorem zpart37 (v2 : FVec F S16 .f32) (t : Fin k1_t1_loop.trips) (arg10 : BitVec 32) (v1589 : BitVec 32) (c98_i32 : BitVec 32) (hv : ∀ y, v2 y = z0 (F := F)) :
    Zst (F := F) d L t.val 196 ⊢ tp d L (k1_part37 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v1589 c98_i32) (fun _ => Zst (F := F) d L t.val 201) := by
  rw [k1_part37_eq_skeleton]
  unfold k1_part37_skel
  refine zload (fun _ => ?_)
  refine zstore (by decide) (k1_off197_eq t) (fun _ => hv _) ?_
  refine zload (fun _ => ?_)
  refine zstore (by decide) (k1_off198_eq t) (fun _ => hv _) ?_
  refine zload (fun _ => ?_)
  refine zstore (by decide) (k1_off199_eq t) (fun _ => hv _) ?_
  refine zload (fun _ => ?_)
  refine zstore (by decide) (k1_off200_eq t) (fun _ => hv _) ?_
  refine zload (fun _ => ?_)
  refine zstore (by decide) (k1_off201_eq t) (fun _ => hv _) ?_
  refine zload (fun _ => ?_)
  exact tp_ret d L .rfl

/-- The fill from pair 201 to pair 207. -/
theorem zpart38 (v2 : FVec F S16 .f32) (t : Fin k1_t1_loop.trips) (arg10 : BitVec 32) (v1628 : Vec F S1x1x16 .f32) (hv : ∀ y, v2 y = z0 (F := F)) :
    Zst (F := F) d L t.val 201 ⊢ tp d L (k1_part38 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v1628) (fun _ => Zst (F := F) d L t.val 207) := by
  rw [k1_part38_eq_skeleton]
  unfold k1_part38_skel
  refine zstore (by decide) (k1_off202_eq t) (fun _ => hv _) ?_
  refine zload (fun _ => ?_)
  refine zstore (by decide) (k1_off203_eq t) (fun _ => hv _) ?_
  refine zload (fun _ => ?_)
  refine zstore (by decide) (k1_off204_eq t) (fun _ => hv _) ?_
  refine zload (fun _ => ?_)
  refine zstore (by decide) (k1_off205_eq t) (fun _ => hv _) ?_
  refine zload (fun _ => ?_)
  refine zstore (by decide) (k1_off206_eq t) (fun _ => hv _) ?_
  refine zload (fun _ => ?_)
  refine zstore (by decide) (k1_off207_eq t) (fun _ => hv _) ?_
  exact tp_ret d L .rfl

/-- The fill from pair 207 to pair 212. -/
theorem zpart39 (v2 : FVec F S16 .f32) (t : Fin k1_t1_loop.trips) (arg10 : BitVec 32) (v1666 : BitVec 32) (hv : ∀ y, v2 y = z0 (F := F)) :
    Zst (F := F) d L t.val 207 ⊢ tp d L (k1_part39 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v1666) (fun _ => Zst (F := F) d L t.val 212) := by
  rw [k1_part39_eq_skeleton]
  unfold k1_part39_skel
  refine zload (fun _ => ?_)
  refine zstore (by decide) (k1_off208_eq t) (fun _ => hv _) ?_
  refine zload (fun _ => ?_)
  refine zstore (by decide) (k1_off209_eq t) (fun _ => hv _) ?_
  refine zload (fun _ => ?_)
  refine zstore (by decide) (k1_off210_eq t) (fun _ => hv _) ?_
  refine zload (fun _ => ?_)
  refine zstore (by decide) (k1_off211_eq t) (fun _ => hv _) ?_
  refine zload (fun _ => ?_)
  refine zstore (by decide) (k1_off212_eq t) (fun _ => hv _) ?_
  exact tp_ret d L .rfl

/-- The fill from pair 212 to pair 218. -/
theorem zpart40 (v2 : FVec F S16 .f32) (t : Fin k1_t1_loop.trips) (arg10 : BitVec 32) (hv : ∀ y, v2 y = z0 (F := F)) :
    Zst (F := F) d L t.val 212 ⊢ tp d L (k1_part40 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10) (fun _ => Zst (F := F) d L t.val 218) := by
  rw [k1_part40_eq_skeleton]
  unfold k1_part40_skel
  refine zload (fun _ => ?_)
  refine zstore (by decide) (k1_off213_eq t) (fun _ => hv _) ?_
  refine zload (fun _ => ?_)
  refine zstore (by decide) (k1_off214_eq t) (fun _ => hv _) ?_
  refine zload (fun _ => ?_)
  refine zstore (by decide) (k1_off215_eq t) (fun _ => hv _) ?_
  refine zload (fun _ => ?_)
  refine zstore (by decide) (k1_off216_eq t) (fun _ => hv _) ?_
  refine zload (fun _ => ?_)
  refine zstore (by decide) (k1_off217_eq t) (fun _ => hv _) ?_
  refine zload (fun _ => ?_)
  refine zstore (by decide) (k1_off218_eq t) (fun _ => hv _) ?_
  exact tp_ret d L .rfl

/-- The fill from pair 218 to pair 223. -/
theorem zpart41 (v2 : FVec F S16 .f32) (t : Fin k1_t1_loop.trips) (arg10 : BitVec 32) (c16_i32_872 : BitVec 32) (hv : ∀ y, v2 y = z0 (F := F)) :
    Zst (F := F) d L t.val 218 ⊢ tp d L (k1_part41 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 c16_i32_872) (fun _ => Zst (F := F) d L t.val 223) := by
  rw [k1_part41_eq_skeleton]
  unfold k1_part41_skel
  refine zload (fun _ => ?_)
  refine zstore (by decide) (k1_off219_eq t) (fun _ => hv _) ?_
  refine zload (fun _ => ?_)
  refine zstore (by decide) (k1_off220_eq t) (fun _ => hv _) ?_
  refine zload (fun _ => ?_)
  refine zstore (by decide) (k1_off221_eq t) (fun _ => hv _) ?_
  refine zload (fun _ => ?_)
  refine zstore (by decide) (k1_off222_eq t) (fun _ => hv _) ?_
  refine zload (fun _ => ?_)
  refine zstore (by decide) (k1_off223_eq t) (fun _ => hv _) ?_
  exact tp_ret d L .rfl

/-- The fill from pair 223 to pair 229. -/
theorem zpart42 (v2 : FVec F S16 .f32) (t : Fin k1_t1_loop.trips) (arg10 : BitVec 32) (v1778 : BitVec 32) (hv : ∀ y, v2 y = z0 (F := F)) :
    Zst (F := F) d L t.val 223 ⊢ tp d L (k1_part42 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v1778) (fun _ => Zst (F := F) d L t.val 229) := by
  rw [k1_part42_eq_skeleton]
  unfold k1_part42_skel
  refine zload (fun _ => ?_)
  refine zstore (by decide) (k1_off224_eq t) (fun _ => hv _) ?_
  refine zload (fun _ => ?_)
  refine zstore (by decide) (k1_off225_eq t) (fun _ => hv _) ?_
  refine zload (fun _ => ?_)
  refine zstore (by decide) (k1_off226_eq t) (fun _ => hv _) ?_
  refine zload (fun _ => ?_)
  refine zstore (by decide) (k1_off227_eq t) (fun _ => hv _) ?_
  refine zload (fun _ => ?_)
  refine zstore (by decide) (k1_off228_eq t) (fun _ => hv _) ?_
  refine zload (fun _ => ?_)
  refine zstore (by decide) (k1_off229_eq t) (fun _ => hv _) ?_
  exact tp_ret d L .rfl

/-- The fill from pair 229 to pair 234. -/
theorem zpart43 (v2 : FVec F S16 .f32) (t : Fin k1_t1_loop.trips) (arg10 : BitVec 32) (hv : ∀ y, v2 y = z0 (F := F)) :
    Zst (F := F) d L t.val 229 ⊢ tp d L (k1_part43 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10) (fun _ => Zst (F := F) d L t.val 234) := by
  rw [k1_part43_eq_skeleton]
  unfold k1_part43_skel
  refine zload (fun _ => ?_)
  refine zstore (by decide) (k1_off230_eq t) (fun _ => hv _) ?_
  refine zload (fun _ => ?_)
  refine zstore (by decide) (k1_off231_eq t) (fun _ => hv _) ?_
  refine zload (fun _ => ?_)
  refine zstore (by decide) (k1_off232_eq t) (fun _ => hv _) ?_
  refine zload (fun _ => ?_)
  refine zstore (by decide) (k1_off233_eq t) (fun _ => hv _) ?_
  refine zload (fun _ => ?_)
  refine zstore (by decide) (k1_off234_eq t) (fun _ => hv _) ?_
  exact tp_ret d L .rfl

/-- The fill from pair 234 to pair 239. -/
theorem zpart44 (v2 : FVec F S16 .f32) (t : Fin k1_t1_loop.trips) (arg10 : BitVec 32) (v1855 : BitVec 32) (c0_i32_914 : BitVec 32) (hv : ∀ y, v2 y = z0 (F := F)) :
    Zst (F := F) d L t.val 234 ⊢ tp d L (k1_part44 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v1855 c0_i32_914) (fun r => iprop(⌜∀ y, r y = z0 (F := F)⌝ ∗ Zst (F := F) d L t.val 239)) := by
  rw [k1_part44_eq_skeleton]
  unfold k1_part44_skel
  refine zload (fun _ => ?_)
  refine zstore (by decide) (k1_off235_eq t) (fun _ => hv _) ?_
  refine zload (fun _ => ?_)
  refine zstore (by decide) (k1_off236_eq t) (fun _ => hv _) ?_
  refine zload (fun _ => ?_)
  refine zstore (by decide) (k1_off237_eq t) (fun _ => hv _) ?_
  refine zload (fun _ => ?_)
  refine zstore (by decide) (k1_off238_eq t) (fun _ => hv _) ?_
  refine zload (fun _ => ?_)
  refine zstore (by decide) (k1_off239_eq t) (fun _ => hv _) ?_
  refine zload (fun _ => ?_)
  refine tp_ret d L ?_
  iintro HZ
  isplitr
  · ipureintro; exact fun _ => hv _
  · iexact HZ

/-- The fill from pair 239 to pair 245. -/
theorem zpart45 (v2 : FVec F S16 .f32) (t : Fin k1_t1_loop.trips) (arg10 : BitVec 32) (v1896 : FVec F S1x1x16 .f32) (hv : ∀ y, v2 y = z0 (F := F)) (hw : ∀ y, v1896 y = z0 (F := F)) :
    Zst (F := F) d L t.val 239 ⊢ tp d L (k1_part45 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v1896) (fun _ => Zst (F := F) d L t.val 245) := by
  rw [k1_part45_eq_skeleton]
  unfold k1_part45_skel
  refine zstore (by decide) (k1_off240_eq t) (fun _ => hw _) ?_
  refine zload (fun _ => ?_)
  refine zstore (by decide) (k1_off241_eq t) (fun _ => hv _) ?_
  refine zload (fun _ => ?_)
  refine zstore (by decide) (k1_off242_eq t) (fun _ => hv _) ?_
  refine zload (fun _ => ?_)
  refine zstore (by decide) (k1_off243_eq t) (fun _ => hv _) ?_
  refine zload (fun _ => ?_)
  refine zstore (by decide) (k1_off244_eq t) (fun _ => hv _) ?_
  refine zload (fun _ => ?_)
  refine zstore (by decide) (k1_off245_eq t) (fun _ => hv _) ?_
  exact tp_ret d L .rfl

/-- The fill from pair 245 to pair 250. -/
theorem zpart46 (v2 : FVec F S16 .f32) (t : Fin k1_t1_loop.trips) (arg10 : BitVec 32) (v1932 : BitVec 32) (c122_i32_941 : BitVec 32) (c1_i32_942 : BitVec 32) (hv : ∀ y, v2 y = z0 (F := F)) :
    Zst (F := F) d L t.val 245 ⊢ tp d L (k1_part46 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 t arg10 v1932 c122_i32_941 c1_i32_942) (fun _ => Zst (F := F) d L t.val 250) := by
  rw [k1_part46_eq_skeleton]
  unfold k1_part46_skel
  refine zload (fun _ => ?_)
  refine zstore (by decide) (k1_off246_eq t) (fun _ => hv _) ?_
  refine zload (fun _ => ?_)
  refine zstore (by decide) (k1_off247_eq t) (fun _ => hv _) ?_
  refine zload (fun _ => ?_)
  refine zstore (by decide) (k1_off248_eq t) (fun _ => hv _) ?_
  refine zload (fun _ => ?_)
  refine zstore (by decide) (k1_off249_eq t) (fun _ => hv _) ?_
  refine zload (fun _ => ?_)
  refine zstore (by decide) (k1_off250_eq t) (fun _ => hv _) ?_
  refine zload (fun _ => ?_)
  exact tp_ret d L .rfl

end Cert.Proof.Cache

end
-- ==== Proof.Fill3.lean ====
/-
The fill: its rounds put together, and the loop over them.
-/
module

public import proofs.«01_k».proof.Proof.Fill1
public import proofs.«01_k».proof.Proof.Fill2

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable {d : Dev nD} {L : grid1.Coords} {hk : kM.IsWhole} {hl : lM.IsWhole} {ho : oM.IsWhole} {hz : zB.IsWhole}
  {hb : kB.IsWhole} {hc : lB.IsWhole}
/-- The fill of one group, its first two hundred and fifty-two pairs. -/
theorem zpart47 (v2 : FVec F S16 .f32) (c0 c1 : BitVec 32) (t : Fin k1_t1_loop.trips) (hv : ∀ y, v2 y = z0 (F := F)) :
    Zst (F := F) d L t.val 0 ⊢ tp d L (k1_part47 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v2 c0 c1 t) (fun _ => Zst (F := F) d L t.val 252) := by
  rw [k1_part47_eq_skeleton]
  unfold k1_part47_skel
  refine tp_seq d L (zpart1 _ _ _ _ hv) (fun r => ?_)
  refine tp_seq d L (zpart2 _ _ _ _ _ _ hv) (fun r => ?_)
  refine tp_seq d L (zpart3 _ _ _ hv) (fun r => ?_)
  refine tp_seq d L (zpart4 _ _ _ _ _ hv) (fun r => ?_)
  refine tp_seq d L (zpart5 _ _ _ _ hv) (fun r => ?_)
  refine tp_seq d L (zpart6 _ _ _ _ hv) (fun r => ?_)
  refine tp_seq d L (zpart7 _ _ _ hv) (fun r => ?_)
  refine tp_seq d L (zpart8 _ _ _ _ hv) (fun r => ?_)
  refine tp_seq d L (zpart9 _ _ _ _ hv) (fun r => ?_)
  refine tp_seq d L (zpart10 _ _ _ hv) (fun r => ?_)
  refine tp_seq d L (zpart11 _ _ _ _ _ hv) (fun r => ?_)
  refine pureL (fun hw => ?_)
  refine tp_seq d L (zpart12 _ _ _ _ hv hw) (fun r => ?_)
  refine tp_seq d L (zpart13 _ _ _ _ _ _ hv) (fun r => ?_)
  refine tp_seq d L (zpart14 _ _ _ hv) (fun r => ?_)
  refine tp_seq d L (zpart15 _ _ _ _ _ hv) (fun r => ?_)
  refine tp_seq d L (zpart16 _ _ _ _ hv) (fun r => ?_)
  refine tp_seq d L (zpart17 _ _ _ _ hv) (fun r => ?_)
  refine tp_seq d L (zpart18 _ _ _ hv) (fun r => ?_)
  refine tp_seq d L (zpart19 _ _ _ _ hv) (fun r => ?_)
  refine tp_seq d L (zpart20 _ _ _ _ hv) (fun r => ?_)
  refine tp_seq d L (zpart21 _ _ _ hv) (fun r => ?_)
  refine tp_seq d L (zpart22 _ _ _ _ _ hv) (fun r => ?_)
  refine pureL (fun hw => ?_)
  refine tp_seq d L (zpart23 _ _ _ _ hv hw) (fun r => ?_)
  refine tp_seq d L (zpart24 _ _ _ _ _ _ hv) (fun r => ?_)
  refine tp_seq d L (zpart25 _ _ _ hv) (fun r => ?_)
  refine tp_seq d L (zpart26 _ _ _ _ _ hv) (fun r => ?_)
  refine tp_seq d L (zpart27 _ _ _ _ hv) (fun r => ?_)
  refine tp_seq d L (zpart28 _ _ _ _ hv) (fun r => ?_)
  refine tp_seq d L (zpart29 _ _ _ hv) (fun r => ?_)
  refine tp_seq d L (zpart30 _ _ _ _ hv) (fun r => ?_)
  refine tp_seq d L (zpart31 _ _ _ _ hv) (fun r => ?_)
  refine tp_seq d L (zpart32 _ _ _ hv) (fun r => ?_)
  refine tp_seq d L (zpart33 _ _ _ _ _ hv) (fun r => ?_)
  refine pureL (fun hw => ?_)
  refine tp_seq d L (zpart34 _ _ _ _ hv hw) (fun r => ?_)
  refine tp_seq d L (zpart35 _ _ _ _ _ _ hv) (fun r => ?_)
  refine tp_seq d L (zpart36 _ _ _ hv) (fun r => ?_)
  refine tp_seq d L (zpart37 _ _ _ _ _ hv) (fun r => ?_)
  refine tp_seq d L (zpart38 _ _ _ _ hv) (fun r => ?_)
  refine tp_seq d L (zpart39 _ _ _ _ hv) (fun r => ?_)
  refine tp_seq d L (zpart40 _ _ _ hv) (fun r => ?_)
  refine tp_seq d L (zpart41 _ _ _ _ hv) (fun r => ?_)
  refine tp_seq d L (zpart42 _ _ _ _ hv) (fun r => ?_)
  refine tp_seq d L (zpart43 _ _ _ hv) (fun r => ?_)
  refine tp_seq d L (zpart44 _ _ _ _ _ hv) (fun r => ?_)
  refine pureL (fun hw => ?_)
  refine tp_seq d L (zpart45 _ _ _ _ hv hw) (fun r => ?_)
  refine tp_seq d L (zpart46 _ _ _ _ _ _ hv) (fun r => ?_)
  refine zstore (by decide) (k1_off251_eq t) (fun _ => hv _) ?_
  refine zload (fun _ => ?_)
  refine zstore (by decide) (k1_off252_eq t) (fun _ => hv _) ?_
  exact tp_ret d L .rfl

/-- A group filled is the next one begun. -/
theorem zst_next (k : ℕ) : Zst (F := F) d L k 256 ⊢ Zst (F := F) d L (k + 1) 0 := by
  unfold Zst
  iintro HZ
  icases HZ with ⟨%f, %hf, Hz⟩
  iexists f
  isplitr
  · ipureintro
    intro x hx
    have h0 : (x 0).val < 128 := (x 0).isLt
    have h1 : (x 1).val < 2 := (x 1).isLt
    refine hf x ?_
    rcases hx with hx | ⟨_, hx⟩
    · by_cases h : (x 2).val < 16 * k
      · exact .inl h
      · exact .inr ⟨by omega, by omega⟩
    · omega
  · iexact Hz

/-- The sixteen zeros the fill stores. -/
theorem pay253_apply (y : S16.Idx) : k1_pay253 (F := F) y = z0 (F := F) := by
  unfold k1_pay253 z0
  rfl

/-- One round of the fill: the group `t`. -/
theorem zround (t : Fin k1_t1_loop.trips) (a : BitVec 32) :
    Zst (F := F) d L t.val 0 ⊢ tp d L (k1_t1_body L kM hk lM hl oM ho zB hz kB hb lB hc cc1_scratch3 cc1_scratch4 cc1_scoped0 cc1_scoped1 cc1_scoped2 cc1_scoped3 cc1_scoped4 cc1_scoped5 cc1_scoped6 cc1_scoped7 cc1_scoped8 t a) (fun _ => Zst (F := F) d L (t.val + 1) 0) := by
  unfold k1_t1_body
  refine tp_seq d L (zpart47 (k1_pay253 (F := F)) 0#32 1#32 t (fun _ => pay253_apply _)) (fun r => ?_)
  refine zload (fun _ => ?_)
  refine zstore (by decide) (k1_off253_eq t) (fun _ => rfl) ?_
  refine zload (fun _ => ?_)
  refine zstore (by decide) (k1_off254_eq t) (fun _ => rfl) ?_
  refine zload (fun _ => ?_)
  refine zstore (by decide) (k1_off255_eq t) (fun _ => rfl) ?_
  refine zload (fun _ => ?_)
  refine zstore (by decide) (k1_off256_eq t) (fun _ => rfl) ?_
  exact tp_ret d L (zst_next _)

/-- The whole fill: at its end the block is zero. -/
theorem zfill (a : BitVec 32) :
    Zst (F := F) d L 0 0 ⊢ tp d L (Scf.Loop.for k1_t1_loop k1_t1_ok a (k1_t1_body L kM hk lM hl oM ho zB hz kB hb lB hc cc1_scratch3 cc1_scratch4 cc1_scoped0 cc1_scoped1 cc1_scoped2 cc1_scoped3 cc1_scoped4 cc1_scoped5 cc1_scoped6 cc1_scoped7 cc1_scoped8)) (fun _ => Zst (F := F) d L 8 0) := by
  have hn : k1_t1_loop.trips = 8 := by decide
  refine BIBase.Entails.trans ?_ (Scf.wp_for (M := 𝕄) frame (wpE (defs₀ (F := F)) 𝒱₀ (thr d L) none) Set.univ k1_t1_loop.lb k1_t1_loop.ub
    k1_t1_loop.st k1_t1_ok a (k1_t1_body L kM hk lM hl oM ho zB hz kB hb lB hc cc1_scratch3 cc1_scratch4 cc1_scoped0 cc1_scoped1 cc1_scoped2 cc1_scoped3 cc1_scoped4 cc1_scoped5 cc1_scoped6 cc1_scoped7 cc1_scoped8) (fun n _ => Zst (F := F) d L n 0) (fun t a => zround t a))
  iintro HZ
  isplitl [HZ]
  · iexact HZ
  · iintro %b HZ
    rw [show Scf.trips k1_t1_loop.lb k1_t1_loop.ub k1_t1_loop.st = 8 from hn]
    iexact HZ

end Cert.Proof.Cache

end
-- ==== Proof.Geom.lean ====
/-
The arrays of the launch, the rows each task writes, and what the launch is to leave in them.
-/
module

public import proofs.«01_k».proof.Proof.Fill3

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The three arrays of the launch, on device `d`: the key's rows, the list of rows, the rows of the new cache. -/
abbrev kLoc (d : Dev nD) : Loc nD τ sig := (SparseCore.T d).loc main_v10
abbrev lLoc (d : Dev nD) : Loc nD τ sig := (SparseCore.T d).loc main_v9
abbrev oLoc (d : Dev nD) : Loc nD τ sig := (SparseCore.T d).loc main_v11

/-- The place in the key's rows of lane `(a, b)` of the row that entry `x` of the list is for. -/
def kix (x : S256x128.Idx) (a : Fin 2) (b : Fin 128) : S32768x2x128.Idx := fun
  | 0 => ⟨128 * (x 0).val + (x 1).val, by
      have h0 : (x 0).val < 256 := (x 0).isLt
      have h1 : (x 1).val < 128 := (x 1).isLt
      show _ < 32768
      omega⟩
  | 1 => a
  | 2 => b

/-- Entry `l` of chunk `j` of task `w`, in the list. -/
def lix (w : Fin 32) (y : S8x128.Idx) : S256x128.Idx := fun
  | 0 => ⟨8 * w.val + (y 0).val, by
      have h0 : (y 0).val < 8 := (y 0).isLt
      show _ < 256
      omega⟩
  | 1 => y 1

/-- A task's number. -/
abbrev wd (L : grid1.Coords) : Fin 32 := ⟨wid L, wid_lt L⟩

section Value

variable (key : S32768x2x128.Idx → Elt F .f32) (lst : S256x128.Idx → BitVec 32)

open scoped Classical in
/-- What the launch leaves in the rows of the new cache: at a row the list names, the key's row of that entry; zero
    elsewhere. -/
def Gk : S131072x2x128.Idx → Elt F .f32 := fun y =>
  if h : ∃ x : S256x128.Idx, (lst x).toNat = (y 0).val then key (kix h.choose (y 1) (y 2)) else z0 (F := F)

theorem Gk_row (hinj : Function.Injective fun x => (lst x).toNat) {x : S256x128.Idx} {y : S131072x2x128.Idx}
    (h : (lst x).toNat = (y 0).val) : Gk key lst y = key (kix x (y 1) (y 2)) := by
  have he : ∃ x : S256x128.Idx, (lst x).toNat = (y 0).val := ⟨x, h⟩
  unfold Gk
  rw [dif_pos he, hinj (he.choose_spec.trans h.symm)]

theorem Gk_zero (hlt : ∀ x, (lst x).toNat < 32768) {y : S131072x2x128.Idx} (h : 32768 ≤ (y 0).val) :
    Gk key lst y = z0 (F := F) := by
  unfold Gk
  rw [dif_neg]
  rintro ⟨x, hx⟩
  have := hlt x
  omega

open scoped Classical in
/-- The rows named by chunk `j` of task `w`'s list. -/
def crow (w : Fin 32) (j : Fin 8) : Finset S131072x2x128.Idx :=
  Finset.univ.filter fun y => ∃ x : S8x128.Idx, (x 0).val = j.val ∧ (lst (lix w x)).toNat = (y 0).val

/-- The `t`-th block of rows that task `w` fills with zeros. -/
def zwin (w : Fin 32) (t : Fin 24) : Finset S131072x2x128.Idx :=
  Finset.univ.filter fun y => 32768 + 3072 * w.val + 128 * t.val ≤ (y 0).val ∧ (y 0).val < 32768 + 3072 * w.val + 128 * t.val + 128

/-- Chunk `j` of task `w`'s key rows. -/
def kchunk (w : Fin 32) (j : Fin 8) : S128x2x128.Idx → Elt F .f32 := fun y =>
  key (kix (lix w (fun | 0 => j | 1 => y 0)) (y 1) (y 2))

/-- Task `w`'s lists. -/
def tlist (w : Fin 32) : S8x128.Idx → BitVec 32 := fun y => lst (lix w y)

end Value

/-- An index of three coordinates is them. -/
theorem idx3_ext {n : Fin 3 → ℕ} {x y : (⟨3, n⟩ : Shape).Idx} (h0 : (x 0).val = (y 0).val) (h1 : (x 1).val = (y 1).val)
    (h2 : (x 2).val = (y 2).val) : x = y := by
  funext a
  match a with
  | 0 => exact Fin.ext h0
  | 1 => exact Fin.ext h1
  | 2 => exact Fin.ext h2

/-- An index of two coordinates is them. -/
theorem idx2_ext {n : Fin 2 → ℕ} {x y : (⟨2, n⟩ : Shape).Idx} (h0 : (x 0).val = (y 0).val) (h1 : (x 1).val = (y 1).val) : x = y := by
  funext a
  match a with
  | 0 => exact Fin.ext h0
  | 1 => exact Fin.ext h1

/-- The slice the `t`-th zero block is copied to is its block of rows. -/
theorem zslice_set (w : Fin 32) (t : Fin 24) {off : Fin 3 → ℕ} {inb : ∀ a, off a + S128x2x128.size a ≤ S131072x2x128.size a}
    (ho : off = ![32768 + 3072 * w.val + 128 * t.val, 0, 0]) :
    (oM.view.slice (Rect.unit (s := S131072x2x128) off S128x2x128.size inb)).set = zwin w t := by
  rw [View.set_slice]
  ext y
  have e1 : y ∈ (Rect.unit (s := S131072x2x128) off S128x2x128.size inb).set.map oM.view.emb
      ↔ y ∈ (Rect.unit (s := S131072x2x128) off S128x2x128.size inb).set := by
    show y ∈ Finset.map (Function.Embedding.refl _) _ ↔ _
    rw [Finset.map_refl]
  refine e1.trans ?_
  rw [Rect.mem_set_unit]
  subst ho
  unfold zwin
  simp only [Finset.mem_filter, Finset.mem_univ, true_and]
  constructor
  · intro h
    exact h 0
  · intro h a
    match a with
    | 0 => exact h
    | 1 => exact ⟨Nat.zero_le _, (y 1).isLt⟩
    | 2 => exact ⟨Nat.zero_le _, (y 2).isLt⟩

end Cert.Proof.Cache

end
-- ==== Proof.Zero.lean ====
/-
A task's state between steps, and the steps of its zero copies.
-/
module

public import proofs.«01_k».proof.Proof.Geom

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A transfer of a block of rows, in units of credit. -/
abbrev NB : ℕ := zB.view.dmaCredit

/-- The cell of the zero copies and the cell of the scatters. -/
abbrev zSem (d : Dev nD) (L : grid1.Coords) : GSem nD τ sig := (thr d L, .dma cc1_scratch3.sem)
abbrev sSem (d : Dev nD) (L : grid1.Coords) : GSem nD τ sig := (thr d L, .dma cc1_scratch4.sem)

/-- The cells of the nine copies in. -/
def rs : Fin 9 → DmaSem sig
  | 0 => cc1_scoped0.sem
  | 1 => cc1_scoped1.sem
  | 2 => cc1_scoped2.sem
  | 3 => cc1_scoped3.sem
  | 4 => cc1_scoped4.sem
  | 5 => cc1_scoped5.sem
  | 6 => cc1_scoped6.sem
  | 7 => cc1_scoped7.sem
  | 8 => cc1_scoped8.sem

/-- The contents of the block of zeros. -/
def Zc : S128x2x128.Idx → Elt F .f32 := fun _ => z0 (F := F)

/-- The first `j` of a family. -/
def done {n : ℕ} (j : ℕ) : Finset (Fin n) := Finset.univ.filter fun t => t.val < j

theorem bigSep_done_succ {n : ℕ} (Φ : Fin n → sProp 𝕄) (j : ℕ) (hj : j < n) :
    bigSep (done (j + 1)) Φ = iprop(Φ ⟨j, hj⟩ ∗ bigSep (done j) Φ) := by
  have h : done (n := n) (j + 1) = insert ⟨j, hj⟩ (done j) := by
    ext t
    simp only [done, Finset.mem_filter, Finset.mem_univ, true_and, Finset.mem_insert, Fin.ext_iff]
    omega
  rw [h, bigSep_insert (by simp [done])]
  rfl

theorem done_zero {n : ℕ} : done (n := n) 0 = ∅ := by
  unfold done
  exact Finset.filter_false_of_mem fun _ _ => by omega

theorem done_all {n : ℕ} : done (n := n) n = Finset.univ := by
  unfold done
  exact Finset.filter_true_of_mem fun t _ => t.isLt

theorem pending_all {n : ℕ} : Transfers.pending (n := n) n = ∅ := by
  unfold Transfers.pending
  exact Finset.filter_false_of_mem fun t _ => by have := t.isLt; omega

section State

variable (d : Dev nD) (L : grid1.Coords) (key : Buf (Elt F) (kLoc d)) (lst : Buf (Elt F) (lLoc d)) (f0 : Buf (Elt F) (oLoc d))
  (O : CellTallies nD τ sig (HIx 1)) (W : Waits sig (HIx 1)) (qk : PosShare TreeShare)

/-- What the `t`-th zero copy delivers: its rows at their final value, and its share of the block of zeros. -/
def ZD (t : Fin 24) : sProp 𝕄 :=
  iprop((oLoc d ↦[zwin (wd L) t]{fullShare} Gk key lst)
    ∗ (zB.view.loc (thr d L) ↦[Finset.univ]{Transfers.shareTok fullShare 24 t} (Zc (F := F))))

instance (t : Fin 24) : Storable (upEmb : UEmb _ 𝕄) (ZD d L key lst t) := by unfold ZD; infer_instance

/-- The zero copies: `n` issued and `u` units waited for. -/
def ZI (n u : ℕ) : sProp 𝕄 :=
  iprop(Transfers.Batch countersEmb (thr d L) (.dma cc1_scratch3.sem) (default : HIx 1) NB (ZD d L key lst) n u
    ∗ bigSep (Transfers.pending n) (fun t : Fin 24 => iprop((oLoc d ↦[zwin (wd L) t]{fullShare} f0)
        ∗ (zB.view.loc (thr d L) ↦[Finset.univ]{Transfers.shareTok fullShare 24 t} (Zc (F := F)))))
    ∗ (zB.view.loc (thr d L) ↦[Finset.univ]{Transfers.shareDrop fullShare 24} (Zc (F := F))))

/-- The rows of chunk `j` on, untouched, and of the chunks before it, written. -/
def RW (a b : ℕ) : sProp 𝕄 :=
  iprop(bigSep (Transfers.pending a) (fun t : Fin 8 => oLoc d ↦[crow lst (wd L) t]{fullShare} f0)
    ∗ bigSep (done b) (fun t : Fin 8 => oLoc d ↦[crow lst (wd L) t]{fullShare} Gk key lst))

/-- No scatter in flight, `j` chunks written. -/
def SI (j : ℕ) : sProp 𝕄 :=
  iprop(RW d L key lst f0 j j ∗ (∃ f, kB.view.loc (thr d L) ↦[Finset.univ]{fullShare} f)
    ∗ (lB.view.loc (thr d L) ↦[Finset.univ]{fullShare} tlist lst (wd L)) ∗ semVal (sSem d L) 0)

/-- The same, with chunk `j`'s key rows in the block. -/
def SK (j : Fin 8) : sProp 𝕄 :=
  iprop(RW d L key lst f0 j.val j.val ∗ (kB.view.loc (thr d L) ↦[Finset.univ]{fullShare} kchunk key (wd L) j)
    ∗ (lB.view.loc (thr d L) ↦[Finset.univ]{fullShare} tlist lst (wd L)) ∗ semVal (sSem d L) 0)

/-- Chunk `j`'s scatter in flight. -/
def SB (j : Fin 8) : sProp 𝕄 :=
  iprop(RW d L key lst f0 (j.val + 1) j.val ∗ ∃ D R : sProp 𝕄, ⌜iprop(D ∗ R) ⊢ iprop((oLoc d ↦[crow lst (wd L) j]{fullShare} Gk key lst)
      ∗ (∃ f, kB.view.loc (thr d L) ↦[Finset.univ]{fullShare} f) ∗ (lB.view.loc (thr d L) ↦[Finset.univ]{fullShare} tlist lst (wd L)))⌝
    ∗ Transfers.Flight countersEmb (thr d L) (.dma cc1_scratch4.sem) (default : HIx 1) NB D ∗ R)

/-- What every step needs: the levels, the cells of the copies in, the shares of the key's rows and of the list, and what the
    task owes. -/
def CM : sProp 𝕄 :=
  iprop(levAts (K (F := F)).L (K (F := F)).lev ∗ bigSep Finset.univ (fun i : Fin 9 => semVal (thr d L, .dma (rs i)) 0)
    ∗ (kLoc d ↦[Finset.univ]{qk} key) ∗ (lLoc d ↦[Finset.univ]{qk} lst) ∗ ∃ W', ⌜∀ p ∈ W', p ∈ W ∨ p.2 = none⌝ ∗ owes (thr d L) O W')

end State

variable {d : Dev nD} {L : grid1.Coords} {key : Buf (Elt F) (kLoc d)} {lst : Buf (Elt F) (lLoc d)} {f0 : Buf (Elt F) (oLoc d)}
  {O : CellTallies nD τ sig (HIx 1)} {W : Waits sig (HIx 1)} {qk : PosShare TreeShare}

/-- A block of zeros written over a block of rows past the key's is those rows at their final value. -/
theorem zwritten (hlt : ∀ x, (lst x).toNat < 32768) (t : Fin 24) {off : Fin 3 → ℕ}
    {inb : ∀ a, off a + S128x2x128.size a ≤ S131072x2x128.size a} (ho : off = ![32768 + 3072 * (wd L).val + 128 * t.val, 0, 0])
    (i : S131072x2x128.Idx) (hi : i ∈ zwin (wd L) t) :
    (oM.view.slice (Rect.unit (s := S131072x2x128) off S128x2x128.size inb)).write (Elt F) f0
      (ReadAs.same.apply (zB.view.read (Elt F) (Zc (F := F)))) Finset.univ i = Gk key lst i := by
  rw [Gk_zero key lst hlt (y := i) (by
    unfold zwin at hi
    have := (Finset.mem_filter.mp hi).2.1
    omega)]
  rw [← zslice_set (wd L) t ho (inb := inb)] at hi
  obtain ⟨y, -, rfl⟩ := Finset.mem_map.mp hi
  exact (View.write_emb_of_mem (v := oM.view.slice (Rect.unit (s := S131072x2x128) off S128x2x128.size inb)) (Val := Elt F) f0 _
    (Finset.mem_univ y)).trans rfl

/-- The issue of the `t`-th zero copy. -/
theorem zissue (hlt : ∀ x, (lst x).toNat < 32768) {B C : sProp 𝕄} (t : ℕ) (ht : t < 24) {off : Fin 3 → ℕ}
    {inb : ∀ a, off a + S128x2x128.size a ≤ S131072x2x128.size a} (ho : off = ![32768 + 3072 * (wd L).val + 128 * t, 0, 0])
    {hr} {h1 h2 h3}
    {α : Type} {Q : α → sProp 𝕄} {κ : PUnit → Prog (TpuEff nD τ sig (Elt F) Λ₀ (.scVector (cV L) (jV L))) α}
    (h : iprop(ZI d L key lst f0 (t + 1) 0 ∗ B ∗ C) ⊢ tp (F := F) d L (κ ⟨⟩) Q) :
    iprop(ZI d L key lst f0 t 0 ∗ B ∗ C)
      ⊢ tp (F := F) d L (Prog.lift (.enqueueDma zB (.here (oM.slice (Rect.unit (s := S131072x2x128) off S128x2x128.size inb) hr)) (.dma cc1_scratch3.sem) h1 h2 h3) >>= κ) Q := by
  have hs := zslice_set (wd L) ⟨t, ht⟩ ho (inb := inb)
  have hs' : (oM.slice (Rect.unit (s := S131072x2x128) off S128x2x128.size inb) hr).view.set ⊆ zwin (wd L) ⟨t, ht⟩ := subset_of_eq hs
  unfold ZI at *
  rw [Transfers.bigSep_pending_step _ t ht]
  iintro ⟨⟨Hb, ⟨⟨Ho, Hz⟩, Hp⟩, Hd⟩, HB, HC⟩
  iapply (Transfers.wp_dmaBatch countersEmb 𝒱₀ (thr d L) none (D := ZD d L key lst) (j := t) (u := 0)
      (src := zB) (dst := oM.slice (Rect.unit (s := S131072x2x128) off S128x2x128.size inb) hr) (Sd := zwin (wd L) ⟨t, ht⟩)
      (fs := Zc (F := F)) (fd := f0) (q := Transfers.shareTok fullShare 24 ⟨t, ht⟩)
      (default : HIx 1) NB rfl hs' ht (Nat.zero_le _) ?_) $$ [Hb Ho Hz]
  · unfold ZD
    refine sep_mono (Entails.of_eq ?_) (Entails.of_eq ?_)
    · exact pointsTo_congr fun i hi => zwritten hlt ⟨t, ht⟩ ho i hi
    · rw [show zB.view.set = Finset.univ from View.set_whole _]
  · isplitl [Hz]
    · rw [show zB.view.set = Finset.univ from View.set_whole _]
      iexact Hz
    isplitl [Ho]; · iexact Ho
    iexact Hb
  iintro Hb
  iapply h
  isplitl [Hb Hp Hd]
  · isplitl [Hb]; · iexact Hb
    isplitl [Hp]; · iexact Hp
    iexact Hd
  isplitl [HB]; · iexact HB
  iexact HC

theorem insert_mem {W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

/-- A wait for one zero copy, not the last. -/
theorem zwait (hO : ∀ g, O g none = 0) {B : sProp 𝕄} (u : ℕ) (hu : u + 1 < 24) {off : Fin 3 → ℕ}
    {inb : ∀ a, off a + S128x2x128.size a ≤ S131072x2x128.size a} {hr} {h1 h2}
    {α : Type} {Q : α → sProp 𝕄} {κ : PUnit → Prog (TpuEff nD τ sig (Elt F) Λ₀ (.scVector (cV L) (jV L))) α}
    (h : iprop(ZI d L key lst f0 24 ((u + 1) * NB) ∗ B ∗ CM d L key lst O W qk) ⊢ tp (F := F) d L (κ ⟨⟩) Q) :
    iprop(ZI d L key lst f0 24 (u * NB) ∗ B ∗ CM d L key lst O W qk)
      ⊢ tp (F := F) d L (Prog.lift (.waitDma2 cc1_scratch3.sem zB (oM.slice (Rect.unit (s := S131072x2x128) off S128x2x128.size inb) hr) h1 h2) >>= κ) Q := by
  have hN : 0 < NB := by decide
  have hd : (oM.slice (Rect.unit (s := S131072x2x128) off S128x2x128.size inb) hr).view.dmaCredit = NB := rfl
  have hu' : u * NB + NB < NB * 24 := by nlinarith
  unfold ZI CM at *
  iintro ⟨⟨Hb, Hp, Hd⟩, HB, ⟨#Hlv, Hr, Hk, Hl, %W', %hW', HO⟩⟩
  ihave Hmw := (show levAts (K (F := F)).L (K (F := F)).lev ⊢ Transfers.MayWaits (thr d L) (default : HIx 1) O from
    (K (F := F)).mayWaits_none (thr := thr d L) hO) $$ Hlv
  iapply (Transfers.wp_waitBatchO countersEmb 𝒱₀ (thr d L) none (D := ZD d L key lst) (default : HIx 1)
      (dstw := oM.slice (Rect.unit (s := S131072x2x128) off S128x2x128.size inb) hr) (N := NB) hd (u := u * NB) hu') $$ [Hb HO]
  · isplitl [Hb]; · iexact Hb
    isplitl [HO]; · iexact HO
    iapply (Transfers.MayWaits.elim (SemLoc.dma cc1_scratch3.sem)) $$ Hmw
  iintro ⟨Hb, HO⟩
  rw [show u * NB + NB = (u + 1) * NB by ring]
  iapply h
  isplitl [Hb Hp Hd]
  · isplitl [Hb]; · iexact Hb
    isplitl [Hp]; · iexact Hp
    iexact Hd
  isplitl [HB]; · iexact HB
  isplitr; · iexact Hlv
  isplitl [Hr]; · iexact Hr
  isplitl [Hk]; · iexact Hk
  isplitl [Hl]; · iexact Hl
  iexists (insert (SemLoc.dma cc1_scratch3.sem, (default : HIx 1)) W')
  isplitr
  · ipureintro; exact insert_mem hW' _
  · iexact HO

/-- The wait for the last zero copy: every block of rows written, the block of zeros whole again. -/
theorem zwaitLast (hO : ∀ g, O g none = 0) {B : sProp 𝕄} {off : Fin 3 → ℕ}
    {inb : ∀ a, off a + S128x2x128.size a ≤ S131072x2x128.size a} {hr} {h1 h2}
    {α : Type} {Q : α → sProp 𝕄} {κ : PUnit → Prog (TpuEff nD τ sig (Elt F) Λ₀ (.scVector (cV L) (jV L))) α}
    (h : iprop(iprop(bigSep Finset.univ (fun t : Fin 24 => oLoc d ↦[zwin (wd L) t]{fullShare} Gk key lst)
        ∗ (zB.view.loc (thr d L) ↦[Finset.univ]{fullShare} (Zc (F := F))) ∗ semVal (zSem d L) 0) ∗ B ∗ CM d L key lst O W qk) ⊢ tp (F := F) d L (κ ⟨⟩) Q) :
    iprop(ZI d L key lst f0 24 (23 * NB) ∗ B ∗ CM d L key lst O W qk)
      ⊢ tp (F := F) d L (Prog.lift (.waitDma2 cc1_scratch3.sem zB (oM.slice (Rect.unit (s := S131072x2x128) off S128x2x128.size inb) hr) h1 h2) >>= κ) Q := by
  have hN : 0 < NB := by decide
  have hd : (oM.slice (Rect.unit (s := S131072x2x128) off S128x2x128.size inb) hr).view.dmaCredit = NB := rfl
  have hu' : 23 * NB + NB = NB * 24 := by ring
  unfold ZI CM at *
  iintro ⟨⟨Hb, Hp, Hd⟩, HB, ⟨#Hlv, Hr, Hk, Hl, %W', %hW', HO⟩⟩
  ihave Hmw := (show levAts (K (F := F)).L (K (F := F)).lev ⊢ Transfers.MayWaits (thr d L) (default : HIx 1) O from
    (K (F := F)).mayWaits_none (thr := thr d L) hO) $$ Hlv
  iapply (Transfers.wp_waitBatchLastO countersEmb 𝒱₀ (thr d L) none (D := ZD d L key lst) (default : HIx 1)
      (dstw := oM.slice (Rect.unit (s := S131072x2x128) off S128x2x128.size inb) hr) (N := NB) hd hN (u := 23 * NB) hu') $$ [Hb HO]
  · isplitl [Hb]; · iexact Hb
    isplitl [HO]; · iexact HO
    iapply (Transfers.MayWaits.elim (SemLoc.dma cc1_scratch3.sem)) $$ Hmw
  iintro ⟨HD, Hs, HO⟩
  ihave HD' := (show bigSep Finset.univ (ZD d L key lst) ⊢ iprop(bigSep Finset.univ (fun t : Fin 24 => oLoc d ↦[zwin (wd L) t]{fullShare} Gk key lst)
      ∗ bigSep Finset.univ (fun t : Fin 24 => zB.view.loc (thr d L) ↦[Finset.univ]{Transfers.shareTok fullShare 24 t} (Zc (F := F)))) from by
    unfold ZD
    exact Entails.of_eq (bigSep_sep _ _ _)) $$ HD
  icases HD' with ⟨Ho, Hz⟩
  iapply h
  isplitl [Ho Hz Hd Hs]
  · isplitl [Ho]; · iexact Ho
    isplitl [Hz Hd]
    · iapply (Transfers.pointsTo_toks_join fullShare 24)
      isplitl [Hd]; · iexact Hd
      iexact Hz
    iexact Hs
  isplitl [HB]; · iexact HB
  isplitr; · iexact Hlv
  isplitl [Hr]; · iexact Hr
  isplitl [Hk]; · iexact Hk
  isplitl [Hl]; · iexact Hl
  iexists (insert (SemLoc.dma cc1_scratch3.sem, (default : HIx 1)) W')
  isplitr
  · ipureintro; exact insert_mem hW' _
  · iexact HO

end Cert.Proof.Cache

end
-- ==== Proof.Copy.lean ====
/-
The copies in: a task's lists, and each chunk of its key rows.
-/
module

public import proofs.«01_k».proof.Proof.Zero

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable {d : Dev nD} {L : grid1.Coords} {key : Buf (Elt F) (kLoc d)} {lst : Buf (Elt F) (lLoc d)} {f0 : Buf (Elt F) (oLoc d)}
  {O : CellTallies nD τ sig (HIx 1)} {W : Waits sig (HIx 1)} {qk : PosShare TreeShare}

/-- What the copy of chunk `j` of the key's rows lands. -/
theorem klanded (j : Fin 8) {off : Fin 3 → ℕ} {inb : ∀ a, off a + S128x2x128.size a ≤ S32768x2x128.size a}
    (ho : off = ![1024 * (wd L).val + 128 * j.val, 0, 0]) (f : Buf (Elt F) (kB.view.loc (thr d L))) :
    kB.view.write (Elt F) f (ReadAs.same.apply ((kM.view.slice (Rect.unit (s := S32768x2x128) off S128x2x128.size inb)).read (Elt F) key)) Finset.univ
      = kchunk key (wd L) j := by
  refine (View.write_whole_univ (Val := Elt F) cc1_scratch1 f _).trans ?_
  funext y
  show key ((Rect.unit (s := S32768x2x128) off S128x2x128.size inb).emb y) = key _
  congr 1
  subst ho
  refine idx3_ext ?_ ?_ ?_
  · show 1024 * (wd L).val + 128 * j.val + 1 * (y 0).val = 128 * (8 * (wd L).val + j.val) + (y 0).val
    ring
  · show 0 + 1 * (y 1).val = (y 1).val
    ring
  · show 0 + 1 * (y 2).val = (y 2).val
    ring

/-- What the copy of the task's lists lands. -/
theorem llanded {off : Fin 2 → ℕ} {inb : ∀ a, off a + S8x128.size a ≤ S256x128.size a}
    (ho : off = ![8 * (wd L).val, 0]) (f : Buf (Elt F) (lB.view.loc (thr d L))) :
    lB.view.write (Elt F) f (ReadAs.same.apply ((lM.view.slice (Rect.unit (s := S256x128) off S8x128.size inb)).read (Elt F) lst)) Finset.univ
      = tlist lst (wd L) := by
  refine (View.write_whole_univ (Val := Elt F) cc1_scratch2 f _).trans ?_
  funext y
  show lst ((Rect.unit (s := S256x128) off S8x128.size inb).emb y) = lst _
  congr 1
  subst ho
  refine idx2_ext ?_ ?_
  · show 8 * (wd L).val + 1 * (y 0).val = 8 * (wd L).val + (y 0).val
    ring
  · show 0 + 1 * (y 1).val = (y 1).val
    ring

/-- The copy in of chunk `j` of the task's key rows, and its wait. -/
theorem kcopy (hO : ∀ g, O g none = 0) {A : sProp 𝕄} (j : Fin 8) {off : Fin 3 → ℕ}
    {inb : ∀ a, off a + S128x2x128.size a ≤ S32768x2x128.size a} (ho : off = ![1024 * (wd L).val + 128 * j.val, 0, 0])
    {hr hr'} {s : DmaSem sig} (hs : s = rs j.succ) {h1 h2 h3 h4 h5}
    {α : Type} {Q : α → sProp 𝕄} {κ : PUnit → Prog (TpuEff nD τ sig (Elt F) Λ₀ (.scVector (cV L) (jV L))) α}
    (h : iprop(A ∗ SK d L key lst f0 j ∗ CM d L key lst O W qk) ⊢ tp (F := F) d L (κ ⟨⟩) Q) :
    iprop(A ∗ SI d L key lst f0 j.val ∗ CM d L key lst O W qk)
      ⊢ tp (F := F) d L (Prog.lift (.enqueueDma (kM.slice (Rect.unit (s := S32768x2x128) off S128x2x128.size inb) hr) (.here kB) (.dma s) h1 h2 h3)
          >>= fun _ => Prog.lift (.waitDma2 s (kM.slice (Rect.unit (s := S32768x2x128) off S128x2x128.size inb) hr') kB h4 h5) >>= κ) Q := by
  have hN : 0 < kB.view.dmaCredit := by decide
  have hw : kB.view.set = Finset.univ := View.set_whole _
  subst hs
  unfold SI SK CM at *
  iintro ⟨HA, ⟨HR, ⟨%f, Hb⟩, Hlb, Hs⟩, ⟨#Hlv, Hr, Hk, Hl, %W', %hW', HO⟩⟩
  ihave Hmw := (show levAts (K (F := F)).L (K (F := F)).lev ⊢ Transfers.MayWaits (thr d L) (default : HIx 1) O from
    (K (F := F)).mayWaits_none (thr := thr d L) hO) $$ Hlv
  ihave Hr' := (Entails.of_eq (bigSep_univ_at (fun i : Fin 9 => (semVal (thr d L, .dma (rs i)) 0 : sProp 𝕄)) j.succ)) $$ Hr
  icases Hr' with ⟨Hc, Hr⟩
  ihave Hk' := (pointsTo_split_subset (q := qk) (f := key) (S := Finset.univ) (Finset.subset_univ
    (kM.slice (Rect.unit (s := S32768x2x128) off S128x2x128.size inb) hr).view.set)).1 $$ Hk
  icases Hk' with ⟨Hk, Hkr⟩
  iapply (Transfers.wp_dmaLocal countersEmb 𝒱₀ (thr d L) none (default : HIx 1) kB.view.dmaCredit
      (src := kM.slice (Rect.unit (s := S32768x2x128) off S128x2x128.size inb) hr) (dst := kB) (Sd := Finset.univ) (fs := key) (fd := f) (q := qk)
      rfl hN (Finset.subset_univ _)) $$ [Hk Hb Hc]
  · isplitl [Hk]; · iexact Hk
    isplitl [Hb]; · iexact Hb
    iexact Hc
  iintro Hfl
  iapply (Transfers.wp_waitLocalO countersEmb 𝒱₀ (thr d L) none (default : HIx 1) (rfl : kB.view.dmaCredit = _)) $$ [Hfl HO]
  · isplitl [Hfl]; · iexact Hfl
    isplitl [HO]; · iexact HO
    iapply (Transfers.MayWaits.elim (SemLoc.dma (rs j.succ))) $$ Hmw
  iintro ⟨⟨Hb, Hk⟩, Hc, HO⟩
  ihave Hk' := (pointsTo_split_subset (q := qk) (f := key) (S := Finset.univ) (Finset.subset_univ
    (kM.slice (Rect.unit (s := S32768x2x128) off S128x2x128.size inb) hr).view.set)).2 $$ [Hk Hkr]
  · isplitl [Hk]; · iexact Hk
    iexact Hkr
  ihave Hb' := (Entails.of_eq (show (kB.view.loc (thr d L) ↦[Finset.univ]{fullShare} _ : sProp 𝕄) = (kB.view.loc (thr d L) ↦[Finset.univ]{fullShare} _)
    from congrArg _ (klanded (F := F) (d := d) (L := L) (key := key) j ho f))) $$ Hb
  iapply h
  isplitl [HA]; · iexact HA
  isplitl [HR Hb' Hlb Hs]
  · isplitl [HR]; · iexact HR
    isplitl [Hb']; · iexact Hb'
    isplitl [Hlb]; · iexact Hlb
    iexact Hs
  isplitr; · iexact Hlv
  isplitl [Hr Hc]
  · iapply (Entails.of_eq (bigSep_univ_at (fun i : Fin 9 => (semVal (thr d L, .dma (rs i)) 0 : sProp 𝕄)) j.succ).symm)
    isplitl [Hc]; · iexact Hc
    iexact Hr
  isplitl [Hk']; · iexact Hk'
  isplitl [Hl]; · iexact Hl
  iexists (insert (SemLoc.dma (rs j.succ), (default : HIx 1)) W')
  isplitr
  · ipureintro; exact insert_mem hW' _
  · iexact HO

/-- The copy in of the task's lists, and its wait. -/
theorem lcopy (hO : ∀ g, O g none = 0) {A : sProp 𝕄} {off : Fin 2 → ℕ}
    {inb : ∀ a, off a + S8x128.size a ≤ S256x128.size a} (ho : off = ![8 * (wd L).val, 0])
    {hr hr'} {h1 h2 h3 h4 h5}
    {α : Type} {Q : α → sProp 𝕄} {κ : PUnit → Prog (TpuEff nD τ sig (Elt F) Λ₀ (.scVector (cV L) (jV L))) α}
    (h : iprop(A ∗ (lB.view.loc (thr d L) ↦[Finset.univ]{fullShare} tlist lst (wd L)) ∗ CM d L key lst O W qk) ⊢ tp (F := F) d L (κ ⟨⟩) Q) :
    iprop(A ∗ (∃ f, lB.view.loc (thr d L) ↦[Finset.univ]{fullShare} f) ∗ CM d L key lst O W qk)
      ⊢ tp (F := F) d L (Prog.lift (.enqueueDma (lM.slice (Rect.unit (s := S256x128) off S8x128.size inb) hr) (.here lB) (.dma cc1_scoped0.sem) h1 h2 h3)
          >>= fun _ => Prog.lift (.waitDma2 cc1_scoped0.sem (lM.slice (Rect.unit (s := S256x128) off S8x128.size inb) hr') lB h4 h5) >>= κ) Q := by
  have hN : 0 < lB.view.dmaCredit := by decide
  have hw : lB.view.set = Finset.univ := View.set_whole _
  unfold CM at *
  iintro ⟨HA, ⟨%f, Hb⟩, ⟨#Hlv, Hr, Hk, Hl, %W', %hW', HO⟩⟩
  ihave Hmw := (show levAts (K (F := F)).L (K (F := F)).lev ⊢ Transfers.MayWaits (thr d L) (default : HIx 1) O from
    (K (F := F)).mayWaits_none (thr := thr d L) hO) $$ Hlv
  ihave Hr' := (Entails.of_eq (bigSep_univ_at (fun i : Fin 9 => (semVal (thr d L, .dma (rs i)) 0 : sProp 𝕄)) 0)) $$ Hr
  icases Hr' with ⟨Hc, Hr⟩
  ihave Hl' := (pointsTo_split_subset (q := qk) (f := lst) (S := Finset.univ) (Finset.subset_univ
    (lM.slice (Rect.unit (s := S256x128) off S8x128.size inb) hr).view.set)).1 $$ Hl
  icases Hl' with ⟨Hl, Hlr⟩
  iapply (Transfers.wp_dmaLocal countersEmb 𝒱₀ (thr d L) none (default : HIx 1) lB.view.dmaCredit
      (src := lM.slice (Rect.unit (s := S256x128) off S8x128.size inb) hr) (dst := lB) (Sd := Finset.univ) (fs := lst) (fd := f) (q := qk)
      rfl hN (Finset.subset_univ _)) $$ [Hl Hb Hc]
  · isplitl [Hl]; · iexact Hl
    isplitl [Hb]; · iexact Hb
    iexact Hc
  iintro Hfl
  iapply (Transfers.wp_waitLocalO countersEmb 𝒱₀ (thr d L) none (default : HIx 1) (rfl : lB.view.dmaCredit = _)) $$ [Hfl HO]
  · isplitl [Hfl]; · iexact Hfl
    isplitl [HO]; · iexact HO
    iapply (Transfers.MayWaits.elim (SemLoc.dma cc1_scoped0.sem)) $$ Hmw
  iintro ⟨⟨Hb, Hl⟩, Hc, HO⟩
  ihave Hl' := (pointsTo_split_subset (q := qk) (f := lst) (S := Finset.univ) (Finset.subset_univ
    (lM.slice (Rect.unit (s := S256x128) off S8x128.size inb) hr).view.set)).2 $$ [Hl Hlr]
  · isplitl [Hl]; · iexact Hl
    iexact Hlr
  ihave Hb' := (Entails.of_eq (show (lB.view.loc (thr d L) ↦[Finset.univ]{fullShare} _ : sProp 𝕄) = (lB.view.loc (thr d L) ↦[Finset.univ]{fullShare} _)
    from congrArg _ (llanded (F := F) (d := d) (L := L) (lst := lst) ho f))) $$ Hb
  iapply h
  isplitl [HA]; · iexact HA
  isplitl [Hb']; · iexact Hb'
  isplitr; · iexact Hlv
  isplitl [Hr Hc]
  · iapply (Entails.of_eq (bigSep_univ_at (fun i : Fin 9 => (semVal (thr d L, .dma (rs i)) 0 : sProp 𝕄)) 0).symm)
    isplitl [Hc]; · iexact Hc
    iexact Hr
  isplitl [Hk]; · iexact Hk
  isplitl [Hl']; · iexact Hl'
  iexists (insert (SemLoc.dma cc1_scoped0.sem, (default : HIx 1)) W')
  isplitr
  · ipureintro; exact insert_mem hW' _
  · iexact HO

end Cert.Proof.Cache

end
-- ==== Proof.Scat.lean ====
/-
The scatters: the rows a chunk's list names, and what lands in them.
-/
module

public import proofs.«01_k».proof.Proof.Copy

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable {d : Dev nD} {L : grid1.Coords} {key : Buf (Elt F) (kLoc d)} {lst : Buf (Elt F) (lLoc d)} {f0 : Buf (Elt F) (oLoc d)}
  {O : CellTallies nD τ sig (HIx 1)} {W : Waits sig (HIx 1)} {qk : PosShare TreeShare}

/-- Row `off` of the task's lists, as a list of 128 rows. -/
abbrev offM (off : Fin 2 → ℕ) (inb : ∀ a, off a + S1x128.size a ≤ S8x128.size a)
    (hr : ∀ a, (Rect.unit (s := S8x128) off S1x128.size inb).stride a = 1) : Memref sig .scVector .vmem S128 .i32 :=
  (lB.slice (Rect.unit (s := S8x128) off S1x128.size inb) hr).squeeze S128 squeezes_S1x128_S128

/-- The whole of the new cache's rows, as the scatters name it. -/
abbrev dstM (inb : ∀ a, (![0, 0, 0] : Fin 3 → ℕ) a + S131072x2x128.size a ≤ S131072x2x128.size a)
    (hr : ∀ a, (Rect.unit (s := S131072x2x128) ![0, 0, 0] S131072x2x128.size inb).stride a = 1) : Memref sig .scVector .hbm S131072x2x128 .f32 :=
  oM.slice (Rect.unit (s := S131072x2x128) ![0, 0, 0] S131072x2x128.size inb) hr

/-- Entry `l` of row `j` of a task's lists. -/
def ent (j : Fin 8) (l : Fin 128) : S8x128.Idx := fun
  | 0 => j
  | 1 => l

section Lists

variable {j : Fin 8} {off : Fin 2 → ℕ} {inb : ∀ a, off a + S1x128.size a ≤ S8x128.size a}
  {hr : ∀ a, (Rect.unit (s := S8x128) off S1x128.size inb).stride a = 1}

/-- The entries of a row of the lists. -/
theorem off_read (ho : off = ![j.val, 0]) (x : S128.Idx) :
    (offM off inb hr).view.read (Elt F) (tlist lst (wd L)) x = lst (lix (wd L) (ent j (x 0))) := by
  have e : Shape.reshapeEquiv (s := S1x128) squeezes_S1x128_S128.numel_eq x = (fun | 0 => (0 : Fin 1) | 1 => x 0 : S1x128.Idx) := by
    refine Shape.reshapeEquiv_eq_of_rowMajor _ ?_
    refine (Shape.rowMajor_val_two _).trans (Eq.trans ?_ (Shape.rowMajor_val_one x).symm)
    show 0 * _ + (x 0).val = (x 0).val
    ring
  show lst (lix (wd L) ((Rect.unit (s := S8x128) off S1x128.size inb).emb
    (Shape.reshapeEquiv (s := S1x128) squeezes_S1x128_S128.numel_eq x))) = _
  rw [e]
  subst ho
  refine congrArg (fun y => lst (lix (wd L) y)) (idx2_ext ?_ ?_)
  · show j.val + 1 * 0 = j.val
    ring
  · show 0 + 1 * (x 0).val = (x 0).val
    ring

theorem off_lt (ho : off = ![j.val, 0]) (hlt : ∀ x, (lst x).toNat < 32768) (x : S128.Idx) :
    ((offM off inb hr).view.read (Elt F) (tlist lst (wd L)) x).toNat < 131072 := by
  rw [off_read ho]
  exact (hlt _).trans (by norm_num)

theorem ent_inj {w : Fin 32} {j : Fin 8} {l l' : Fin 128} (h : lix w (ent j l) = lix w (ent j l')) : l = l' :=
  congrFun h 1

theorem off_inj (ho : off = ![j.val, 0]) (hinj : Function.Injective fun x => (lst x).toNat) :
    Function.Injective fun x => ((offM off inb hr).view.read (Elt F) (tlist lst (wd L)) x).toNat := by
  intro x x' h
  have e (x : S128.Idx) := off_read (F := F) (d := d) (L := L) (lst := lst) (inb := inb) (hr := hr) ho x
  have h' : (lst (lix (wd L) (ent j (x 0)))).toNat = (lst (lix (wd L) (ent j (x' 0)))).toNat :=
    (congrArg BitVec.toNat (e x)).symm.trans (h.trans (congrArg BitVec.toNat (e x')))
  have := ent_inj (hinj h')
  funext a
  match a with
  | 0 => exact this

/-- The row that entry `k` of a row of the lists names. -/
theorem rows_val (ho : off = ![j.val, 0]) {z : ℕ} {hn : S128.numel = 128}
    (h : ∀ x, ((offM off inb hr).view.read (Elt F) (tlist lst (wd L)) x).toNat < z) (k : Fin 128) :
    (SparseCore.rows ((offM off inb hr).view.read (Elt F) (tlist lst (wd L))) hn h k).val = (lst (lix (wd L) (ent j k))).toNat := by
  show ((offM off inb hr).view.read (Elt F) (tlist lst (wd L)) (S128.rowMajor.symm (k.cast hn.symm))).toNat = _
  rw [off_read ho]
  have e : (S128.rowMajor.symm (k.cast hn.symm)) 0 = k := by
    refine Fin.ext ?_
    have := Shape.rowMajor_val_one (S128.rowMajor.symm (k.cast hn.symm))
    rw [← this]
    exact congrArg Fin.val (Equiv.apply_symm_apply S128.rowMajor (k.cast hn.symm))
  rw [e]

end Lists

section Rows

variable {inb : ∀ a, (![0, 0, 0] : Fin 3 → ℕ) a + S131072x2x128.size a ≤ S131072x2x128.size a}
  {hr : ∀ a, (Rect.unit (s := S131072x2x128) ![0, 0, 0] S131072x2x128.size inb).stride a = 1}

/-- An element of a row. -/
def rel (b : Fin 2) (c : Fin 128) : (S131072x2x128.rowShape (0 : Fin 3)).Idx := fun (a : Fin 3) =>
  match a with
  | 0 => (0 : Fin 1)
  | 1 => b
  | 2 => c

/-- The lane and the half of an element of a row. -/
def rb (z : (S131072x2x128.rowShape (0 : Fin 3)).Idx) : Fin 2 := z (1 : Fin 3)
def rc (z : (S131072x2x128.rowShape (0 : Fin 3)).Idx) : Fin 128 := z (2 : Fin 3)

theorem row_zero (z : (S131072x2x128.rowShape (0 : Fin 3)).Idx) : (z (0 : Fin 3)).val = 0 := by
  have : (z (0 : Fin 3)).val < 1 := (z (0 : Fin 3)).isLt
  omega

/-- Where an element of row `k` lies. -/
def remb (inb : ∀ a, (![0, 0, 0] : Fin 3 → ℕ) a + S131072x2x128.size a ≤ S131072x2x128.size a)
    (hr : ∀ a, (Rect.unit (s := S131072x2x128) ![0, 0, 0] S131072x2x128.size inb).stride a = 1) (k : Fin 131072)
    (z : (S131072x2x128.rowShape (0 : Fin 3)).Idx) : S131072x2x128.Idx :=
  ((dstM inb hr).view.slice (S131072x2x128.rowRect (0 : Fin 3) k)).emb z

theorem remb_0 (k : Fin 131072) (z : (S131072x2x128.rowShape (0 : Fin 3)).Idx) : (remb inb hr k z 0).val = k.val := by
  have h0 := row_zero z
  show 0 + 1 * (k.val + 1 * (z (0 : Fin 3)).val) = k.val
  omega

theorem remb_1 (k : Fin 131072) (z : (S131072x2x128.rowShape (0 : Fin 3)).Idx) : (remb inb hr k z 1).val = (rb z).val := by
  show 0 + 1 * (0 + 1 * (z (1 : Fin 3)).val) = (z (1 : Fin 3)).val
  omega

theorem remb_2 (k : Fin 131072) (z : (S131072x2x128.rowShape (0 : Fin 3)).Idx) : (remb inb hr k z 2).val = (rc z).val := by
  show 0 + 1 * (0 + 1 * (z (2 : Fin 3)).val) = (z (2 : Fin 3)).val
  omega

theorem mem_row (k : Fin 131072) (y : S131072x2x128.Idx) :
    y ∈ ((dstM inb hr).view.slice (S131072x2x128.rowRect (0 : Fin 3) k)).set ↔ (y 0).val = k.val := by
  constructor
  · intro h
    obtain ⟨z, -, rfl⟩ := Finset.mem_map.mp h
    exact remb_0 (inb := inb) (hr := hr) k z
  · intro h
    refine Finset.mem_map.mpr ⟨rel (y 1) (y 2), Finset.mem_univ _, ?_⟩
    exact idx3_ext ((remb_0 (inb := inb) (hr := hr) k _).trans h.symm) (remb_1 (inb := inb) (hr := hr) k _) (remb_2 (inb := inb) (hr := hr) k _)

theorem ent_self {j : Fin 8} {x : S8x128.Idx} (h0 : (x 0).val = j.val) {l : Fin 128} (hl : (x 1).val = l.val) : ent j l = x :=
  idx2_ext h0.symm hl.symm

/-- An element lies in the chunk's rows when some entry of the chunk's list names its row. -/
theorem mem_crow {w : Fin 32} {j : Fin 8} {y : S131072x2x128.Idx} :
    y ∈ crow lst w j ↔ ∃ l : Fin 128, (lst (lix w (ent j l))).toNat = (y 0).val := by
  unfold crow
  rw [Finset.mem_filter]
  constructor
  · rintro ⟨-, x, h0, h⟩
    have hx : ent j (x 1) = x := ent_self h0 rfl
    exact ⟨x 1, by rw [hx]; exact h⟩
  · rintro ⟨l, h⟩
    exact ⟨Finset.mem_univ _, ent j l, rfl, h⟩

/-- The rows a chunk's scatter names are the chunk's rows. -/
theorem named_eq {w : Fin 32} {j : Fin 8} (r : Fin 128 → Fin 131072) (hr' : ∀ k, (r k).val = (lst (lix w (ent j k))).toNat) :
    SparseCore.namedRows (thr d L) (dstM inb hr).view (0 : Fin 3) r = crow lst w j := by
  ext y
  refine Iff.trans ?_ mem_crow.symm
  refine Finset.mem_biUnion.trans ?_
  constructor
  · rintro ⟨k, -, hk⟩
    exact ⟨k, (hr' k).symm.trans ((mem_row (r k) y).mp hk).symm⟩
  · rintro ⟨k, hk⟩
    exact ⟨k, Finset.mem_univ _, (mem_row (r k) y).mpr (hk.symm.trans (hr' k).symm)⟩

/-- Row `k` of the block, as the scatter sends it. -/
theorem pay_apply (f : S128x2x128.Idx → Elt F .f32) (k : Fin 128) (z : (S131072x2x128.rowShape (0 : Fin 3)).Idx) :
    SparseCore.scatterRowPayload (thr d L) kB gathers_S131072x2x128_S128x2x128 f k z = f (fun | 0 => k | 1 => rb z | 2 => rc z) := by
  have h0 := row_zero z
  have e (b : Fin (S128x2x128.rowShape (Shape.Gathers.axis' gathers_S131072x2x128_S128x2x128)).rank) :=
    Shape.idxEquiv_symm_apply_val (Shape.Gathers.rowShape_eq gathers_S131072x2x128_S128x2x128) z b
  show f ((S128x2x128.rowRect (0 : Fin 3) k).emb ((Shape.idxEquiv (Shape.Gathers.rowShape_eq gathers_S131072x2x128_S128x2x128)).symm z)) = _
  refine congrArg f (idx3_ext ?_ ?_ ?_)
  · refine (congrArg (fun n => k.val + 1 * n) (e (0 : Fin 3))).trans ?_
    show k.val + 1 * (z (0 : Fin 3)).val = k.val
    omega
  · refine (congrArg (fun n => 0 + 1 * n) (e (1 : Fin 3))).trans ?_
    show 0 + 1 * (z (1 : Fin 3)).val = (z (1 : Fin 3)).val
    omega
  · refine (congrArg (fun n => 0 + 1 * n) (e (2 : Fin 3))).trans ?_
    show 0 + 1 * (z (2 : Fin 3)).val = (z (2 : Fin 3)).val
    omega

/-- What a chunk's scatter writes is the rows at their final value. -/
theorem named_val (hinj : Function.Injective fun x => (lst x).toNat) {j : Fin 8} (r : Fin 128 → Fin 131072) (hi : Function.Injective r)
    (hr' : ∀ k, (r k).val = (lst (lix (wd L) (ent j k))).toNat) (fd : Buf (Elt F) (oLoc d)) (y : S131072x2x128.Idx) (hy : y ∈ crow lst (wd L) j) :
    SparseCore.scatterBuf (thr d L) (dstM inb hr).view (0 : Fin 3) r
      (SparseCore.scatterRowPayload (thr d L) kB gathers_S131072x2x128_S128x2x128 (kchunk key (wd L) j)) fd y = Gk key lst y := by
  obtain ⟨l, h⟩ := mem_crow.mp hy
  have hm := (mem_row (inb := inb) (hr := hr) (r l) y).mpr (h.symm.trans (hr' l).symm)
  rw [Gk_row key lst hinj h]
  refine (SparseCore.scatterBuf_of_mem (thr d L) (dstM inb hr).view (0 : Fin 3) r hi _ fd hm).trans ?_
  obtain ⟨z, -, rfl⟩ := Finset.mem_map.mp hm
  refine (View.write_emb_of_mem (v := (dstM inb hr).view.slice (S131072x2x128.rowRect (0 : Fin 3) (r l))) (Val := Elt F) fd _ (Finset.mem_univ z)).trans ?_
  refine (congrArg _ (pay_apply (F := F) (d := d) (L := L) (kchunk key (wd L) j) l z)).trans ?_
  show key (kix (lix (wd L) _) (rb z) (rc z)) = key _
  refine congrArg key ?_
  refine idx3_ext rfl ?_ ?_
  · exact (remb_1 (inb := inb) (hr := hr) (r l) z).symm
  · exact (remb_2 (inb := inb) (hr := hr) (r l) z).symm

end Rows

end Cert.Proof.Cache

end
-- ==== Proof.Stream.lean ====
/-
The steps of a chunk's scatter: its issue and its wait.
-/
module

public import proofs.«01_k».proof.Proof.Scat

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable {d : Dev nD} {L : grid1.Coords} {key : Buf (Elt F) (kLoc d)} {lst : Buf (Elt F) (lLoc d)} {f0 : Buf (Elt F) (oLoc d)}
  {O : CellTallies nD τ sig (HIx 1)} {W : Waits sig (HIx 1)} {qk : PosShare TreeShare}

/-- The credit of a chunk's rows, row by row, is that of the block. -/
theorem scat_credit (d : Dev nD) (L : grid1.Coords) {inb : ∀ a, (![0, 0, 0] : Fin 3 → ℕ) a + S131072x2x128.size a ≤ S131072x2x128.size a}
    {hr : ∀ a, (Rect.unit (s := S131072x2x128) ![0, 0, 0] S131072x2x128.size inb).stride a = 1} (r : Fin 128 → Fin 131072) :
    ∑ k, ((dstM inb hr).slice (S131072x2x128.rowRect (0 : Fin 3) (r k)) (S131072x2x128.stride_rowRect (0 : Fin 3) (r k))).view.dmaCredit = NB :=
  (SparseCore.sum_scatterCredit_eq_srcCredit (c := thr d L) kB (dstM inb hr) gathers_S131072x2x128_S128x2x128 rfl r (fun _ => rfl) (fun _ => rfl)).trans rfl

/-- The issue of chunk `j`'s scatter. -/
theorem scat (hlt : ∀ x, (lst x).toNat < 32768) (hinj : Function.Injective fun x => (lst x).toNat) {A C : sProp 𝕄} (j : Fin 8)
    {off : Fin 2 → ℕ} {inb : ∀ a, off a + S1x128.size a ≤ S8x128.size a} {hr} (ho : off = ![j.val, 0])
    {inb' : ∀ a, (![0, 0, 0] : Fin 3 → ℕ) a + S131072x2x128.size a ≤ S131072x2x128.size a} {hr'} {h1 h2 h3 h4 h5}
    {α : Type} {Q : α → sProp 𝕄} {κ : PUnit → Prog (TpuEff nD τ sig (Elt F) Λ₀ (.scVector (cV L) (jV L))) α}
    (h : iprop(A ∗ SB d L key lst f0 j ∗ C) ⊢ tp (F := F) d L (κ ⟨⟩) Q) :
    iprop(A ∗ SK d L key lst f0 j ∗ C)
      ⊢ tp (F := F) d L (SparseCore.enqueueIndirectScatter h1 kB (dstM inb' hr') gathers_S131072x2x128_S128x2x128 (offM off inb hr) h2 cc1_scratch4.sem h3 h4 h5 >>= κ) Q := by
  have hs : 0 < S128x2x128.numel := by decide
  have hin := fun x => off_lt (F := F) (d := d) (L := L) (lst := lst) (inb := inb) (hr := hr) ho hlt x
  have hi := SparseCore.rows_injective (hn := h2) (h := hin) (off_inj (F := F) (d := d) (L := L) (lst := lst) (inb := inb) (hr := hr) ho hinj)
  have hv := fun k => rows_val (F := F) (d := d) (L := L) (lst := lst) (inb := inb) (hr := hr) ho (hn := h2) hin k
  have hn := named_eq (d := d) (L := L) (inb := inb') (hr := hr') (w := wd L) (j := j) _ hv
  have hw : kB.view.set = Finset.univ := View.set_whole _
  unfold SB SK RW at *
  rw [Transfers.bigSep_pending_step _ j.val j.isLt]
  iintro ⟨HA, ⟨⟨⟨Ho, Hp⟩, Hd⟩, Hb, Hlb, Hs⟩, HC⟩
  ihave Hl' := (pointsTo_split_subset (q := fullShare) (f := tlist lst (wd L)) (S := Finset.univ) (Finset.subset_univ
    (offM off inb hr).view.set)).1 $$ Hlb
  icases Hl' with ⟨Hl, Hlr⟩
  iapply (SparseCore.wp_indirectScatterLocal countersEmb 𝒱₀ (thr d L) none (src := kB) (dst := dstM inb' hr') (offs := offM off inb hr)
      (hg := gathers_S131072x2x128_S128x2x128)
      (q := fullShare) (qo := fullShare) (fs := kchunk key (wd L) j) (fd := f0) (fo := tlist lst (wd L))
      (default : HIx 1) NB hs hin hi (scat_credit d L _)) $$ [Hb Ho Hl Hs]
  · isplitl [Hb]
    · rw [hw]; iexact Hb
    isplitl [Ho]
    · iapply (Entails.of_eq (show (oLoc d ↦[crow lst (wd L) ⟨j.val, j.isLt⟩]{fullShare} f0 : sProp 𝕄) = _ from by rw [← hn]; rfl)) $$ Ho
    isplitl [Hl]; · iexact Hl
    iexact Hs
  iintro Hfl
  iapply h
  isplitl [HA]; · iexact HA
  isplitr [HC]
  · isplitl [Hp Hd]
    · isplitl [Hp]; · iexact Hp
      iexact Hd
    iexists _
    iexists ((offM off inb hr).view.loc (thr d L) ↦[Finset.univ \ (offM off inb hr).view.set]{fullShare} tlist lst (wd L) : sProp 𝕄)
    isplitr
    swap
    · isplitl [Hfl]; · iexact Hfl
      iexact Hlr
    · ipureintro
      iintro ⟨⟨Ho, Hb, Hl⟩, Hlr⟩
      isplitl [Ho]
      · iapply (Entails.of_eq (show _ = (oLoc d ↦[crow lst (wd L) j]{fullShare} Gk key lst : sProp 𝕄) from by
          rw [← hn]
          exact pointsTo_congr fun i hi' => named_val (F := F) (d := d) (L := L) hinj _ hi hv f0 i (hn ▸ hi'))) $$ Ho
      isplitl [Hb]
      · iexists _
        rw [← hw]
        iexact Hb
      iapply (pointsTo_split_subset (q := fullShare) (f := tlist lst (wd L)) (S := Finset.univ) (Finset.subset_univ
        (offM off inb hr).view.set)).2
      isplitl [Hl]; · iexact Hl
      iexact Hlr
  · iexact HC

/-- The wait for chunk `j`'s scatter. -/
theorem swait (hO : ∀ g, O g none = 0) {A : sProp 𝕄} (j : Fin 8)
    {inb' : ∀ a, (![0, 0, 0] : Fin 3 → ℕ) a + S131072x2x128.size a ≤ S131072x2x128.size a} {hr'} {h1 h2}
    {α : Type} {Q : α → sProp 𝕄} {κ : PUnit → Prog (TpuEff nD τ sig (Elt F) Λ₀ (.scVector (cV L) (jV L))) α}
    (h : iprop(A ∗ SI d L key lst f0 (j.val + 1) ∗ CM d L key lst O W qk) ⊢ tp (F := F) d L (κ ⟨⟩) Q) :
    iprop(A ∗ SB d L key lst f0 j ∗ CM d L key lst O W qk)
      ⊢ tp (F := F) d L (SparseCore.waitIndirectScatter cc1_scratch4.sem kB (dstM inb' hr') h1 h2 >>= κ) Q := by
  have hd : kB.view.dmaCredit = NB := rfl
  unfold SB SI RW CM at *
  rw [bigSep_done_succ _ j.val j.isLt] at h
  iintro ⟨HA, ⟨⟨Hp, Hd⟩, %D, %R, %hDR, Hfl, HR⟩, ⟨#Hlv, Hr, Hk, Hl, %W', %hW', HO⟩⟩
  ihave Hmw := (show levAts (K (F := F)).L (K (F := F)).lev ⊢ Transfers.MayWaits (thr d L) (default : HIx 1) O from
    (K (F := F)).mayWaits_none (thr := thr d L) hO) $$ Hlv
  iapply (Transfers.wp_waitLocalO countersEmb 𝒱₀ (thr d L) none (srcw := dstM inb' hr') (dstw := kB) (default : HIx 1) hd) $$ [Hfl HO]
  · isplitl [Hfl]; · iexact Hfl
    isplitl [HO]; · iexact HO
    iapply (Transfers.MayWaits.elim (SemLoc.dma cc1_scratch4.sem)) $$ Hmw
  iintro ⟨HD, Hs, HO⟩
  ihave HX := hDR $$ [HD HR]
  · isplitl [HD]; · iexact HD
    iexact HR
  icases HX with ⟨Ho, Hb, Hlb⟩
  iapply h
  isplitl [HA]; · iexact HA
  isplitl [Hp Hd Ho Hb Hlb Hs]
  · isplitl [Hp Hd Ho]
    · isplitl [Hp]; · iexact Hp
      isplitl [Ho]; · iexact Ho
      iexact Hd
    isplitl [Hb]; · iexact Hb
    isplitl [Hlb]; · iexact Hlb
    iexact Hs
  isplitr; · iexact Hlv
  isplitl [Hr]; · iexact Hr
  isplitl [Hk]; · iexact Hk
  isplitl [Hl]; · iexact Hl
  iexists (insert (SemLoc.dma cc1_scratch4.sem, (default : HIx 1)) W')
  isplitr
  · ipureintro; exact insert_mem hW' _
  · iexact HO

end Cert.Proof.Cache

end
-- ==== Proof.Parts.lean ====
/-
The task part by part, after the lists are in.
-/
module

public import proofs.«01_k».proof.Proof.Stream

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable {d : Dev nD} {L : grid1.Coords} {key : Buf (Elt F) (kLoc d)} {lst : Buf (Elt F) (lLoc d)} {f0 : Buf (Elt F) (oLoc d)}
  {O : CellTallies nD τ sig (HIx 1)} {W : Waits sig (HIx 1)} {qk : PosShare TreeShare}
  {hk : kM.IsWhole} {hl : lM.IsWhole} {ho : oM.IsWhole} {hz : zB.IsWhole} {hb : kB.IsWhole} {hc : lB.IsWhole}

theorem wd_val (L : grid1.Coords) : (wd L).val = 2 * (L 1).val + (L 0).val := rfl

/-- Where the `t`-th zero block goes. -/
theorem zoff (L : grid1.Coords) (t : Fin 24) : k1_off258 L (BitVec.ofNat 32 (16 * t.val)) = ![32768 + 3072 * (wd L).val + 128 * t.val, 0, 0] := by
  rw [k1_off258_eq, wd_val]
  congr 1
  ring

/-- Where the `j`-th chunk of key rows comes from. -/
theorem koff (L : grid1.Coords) (j : Fin 8) : k1_off259 L (BitVec.ofNat 32 (16 * j.val)) = ![1024 * (wd L).val + 128 * j.val, 0, 0] := by
  rw [k1_off259_eq, wd_val]
  congr 1
  ring

/-- Where a task's lists come from. -/
theorem loff (L : grid1.Coords) : k1_off257 L = ![8 * (wd L).val, 0] := by
  rw [k1_off257_eq, wd_val]
  congr 1
  ring

/-- Part 49 of the task. -/
theorem tpart49 (hlt : ∀ x, (lst x).toNat < 32768) (hinj : Function.Injective fun x => (lst x).toNat) (hO : ∀ g, O g none = 0) (v7 : BitVec 32) (v8 : BitVec 32) :
    iprop(ZI d L key lst f0 2 0 ∗ SI d L key lst f0 0 ∗ CM d L key lst O W qk)
      ⊢ tp d L (k1_part49 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v7 v8) (fun _ => iprop(ZI d L key lst f0 5 0 ∗ SB d L key lst f0 0 ∗ CM d L key lst O W qk)) := by
  rw [k1_part49_eq_skeleton]
  unfold k1_part49_skel
  refine zissue hlt 2 (by decide) (zoff L 2) ?_
  refine kcopy hO 0 (koff L 0) rfl ?_
  refine scat hlt hinj 0 rfl ?_
  refine zissue hlt 3 (by decide) (zoff L 3) ?_
  refine zissue hlt 4 (by decide) (zoff L 4) ?_
  exact tp_ret d L .rfl

/-- Part 50 of the task. -/
theorem tpart50 (hlt : ∀ x, (lst x).toNat < 32768) (hinj : Function.Injective fun x => (lst x).toNat) (hO : ∀ g, O g none = 0) (v7 : BitVec 32) (v8 : BitVec 32) :
    iprop(ZI d L key lst f0 5 0 ∗ SB d L key lst f0 0 ∗ CM d L key lst O W qk)
      ⊢ tp d L (k1_part50 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v7 v8) (fun _ => iprop(ZI d L key lst f0 7 0 ∗ SB d L key lst f0 1 ∗ CM d L key lst O W qk)) := by
  rw [k1_part50_eq_skeleton]
  unfold k1_part50_skel
  refine zissue hlt 5 (by decide) (zoff L 5) ?_
  refine swait hO 0 ?_
  refine kcopy hO 1 (koff L 1) rfl ?_
  refine scat hlt hinj 1 rfl ?_
  refine zissue hlt 6 (by decide) (zoff L 6) ?_
  exact tp_ret d L .rfl

/-- Part 51 of the task. -/
theorem tpart51 (hlt : ∀ x, (lst x).toNat < 32768) (hinj : Function.Injective fun x => (lst x).toNat) (hO : ∀ g, O g none = 0) (v7 : BitVec 32) (v8 : BitVec 32) :
    iprop(ZI d L key lst f0 7 0 ∗ SB d L key lst f0 1 ∗ CM d L key lst O W qk)
      ⊢ tp d L (k1_part51 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v7 v8) (fun _ => iprop(ZI d L key lst f0 9 0 ∗ SB d L key lst f0 2 ∗ CM d L key lst O W qk)) := by
  rw [k1_part51_eq_skeleton]
  unfold k1_part51_skel
  refine zissue hlt 7 (by decide) (zoff L 7) ?_
  refine zissue hlt 8 (by decide) (zoff L 8) ?_
  refine swait hO 1 ?_
  refine kcopy hO 2 (koff L 2) rfl ?_
  refine scat hlt hinj 2 rfl ?_
  exact tp_ret d L .rfl

/-- Part 52 of the task. -/
theorem tpart52 (hlt : ∀ x, (lst x).toNat < 32768) (hinj : Function.Injective fun x => (lst x).toNat) (hO : ∀ g, O g none = 0) (v7 : BitVec 32) (v8 : BitVec 32) :
    iprop(ZI d L key lst f0 9 0 ∗ SB d L key lst f0 2 ∗ CM d L key lst O W qk)
      ⊢ tp d L (k1_part52 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v7 v8) (fun _ => iprop(ZI d L key lst f0 12 0 ∗ SB d L key lst f0 3 ∗ CM d L key lst O W qk)) := by
  rw [k1_part52_eq_skeleton]
  unfold k1_part52_skel
  refine zissue hlt 9 (by decide) (zoff L 9) ?_
  refine zissue hlt 10 (by decide) (zoff L 10) ?_
  refine zissue hlt 11 (by decide) (zoff L 11) ?_
  refine swait hO 2 ?_
  refine kcopy hO 3 (koff L 3) rfl ?_
  refine scat hlt hinj 3 rfl ?_
  exact tp_ret d L .rfl

/-- Part 53 of the task. -/
theorem tpart53 (hlt : ∀ x, (lst x).toNat < 32768) (hinj : Function.Injective fun x => (lst x).toNat) (hO : ∀ g, O g none = 0) (v7 : BitVec 32) (v8 : BitVec 32) (c192_i32 : BitVec 32) :
    iprop(ZI d L key lst f0 12 0 ∗ SB d L key lst f0 3 ∗ CM d L key lst O W qk)
      ⊢ tp d L (k1_part53 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v7 v8 c192_i32) (fun _ => iprop(ZI d L key lst f0 15 0 ∗ SK d L key lst f0 4 ∗ CM d L key lst O W qk)) := by
  rw [k1_part53_eq_skeleton]
  unfold k1_part53_skel
  refine zissue hlt 12 (by decide) (zoff L 12) ?_
  refine zissue hlt 13 (by decide) (zoff L 13) ?_
  refine zissue hlt 14 (by decide) (zoff L 14) ?_
  refine swait hO 3 ?_
  refine kcopy hO 4 (koff L 4) rfl ?_
  exact tp_ret d L .rfl

/-- Part 54 of the task. -/
theorem tpart54 (hlt : ∀ x, (lst x).toNat < 32768) (hinj : Function.Injective fun x => (lst x).toNat) (hO : ∀ g, O g none = 0) (v7 : BitVec 32) (v8 : BitVec 32) :
    iprop(ZI d L key lst f0 15 0 ∗ SK d L key lst f0 4 ∗ CM d L key lst O W qk)
      ⊢ tp d L (k1_part54 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v7 v8) (fun _ => iprop(ZI d L key lst f0 18 0 ∗ SI d L key lst f0 5 ∗ CM d L key lst O W qk)) := by
  rw [k1_part54_eq_skeleton]
  unfold k1_part54_skel
  refine scat hlt hinj 4 rfl ?_
  refine zissue hlt 15 (by decide) (zoff L 15) ?_
  refine zissue hlt 16 (by decide) (zoff L 16) ?_
  refine zissue hlt 17 (by decide) (zoff L 17) ?_
  refine swait hO 4 ?_
  exact tp_ret d L .rfl

/-- Part 55 of the task. -/
theorem tpart55 (hlt : ∀ x, (lst x).toNat < 32768) (hinj : Function.Injective fun x => (lst x).toNat) (hO : ∀ g, O g none = 0) (v7 : BitVec 32) :
    iprop(ZI d L key lst f0 18 0 ∗ SI d L key lst f0 5 ∗ CM d L key lst O W qk)
      ⊢ tp d L (k1_part55 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v7) (fun _ => iprop(ZI d L key lst f0 21 0 ∗ SI d L key lst f0 6 ∗ CM d L key lst O W qk)) := by
  rw [k1_part55_eq_skeleton]
  unfold k1_part55_skel
  refine kcopy hO 5 (koff L 5) rfl ?_
  refine scat hlt hinj 5 rfl ?_
  refine zissue hlt 18 (by decide) (zoff L 18) ?_
  refine zissue hlt 19 (by decide) (zoff L 19) ?_
  refine zissue hlt 20 (by decide) (zoff L 20) ?_
  refine swait hO 5 ?_
  exact tp_ret d L .rfl

/-- Part 56 of the task. -/
theorem tpart56 (hlt : ∀ x, (lst x).toNat < 32768) (hinj : Function.Injective fun x => (lst x).toNat) (hO : ∀ g, O g none = 0) (v7 : BitVec 32) (v8 : BitVec 32) (c96_i32_179 : BitVec 32) :
    iprop(ZI d L key lst f0 21 0 ∗ SI d L key lst f0 6 ∗ CM d L key lst O W qk)
      ⊢ tp d L (k1_part56 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v7 v8 c96_i32_179) (fun _ => iprop(ZI d L key lst f0 24 0 ∗ SB d L key lst f0 6 ∗ CM d L key lst O W qk)) := by
  rw [k1_part56_eq_skeleton]
  unfold k1_part56_skel
  refine kcopy hO 6 (koff L 6) rfl ?_
  refine scat hlt hinj 6 rfl ?_
  refine zissue hlt 21 (by decide) (zoff L 21) ?_
  refine zissue hlt 22 (by decide) (zoff L 22) ?_
  refine zissue hlt 23 (by decide) (zoff L 23) ?_
  exact tp_ret d L .rfl

/-- Part 57 of the task. -/
theorem tpart57 (hlt : ∀ x, (lst x).toNat < 32768) (hinj : Function.Injective fun x => (lst x).toNat) (hO : ∀ g, O g none = 0) (v8 : BitVec 32) :
    iprop(ZI d L key lst f0 24 0 ∗ SB d L key lst f0 6 ∗ CM d L key lst O W qk)
      ⊢ tp d L (k1_part57 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 v8) (fun _ => iprop(ZI d L key lst f0 24 (2 * NB) ∗ SI d L key lst f0 8 ∗ CM d L key lst O W qk)) := by
  rw [k1_part57_eq_skeleton]
  unfold k1_part57_skel
  refine swait hO 6 ?_
  refine kcopy hO 7 (koff L 7) rfl ?_
  refine scat hlt hinj 7 rfl ?_
  refine swait hO 7 ?_
  refine zwait hO 0 (by decide) ?_
  refine zwait hO 1 (by decide) ?_
  exact tp_ret d L .rfl

/-- Part 58 of the task. -/
theorem tpart58 (hlt : ∀ x, (lst x).toNat < 32768) (hinj : Function.Injective fun x => (lst x).toNat) (hO : ∀ g, O g none = 0) :
    iprop(ZI d L key lst f0 24 (2 * NB) ∗ SI d L key lst f0 8 ∗ CM d L key lst O W qk)
      ⊢ tp d L (k1_part58 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 ) (fun _ => iprop(ZI d L key lst f0 24 (10 * NB) ∗ SI d L key lst f0 8 ∗ CM d L key lst O W qk)) := by
  rw [k1_part58_eq_skeleton]
  unfold k1_part58_skel
  refine zwait hO 2 (by decide) ?_
  refine zwait hO 3 (by decide) ?_
  refine zwait hO 4 (by decide) ?_
  refine zwait hO 5 (by decide) ?_
  refine zwait hO 6 (by decide) ?_
  refine zwait hO 7 (by decide) ?_
  refine zwait hO 8 (by decide) ?_
  refine zwait hO 9 (by decide) ?_
  exact tp_ret d L .rfl

/-- Part 59 of the task. -/
theorem tpart59 (hlt : ∀ x, (lst x).toNat < 32768) (hinj : Function.Injective fun x => (lst x).toNat) (hO : ∀ g, O g none = 0) :
    iprop(ZI d L key lst f0 24 (10 * NB) ∗ SI d L key lst f0 8 ∗ CM d L key lst O W qk)
      ⊢ tp d L (k1_part59 L kM hk lM hl oM ho zB hz kB hb lB hc cc1_scratch3 cc1_scratch4 cc1_scoped0 cc1_scoped1 cc1_scoped2 cc1_scoped3 cc1_scoped4 cc1_scoped5 cc1_scoped6 cc1_scoped7 cc1_scoped8 ) (fun _ => iprop(ZI d L key lst f0 24 (19 * NB) ∗ SI d L key lst f0 8 ∗ CM d L key lst O W qk)) := by
  rw [k1_part59_eq_skeleton]
  unfold k1_part59_skel
  refine zwait hO 10 (by decide) ?_
  refine zwait hO 11 (by decide) ?_
  refine zwait hO 12 (by decide) ?_
  refine zwait hO 13 (by decide) ?_
  refine zwait hO 14 (by decide) ?_
  refine zwait hO 15 (by decide) ?_
  refine zwait hO 16 (by decide) ?_
  refine zwait hO 17 (by decide) ?_
  refine zwait hO 18 (by decide) ?_
  exact tp_ret d L .rfl

end Cert.Proof.Cache

end
-- ==== Proof.Task.lean ====
/-
The whole of a task.
-/
module

public import proofs.«01_k».proof.Proof.Parts

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable {d : Dev nD} {L : grid1.Coords} {key : Buf (Elt F) (kLoc d)} {lst : Buf (Elt F) (lLoc d)} {f0 : Buf (Elt F) (oLoc d)}
  {O : CellTallies nD τ sig (HIx 1)} {W : Waits sig (HIx 1)} {qk : PosShare TreeShare}
  {hk : kM.IsWhole} {hl : lM.IsWhole} {ho : oM.IsWhole} {hz : zB.IsWhole} {hb : kB.IsWhole} {hc : lB.IsWhole}

/-- The block of zeros, filled, dealt into a share for every zero copy. -/
theorem zdeal : Zst (F := F) d L 8 0 ⊢ iprop(bigSep Finset.univ (fun t : Fin 24 =>
      (zB.view.loc (thr d L) ↦[Finset.univ]{Transfers.shareTok fullShare 24 t} (Zc (F := F)) : sProp 𝕄))
    ∗ (zB.view.loc (thr d L) ↦[Finset.univ]{Transfers.shareDrop fullShare 24} (Zc (F := F)))) := by
  unfold Zst
  iintro ⟨%f, %hf, Hz⟩
  have e : f = Zc (F := F) := by
    funext x
    exact hf x (Or.inl (by have : (x 2).val < 128 := (x 2).isLt; omega))
  subst e
  ihave H := (Transfers.pointsTo_toks_split fullShare 24) $$ Hz
  icases H with ⟨Hd, Ht⟩
  isplitl [Ht]; · iexact Ht
  iexact Hd

/-- What a task starts from, its block filled. -/
def Start (d : Dev nD) (L : grid1.Coords) (key : Buf (Elt F) (kLoc d)) (lst : Buf (Elt F) (lLoc d)) (f0 : Buf (Elt F) (oLoc d))
    (O : CellTallies nD τ sig (HIx 1)) (W : Waits sig (HIx 1)) (qk : PosShare TreeShare) : sProp 𝕄 :=
  iprop((semVal (zSem d L) 0 ∗ bigSep Finset.univ (fun t : Fin 24 => oLoc d ↦[zwin (wd L) t]{fullShare} f0)
      ∗ bigSep Finset.univ (fun t : Fin 8 => oLoc d ↦[crow lst (wd L) t]{fullShare} f0)
      ∗ (∃ f, kB.view.loc (thr d L) ↦[Finset.univ]{fullShare} f) ∗ semVal (sSem d L) 0)
    ∗ (∃ f, lB.view.loc (thr d L) ↦[Finset.univ]{fullShare} f) ∗ CM d L key lst O W qk)

/-- The batch of zero copies, none issued yet. -/
theorem zbegin : iprop(Zst (F := F) d L 8 0 ∗ semVal (zSem d L) 0 ∗ bigSep Finset.univ (fun t : Fin 24 => (oLoc d ↦[zwin (wd L) t]{fullShare} f0 : sProp 𝕄)))
    ⊢ |={Set.univ}=> ZI d L key lst f0 0 0 := by
  iintro ⟨HZ, Hs, Ho⟩
  ihave HZ' := zdeal $$ HZ
  icases HZ' with ⟨Ht, Hd⟩
  imod (Transfers.batch_alloc' countersEmb (thr d L) (sm := SemLoc.dma cc1_scratch3.sem) (default : HIx 1) NB (ZD d L key lst) (E := Set.univ)) $$ Hs with Hb
  imodintro
  unfold ZI
  isplitl [Hb]; · iexact Hb
  isplitr [Hd]
  · rw [Transfers.pending_zero]
    rw [bigSep_sep']
    isplitl [Ho]; · iexact Ho
    iexact Ht
  · iexact Hd

/-- Part 48 of the task: the fill, the copy in of the lists, the first two zero copies. -/
theorem tpart48 (hlt : ∀ x, (lst x).toNat < 32768) (hinj : Function.Injective fun x => (lst x).toNat) (hO : ∀ g, O g none = 0) :
    iprop(Zst (F := F) d L 0 0 ∗ Start d L key lst f0 O W qk)
      ⊢ tp d L (k1_part48 L kM hk lM hl oM ho zB hz kB hb lB hc cc1_scratch3 cc1_scratch4 cc1_scoped0 cc1_scoped1 cc1_scoped2 cc1_scoped3 cc1_scoped4 cc1_scoped5 cc1_scoped6 cc1_scoped7 cc1_scoped8) (fun _ => iprop(ZI d L key lst f0 2 0 ∗ SI d L key lst f0 0 ∗ CM d L key lst O W qk)) := by
  rw [k1_part48_eq_skeleton]
  unfold k1_part48_skel
  refine tp_seq d L (B := fun _ => iprop(Zst (F := F) d L 8 0 ∗ Start d L key lst f0 O W qk))
    ((sep_mono_left (zfill (d := d) (L := L) (hk := hk) (hl := hl) (ho := ho) (hz := hz) (hb := hb) (hc := hc) _)).trans (wp_frame_r _ _ _)) (fun _ => ?_)
  refine BIBase.Entails.trans (Q := iprop(|={Set.univ}=> ((ZI d L key lst f0 0 0 ∗ bigSep Finset.univ (fun t : Fin 8 => (oLoc d ↦[crow lst (wd L) t]{fullShare} f0 : sProp 𝕄))
      ∗ (∃ f, kB.view.loc (thr d L) ↦[Finset.univ]{fullShare} f) ∗ semVal (sSem d L) 0)
    ∗ (∃ f, lB.view.loc (thr d L) ↦[Finset.univ]{fullShare} f) ∗ CM d L key lst O W qk))) ?_ ?_
  · unfold Start
    iintro ⟨HZ, ⟨Hs, Ho, Hr, Hb, Hc⟩, Hl, HC⟩
    imod (zbegin (key := key) (lst := lst) (f0 := f0)) $$ [HZ Hs Ho] with HZI
    · isplitl [HZ]; · iexact HZ
      isplitl [Hs]; · iexact Hs
      iexact Ho
    imodintro
    isplitr [Hl HC]
    · isplitl [HZI]; · iexact HZI
      isplitl [Hr]; · iexact Hr
      isplitl [Hb]; · iexact Hb
      iexact Hc
    isplitl [Hl]; · iexact Hl
    iexact HC
  refine BIBase.Entails.trans (fupd_mono ?_) (fupd_wp _ _ _ _ _)
  refine lcopy hO (loff L) ?_
  refine BIBase.Entails.trans (Q := iprop(ZI d L key lst f0 0 0 ∗ SI d L key lst f0 0 ∗ CM d L key lst O W qk)) ?_ ?_
  · unfold SI RW
    rw [Transfers.pending_zero, done_zero, bigSep_empty]
    iintro ⟨⟨HZ, Hr, Hb, Hc⟩, Hl, HC⟩
    isplitl [HZ]; · iexact HZ
    isplitr [HC]
    · isplitl [Hr]
      · isplitl [Hr]; · iexact Hr
        iempintro
      isplitl [Hb]; · iexact Hb
      isplitl [Hl]; · iexact Hl
      iexact Hc
    · iexact HC
  refine zissue hlt 0 (by decide) (zoff L 0) ?_
  refine zissue hlt 1 (by decide) (zoff L 1) ?_
  exact tp_ret d L .rfl

/-- The whole task. -/
theorem task (hlt : ∀ x, (lst x).toNat < 32768) (hinj : Function.Injective fun x => (lst x).toNat) (hO : ∀ g, O g none = 0) :
    iprop(Zst (F := F) d L 0 0 ∗ Start d L key lst f0 O W qk)
      ⊢ tp d L (cc1__sc_cache_scatter L kM hk lM hl oM ho zB hz kB hb lB hc cc1_scratch3 cc1_scratch4 cc1_scoped0 cc1_scoped1 cc1_scoped2 cc1_scoped3 cc1_scoped4 cc1_scoped5 cc1_scoped6 cc1_scoped7 cc1_scoped8)
        (fun _ => iprop(iprop(bigSep Finset.univ (fun t : Fin 24 => oLoc d ↦[zwin (wd L) t]{fullShare} Gk key lst)
          ∗ (zB.view.loc (thr d L) ↦[Finset.univ]{fullShare} (Zc (F := F))) ∗ semVal (zSem d L) 0) ∗ SI d L key lst f0 8 ∗ CM d L key lst O W qk)) := by
  rw [cc1__sc_cache_scatter_eq_skeleton]
  unfold cc1__sc_cache_scatter_skel
  refine tp_seq d L (tpart48 hlt hinj hO) (fun v => ?_)
  refine (tp_seq d L (tpart49 hlt hinj hO _ _) (fun _ => ?_))
  refine (tp_seq d L (tpart50 hlt hinj hO _ _) (fun _ => ?_))
  refine (tp_seq d L (tpart51 hlt hinj hO _ _) (fun _ => ?_))
  refine (tp_seq d L (tpart52 hlt hinj hO _ _) (fun _ => ?_))
  refine (tp_seq d L (tpart53 hlt hinj hO _ _ _) (fun _ => ?_))
  refine (tp_seq d L (tpart54 hlt hinj hO _ _) (fun _ => ?_))
  refine (tp_seq d L (tpart55 hlt hinj hO _) (fun _ => ?_))
  refine (tp_seq d L (tpart56 hlt hinj hO _ _ _) (fun _ => ?_))
  refine (tp_seq d L (tpart57 hlt hinj hO _) (fun _ => ?_))
  refine (tp_seq d L (tpart58 hlt hinj hO) (fun _ => ?_))
  refine (tp_seq d L (tpart59 hlt hinj hO) (fun _ => ?_))
  refine zwait hO 19 (by decide) ?_
  refine zwait hO 20 (by decide) ?_
  refine zwait hO 21 (by decide) ?_
  refine zwait hO 22 (by decide) ?_
  refine zwaitLast hO ?_
  exact tp_ret d L .rfl

end Cert.Proof.Cache

end
-- ==== Proof.Tile.lean ====
/-
The task as the launch runs it: what a tile is handed and what it hands back, its own semaphores and scratch buffers
picked out of everything it owns, and the obligation the launch asks of it.
-/
module

public import proofs.«01_k».proof.Proof.Task

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The task number of tile `i` of core `c`. -/
def wOf (c : Fin 2) (i : Fin 16) : Fin 32 := ⟨2 * i.val + c.val, by omega⟩

/-- What task `w` holds with the output's rows at contents `f`: its zero rows, the rows its lists name, and its shares of
    the key rows and of the list. -/
def GT (d : Dev nD) (w : Fin 32) (key : Buf (Elt F) (kLoc d)) (lst : Buf (Elt F) (lLoc d)) (f : Buf (Elt F) (oLoc d)) : sProp 𝕄 :=
  iprop((bigSep Finset.univ fun t : Fin 24 => oLoc d ↦[zwin w t]{fullShare} f)
    ∗ (bigSep Finset.univ fun j : Fin 8 => oLoc d ↦[crow lst w j]{fullShare} f)
    ∗ (kLoc d ↦[Finset.univ]{Transfers.shareTok fullShare 32 w} key)
    ∗ (lLoc d ↦[Finset.univ]{Transfers.shareTok fullShare 32 w} lst))

instance (d : Dev nD) (w : Fin 32) (key : Buf (Elt F) (kLoc d)) (lst : Buf (Elt F) (lLoc d)) (f : Buf (Elt F) (oLoc d)) :
    BI.Storable (upEmb : UEmb _ 𝕄) (GT d w key lst f) := by unfold GT; infer_instance

section Pay

variable (key : (d : Dev nD) → Buf (Elt F) (kLoc d)) (lst : (d : Dev nD) → Buf (Elt F) (lLoc d)) (f0 : (d : Dev nD) → Buf (Elt F) (oLoc d))

/-- The launch's payloads: a tile gets its part with the output untouched and gives it back written. -/
def P : (K (F := F)).Pay (nD := nD) (Val := Elt F) (Name := ℕ) (U := UU) where
  st := fun q d c => match q with
    | 0 => bigSep Finset.univ fun i : Fin 16 => GT d (wOf (Fin.cast nCore_zero c) i) (key d) (lst d) (f0 d)
  dn := fun q d c => match q with
    | 0 => bigSep Finset.univ fun i : Fin 16 => GT d (wOf (Fin.cast nCore_zero c) i) (key d) (lst d) (Gk (key d) (lst d))
  go := fun q d c i => match q with
    | 0 => GT d (wOf (Fin.cast nCore_zero c) (Fin.cast nSub_zero i)) (key d) (lst d) (f0 d)
  td := fun q d c i => match q with
    | 0 => GT d (wOf (Fin.cast nCore_zero c) (Fin.cast nSub_zero i)) (key d) (lst d) (Gk (key d) (lst d))
  x := fun _ _ => iprop(emp)

instance P_storable : (P key lst f0).IsStorable where
  st q d c := match q with
    | 0 => (inferInstance : BI.Storable (upEmb : UEmb _ 𝕄) (bigSep Finset.univ fun i : Fin 16 => GT d (wOf (Fin.cast nCore_zero c) i) (key d) (lst d) (f0 d)))
  dn q d c := match q with
    | 0 => (inferInstance : BI.Storable (upEmb : UEmb _ 𝕄) (bigSep Finset.univ fun i : Fin 16 => GT d (wOf (Fin.cast nCore_zero c) i) (key d) (lst d) (Gk (key d) (lst d))))
  go q d c i := match q with
    | 0 => (inferInstance : BI.Storable (upEmb : UEmb _ 𝕄) (GT d (wOf (Fin.cast nCore_zero c) (Fin.cast nSub_zero i)) (key d) (lst d) (f0 d)))
  td q d c i := match q with
    | 0 => (inferInstance : BI.Storable (upEmb : UEmb _ 𝕄) (GT d (wOf (Fin.cast nCore_zero c) (Fin.cast nSub_zero i)) (key d) (lst d) (Gk (key d) (lst d))))

end Pay

section Tile

variable (d : Dev nD) (L : grid1.Coords)

/-- The task's eleven semaphores. -/
def sems : Fin 11 → DmaSem sig
  | 0 => cc1_scratch3.sem
  | 1 => cc1_scratch4.sem
  | 2 => cc1_scoped0.sem
  | 3 => cc1_scoped1.sem
  | 4 => cc1_scoped2.sem
  | 5 => cc1_scoped3.sem
  | 6 => cc1_scoped4.sem
  | 7 => cc1_scoped5.sem
  | 8 => cc1_scoped6.sem
  | 9 => cc1_scoped7.sem
  | 10 => cc1_scoped8.sem

theorem sems_inj : Function.Injective sems := by decide

theorem sems_scoped : ∀ i, (SemLoc.dma (sems i) : SemLoc sig).isScoped .scVector = true := by decide

theorem sems_succ : ∀ i : Fin 9, sems i.succ.succ = rs i := by decide

/-- The cell of one of them. -/
def scell (i : Fin 11) : GSem nD τ sig := (thr d L, .dma (sems i))

theorem scell_inj : Function.Injective (scell d L) := fun i j e => sems_inj (by simpa [scell] using e)

/-- Those eleven at zero, out of every semaphore of the tile, and the rest. -/
theorem ownSems0_V : ∃ R : sProp 𝕄, (SparseCore.Cfg.ownSems0 (thr d L) : sProp 𝕄)
    = iprop((semVal (zSem d L) 0 ∗ semVal (sSem d L) 0 ∗ bigSep Finset.univ (fun i : Fin 9 => semVal (thr d L, .dma (rs i)) 0)) ∗ R) := by
  classical
  refine ⟨bigSep (SparseCore.Cfg.ownCells (thr d L) \ Finset.univ.image (scell d L)) fun g => semVal g 0, ?_⟩
  unfold SparseCore.Cfg.ownSems0
  rw [bigSep_sdiff_split (t := Finset.univ.image (scell d L)) (fun g hg => by
      obtain ⟨i, -, rfl⟩ := Finset.mem_image.mp hg
      exact (SparseCore.Cfg.mem_ownCells (g := scell d L i)).mpr ⟨rfl, sems_scoped i⟩),
    bigSep_image_of_injOn (scell_inj d L).injOn]
  rw [Fin.univ_succ, Finset.cons_eq_insert, SparseCore.bigSep_insert' (by simp), bigSep_map, Fin.univ_succ, Finset.cons_eq_insert,
    SparseCore.bigSep_insert' (by simp), bigSep_map]
  rw [show (fun i : Fin 9 => (semVal (thr d L, SemLoc.dma (rs i)) 0 : sProp 𝕄)) = fun i : Fin 9 => semVal (scell d L i.succ.succ) 0 from funext fun i => by rw [← sems_succ]; rfl]
  rfl

/-- The three scratch buffers out of everything the tile owns, and the rest. -/
theorem ownBufs_V : ∃ R : sProp 𝕄, (SparseCore.Cfg.ownBufs (thr d L) : sProp 𝕄)
    = iprop((∃ f, zB.view.loc (thr d L) ↦[Finset.univ]{fullShare} f) ∗ (∃ f, kB.view.loc (thr d L) ↦[Finset.univ]{fullShare} f)
          ∗ (∃ f, lB.view.loc (thr d L) ↦[Finset.univ]{fullShare} f) ∗ R) := by
  classical
  refine ⟨bigSep ((((SparseCore.Cfg.ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f), ?_⟩
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

variable {d L} {key : Buf (Elt F) (kLoc d)} {lst : Buf (Elt F) (lLoc d)} {f0 : Buf (Elt F) (oLoc d)}

/-- The task from what the launch hands it to what it hands back. -/
theorem tile_body (hF : (K (F := F)).Facts) (hlt : ∀ x, (lst x).toNat < 32768) (hinj : Function.Injective fun x => (lst x).toNat)
    (O : CellTallies nD τ sig (HIx 1)) (W : Waits sig (HIx 1)) (hO : ∀ g, O g none = 0)
    {hk : kM.IsWhole} {hl : lM.IsWhole} {ho : oM.IsWhole} {hz : zB.IsWhole} {hb : kB.IsWhole} {hc : lB.IsWhole} :
    iprop(levAts (K (F := F)).L (K (F := F)).lev ∗ emp ∗ GT d (wd L) key lst f0
        ∗ scopedBufs (thr d L) ∗ scopedSems0 (thr d L) ∗ owes (thr d L) O W)
      ⊢ tp d L (cc1__sc_cache_scatter L kM hk lM hl oM ho zB hz kB hb lB hc cc1_scratch3 cc1_scratch4 cc1_scoped0 cc1_scoped1 cc1_scoped2 cc1_scoped3 cc1_scoped4 cc1_scoped5 cc1_scoped6 cc1_scoped7 cc1_scoped8)
          fun _ => iprop(GT d (wd L) key lst (Gk key lst)
            ∗ scopedBufs (thr d L) ∗ scopedSems0 (thr d L)
            ∗ ∃ W', ⌜∀ p ∈ W', p ∈ W ∨ p.2 = none⌝ ∗ owes (thr d L) O W') := by
  obtain ⟨RS, eS⟩ := ownSems0_V (F := F) d L
  obtain ⟨RB, eB⟩ := ownBufs_V (F := F) d L
  rw [(K (F := F)).scopedBufs_V hF d (cV L) (jV L), SparseCore.Cfg.scopedSems0_V (Val := Elt F) d (cV L) (jV L), eS, eB]
  refine BIBase.Entails.trans (Q := iprop((Zst (F := F) d L 0 0 ∗ Start d L key lst f0 O W (Transfers.shareTok fullShare 32 (wd L))) ∗ RS ∗ RB)) ?_ ?_
  · unfold GT Zst Start CM
    iintro ⟨Hlv, -, ⟨Hz, Hr, Hk, Hl⟩, ⟨⟨%fz, Bz⟩, Bk, Bl, HRB⟩, ⟨⟨Sz, Ss, Sr⟩, HRS⟩, HO⟩
    isplitr [HRS HRB]
    · isplitl [Bz]
      · iexists fz
        isplitr
        · ipureintro
          intro x hx
          omega
        · iexact Bz
      isplitl [Sz Hz Hr Bk Ss]
      · isplitl [Sz]; · iexact Sz
        isplitl [Hz]; · iexact Hz
        isplitl [Hr]; · iexact Hr
        isplitl [Bk]; · iexact Bk
        iexact Ss
      isplitl [Bl]; · iexact Bl
      isplitl [Hlv]; · iexact Hlv
      isplitl [Sr]; · iexact Sr
      isplitl [Hk]; · iexact Hk
      isplitl [Hl]; · iexact Hl
      iexists W
      isplitr
      · ipureintro
        exact fun p hp => Or.inl hp
      · iexact HO
    isplitl [HRS]; · iexact HRS
    iexact HRB
  · refine ((sep_mono_left (task (d := d) (L := L) (key := key) (lst := lst) (f0 := f0) (O := O) (W := W) (hk := hk) (hl := hl) (ho := ho) (hz := hz) (hb := hb) (hc := hc) hlt hinj hO)).trans (wp_frame_r _ _ _)).trans (wp_mono frame _ _ fun _ => ?_)
    unfold SI RW CM GT
    rw [pending_all, done_all]
    iintro ⟨⟨⟨Hz, Bz, Sz⟩, ⟨⟨-, Hr⟩, Bk, Bl, Ss⟩, -, Sr, Hk, Hl, HO⟩, HRS, HRB⟩
    isplitl [Hz Hr Hk Hl]
    · isplitl [Hz]; · iexact Hz
      isplitl [Hr]; · iexact Hr
      isplitl [Hk]; · iexact Hk
      iexact Hl
    isplitl [Bz Bk Bl HRB]
    · isplitl [Bz]; · iexists _; iexact Bz
      isplitl [Bk]; · iexact Bk
      isplitl [Bl]; · iexists _; iexact Bl
      iexact HRB
    isplitl [Sz Ss Sr HRS]
    · isplitr [HRS]
      · isplitl [Sz]; · iexact Sz
        isplitl [Ss]; · iexact Ss
        iexact Sr
      iexact HRS
    iexact HO

end Tile

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__sc_cache_scatter (coordsV c s)
          kM (Memref.isWhole_whole _) lM (Memref.isWhole_whole _) oM (Memref.isWhole_whole _)
          zB (Memref.isWhole_whole _) kB (Memref.isWhole_whole _) lB (Memref.isWhole_whole _)
          cc1_scratch3 cc1_scratch4 cc1_scoped0 cc1_scoped1 cc1_scoped2 cc1_scoped3 cc1_scoped4 cc1_scoped5 cc1_scoped6 cc1_scoped7 cc1_scoped8) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

section Obl

variable {key : (d : Dev nD) → Buf (Elt F) (kLoc d)} {lst : (d : Dev nD) → Buf (Elt F) (lLoc d)} {f0 : (d : Dev nD) → Buf (Elt F) (oLoc d)}

/-- The launch's obligation of a tile. -/
theorem tileObl (hF : (K (F := F)).Facts) (hlt : ∀ d x, (lst d x).toNat < 32768) (hinj : ∀ d, Function.Injective fun x => (lst d x).toNat) :
    (K (F := F)).TileObl (D (F := F)) 𝒱 (P key lst f0) v₀ 0 := by
  intro d c i O W hO _ _
  simp only [show (P key lst f0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (d := d) (L := coordsV ⟨_, hci.1⟩ ⟨_, hci.2⟩) hF (hlt d) (hinj d) O W hO).trans (wp_mono frame _ _ fun _ => obl_post)

/-- A core's part is its tiles' parts. -/
theorem vecSplit : (K (F := F)).VecSplit' (P key lst f0) 0 := by
  intro d c
  have h (g : (d : Dev nD) → Buf (Elt F) (oLoc d)) : (bigSep Finset.univ fun i : Fin ((K (F := F)).nSub 0) => GT d (wOf (Fin.cast nCore_zero c) (Fin.cast nSub_zero i)) (key d) (lst d) (g d))
      = bigSep Finset.univ fun i : Fin 16 => GT d (wOf (Fin.cast nCore_zero c) i) (key d) (lst d) (g d) :=
    bigSep_congr fun _ _ => congrArg (fun i => GT d (wOf (Fin.cast nCore_zero c) i) (key d) (lst d) (g d)) (Fin.ext rfl)
  show (bigSep Finset.univ fun i : Fin 16 => GT d (wOf (Fin.cast nCore_zero c) i) (key d) (lst d) (f0 d))
    ⊢ |={Set.univ}=> iprop((bigSep Finset.univ fun i : Fin ((K (F := F)).nSub 0) => GT d (wOf (Fin.cast nCore_zero c) (Fin.cast nSub_zero i)) (key d) (lst d) (f0 d))
      ∗ ((bigSep Finset.univ fun i : Fin ((K (F := F)).nSub 0) => GT d (wOf (Fin.cast nCore_zero c) (Fin.cast nSub_zero i)) (key d) (lst d) (Gk (key d) (lst d)))
        -∗ bigSep Finset.univ fun i : Fin 16 => GT d (wOf (Fin.cast nCore_zero c) i) (key d) (lst d) (Gk (key d) (lst d))))
  rw [h f0, h fun d => Gk (key d) (lst d)]
  iintro H
  imodintro
  isplitl [H]; · iexact H
  iintro H
  iexact H

end Obl

end Cert.Proof.Cache

end
-- ==== Proof.Cover.lean ====
/-
The output's rows are the rows the thirty-two tasks write, each row in exactly one place: the rows the list names, by the
list being a permutation of the first 32768, and the zero rows, by counting. The key rows and the list go to the tasks in
shares.
-/
module

public import proofs.«01_k».proof.Proof.Tile

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Sets

variable {lst : S256x128.Idx → BitVec 32}

/-- The sets of places of the output: for every task its zero rows and the rows its lists name. -/
def oset (lst : S256x128.Idx → BitVec 32) (p : Fin 32 × (Fin 24 ⊕ Fin 8)) : Finset S131072x2x128.Idx :=
  match p.2 with
  | .inl t => zwin p.1 t
  | .inr j => crow lst p.1 j

theorem oset_disjoint (hlt : ∀ x, (lst x).toNat < 32768) (hinj : Function.Injective fun x => (lst x).toNat) :
    ∀ p ∈ (Finset.univ : Finset (Fin 32 × (Fin 24 ⊕ Fin 8))), ∀ p' ∈ (Finset.univ : Finset (Fin 32 × (Fin 24 ⊕ Fin 8))), p ≠ p' → Disjoint (oset lst p) (oset lst p') := by
  rintro ⟨w, t⟩ - ⟨w', t'⟩ - hne
  rw [Finset.disjoint_left]
  intro y hy hy'
  apply hne
  match t, t' with
  | .inl t, .inl t' =>
    simp only [oset, zwin, Finset.mem_filter, Finset.mem_univ, true_and] at hy hy'
    have := t.isLt
    have := t'.isLt
    have e1 : w = w' := by ext; omega
    have e2 : t = t' := by ext; omega
    rw [e1, e2]
  | .inl t, .inr j =>
    simp only [oset, zwin, crow, Finset.mem_filter, Finset.mem_univ, true_and] at hy hy'
    obtain ⟨x, -, hx⟩ := hy'
    have := hlt (lix w' x)
    omega
  | .inr j, .inl t =>
    simp only [oset, zwin, crow, Finset.mem_filter, Finset.mem_univ, true_and] at hy hy'
    obtain ⟨x, -, hx⟩ := hy
    have := hlt (lix w x)
    omega
  | .inr j, .inr j' =>
    simp only [oset, crow, Finset.mem_filter, Finset.mem_univ, true_and] at hy hy'
    obtain ⟨x, hj, hx⟩ := hy
    obtain ⟨x', hj', hx'⟩ := hy'
    have e : lix w x = lix w' x' := hinj (hx.trans hx'.symm)
    have e0 : 8 * w.val + (x 0).val = 8 * w'.val + (x' 0).val := congrArg (fun z : S256x128.Idx => (z 0).val) e
    have h0 : (x 0).val < 8 := (x 0).isLt
    have h0' : (x' 0).val < 8 := (x' 0).isLt
    have e1 : w = w' := by ext; omega
    have e2 : j = j' := by ext; omega
    rw [e1, e2]

/-- Entry `n` of the list, read as a line. -/
def lineIx (n : Fin 32768) : S256x128.Idx := fun
  | 0 => ⟨n.val / 128, by show _ < 256; omega⟩
  | 1 => ⟨n.val % 128, by show _ < 128; omega⟩

/-- A list of 32768 distinct rows below 32768 names every one of them. -/
theorem lst_surj (hlt : ∀ x, (lst x).toNat < 32768) (hinj : Function.Injective fun x => (lst x).toNat) (r : ℕ) (hr : r < 32768) :
    ∃ x : S256x128.Idx, (lst x).toNat = r := by
  have hg : Function.Injective fun n : Fin 32768 => (⟨(lst (lineIx n)).toNat, hlt _⟩ : Fin 32768) := by
    intro n n' e
    have e' : lineIx n = lineIx n' := hinj (Fin.mk.inj e)
    have e0 : n.val / 128 = n'.val / 128 := congrArg (fun z : S256x128.Idx => (z 0).val) e'
    have e1 : n.val % 128 = n'.val % 128 := congrArg (fun z : S256x128.Idx => (z 1).val) e'
    ext
    omega
  obtain ⟨n, hn⟩ := Finite.surjective_of_injective hg ⟨r, hr⟩
  exact ⟨lineIx n, congrArg Fin.val hn⟩

theorem oset_cover (hlt : ∀ x, (lst x).toNat < 32768) (hinj : Function.Injective fun x => (lst x).toNat) :
    (Finset.univ : Finset (Fin 32 × (Fin 24 ⊕ Fin 8))).biUnion (oset lst) = Finset.univ := by
  ext y
  simp only [Finset.mem_biUnion, Finset.mem_univ, true_and, iff_true]
  have hy : (y 0).val < 131072 := (y 0).isLt
  by_cases h : (y 0).val < 32768
  · obtain ⟨x, hx⟩ := lst_surj hlt hinj _ h
    have hx0 : (x 0).val < 256 := (x 0).isLt
    refine ⟨(⟨(x 0).val / 8, by omega⟩, .inr ⟨(x 0).val % 8, by omega⟩), ?_⟩
    simp only [oset, crow, Finset.mem_filter, Finset.mem_univ, true_and]
    refine ⟨fun | 0 => ⟨(x 0).val % 8, by show _ < 8; omega⟩ | 1 => x 1, rfl, ?_⟩
    rw [← hx]
    congr 2
    refine idx2_ext ?_ rfl
    show 8 * ((x 0).val / 8) + (x 0).val % 8 = (x 0).val
    omega
  · refine ⟨(⟨((y 0).val - 32768) / 3072, by omega⟩, .inl ⟨((y 0).val - 32768) % 3072 / 128, by omega⟩), ?_⟩
    simp only [oset, zwin, Finset.mem_filter, Finset.mem_univ, true_and]
    omega

end Sets

/-- The tasks, by core and tile. -/
def wEquiv : Fin 2 × Fin 16 ≃ Fin 32 where
  toFun p := wOf p.1 p.2
  invFun w := (⟨w.val % 2, by omega⟩, ⟨w.val / 2, by omega⟩)
  left_inv p := by
    have := p.1.isLt
    refine Prod.ext (Fin.ext ?_) (Fin.ext ?_) <;> simp only [wOf] <;> omega
  right_inv w := by
    refine Fin.ext ?_
    simp only [wOf]
    omega

section Split

variable {d : Dev nD} {key : Buf (Elt F) (kLoc d)} {lst : Buf (Elt F) (lLoc d)} (f : Buf (Elt F) (oLoc d))

/-- The output whole is the tasks' rows. -/
theorem oPts_tasks (hlt : ∀ x, (lst x).toNat < 32768) (hinj : Function.Injective fun x => (lst x).toNat) :
    (oLoc d ↦{fullShare} f : sProp 𝕄) = bigSep Finset.univ fun w : Fin 32 =>
      iprop((bigSep Finset.univ fun t : Fin 24 => oLoc d ↦[zwin w t]{fullShare} f) ∗ (bigSep Finset.univ fun j : Fin 8 => oLoc d ↦[crow lst w j]{fullShare} f)) := by
  have h : (oLoc d ↦{fullShare} f : sProp 𝕄) = bigSep Finset.univ fun p : Fin 32 × (Fin 24 ⊕ Fin 8) => oLoc d ↦[oset lst p]{fullShare} f := by
    rw [← pointsTo_biUnion Finset.univ (ℓ := oLoc d) (oset lst) (oset_disjoint hlt hinj), oset_cover hlt hinj]; try rfl
  rw [h, bigSep_univ_prod]
  refine bigSep_congr fun w _ => ?_
  rw [bigSep_univ_sum]
  rfl

/-- The output, the key rows and the list are the tasks' parts and what is left of the shares. -/
theorem tasks_eq (hlt : ∀ x, (lst x).toNat < 32768) (hinj : Function.Injective fun x => (lst x).toNat) :
    iprop((oLoc d ↦{fullShare} f) ∗ (bigSep Finset.univ fun w : Fin 32 => kLoc d ↦[Finset.univ]{Transfers.shareTok fullShare 32 w} key)
        ∗ (bigSep Finset.univ fun w : Fin 32 => lLoc d ↦[Finset.univ]{Transfers.shareTok fullShare 32 w} lst))
      = (bigSep Finset.univ fun c : Fin 2 => bigSep Finset.univ fun i : Fin 16 => GT d (wOf c i) key lst f : sProp 𝕄) := by
  rw [oPts_tasks f hlt hinj, ← bigSep_sep', ← bigSep_sep']
  refine (bigSep_univ_equiv wEquiv _).trans ((bigSep_univ_prod _).trans (bigSep_congr fun c _ => bigSep_congr fun i _ => ?_))
  unfold GT
  exact BI.equiv_iff.mp ⟨BI.sep_assoc, BI.sep_assoc'⟩

end Split

end Cert.Proof.Cache

end
-- ==== Proof.Launch.lean ====
/-
The program on the TensorCore from start to end: the region, the host lines that make the rows and the list, the
SparseCore call, the two reshapes; what every buffer holds at the end, as a valuation stepped through the program.
-/
module

public import proofs.«01_k».proof.Proof.VCall
public import proofs.«01_k».proof.Proof.Cover
public import Idealize.ShloMosaic.Lib.Pipeline.FrameTail

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.TcCoe
open Idealize.ShloMosaic.StableHlo (held)

/-! ## Three buffers out of all the unscoped ones -/

/-- A buffer of the TensorCore, as the device names it. -/
abbrev dr (r : Ref sig .tc) : DevRef τ sig := Proc.devRef .tc r

/-- The unscoped buffers but three. -/
def ucBut (r1 r2 r3 : Ref sig .tc) : Finset (DevRef τ sig) :=
  (((Pipeline.ucRefs τ sig).erase (dr r1)).erase (dr r2)).erase (dr r3)

theorem held3 (d : Dev nD) (r1 r2 r3 : Ref sig .tc) (h1 : r1.isScoped = false) (h2 : r2.isScoped = false) (h3 : r3.isScoped = false)
    (n21 : r2 ≠ r1) (n31 : r3 ≠ r1) (n32 : r3 ≠ r2) (V : Valuation τ sig (Elt F)) :
    (held (SparseCore.T d) (Pipeline.ucRefs τ sig) V : sProp 𝕄)
      = iprop(((SparseCore.T d).loc r1 ↦{fullShare} V (dr r1)) ∗ ((SparseCore.T d).loc r2 ↦{fullShare} V (dr r2))
          ∗ ((SparseCore.T d).loc r3 ↦{fullShare} V (dr r3)) ∗ held (SparseCore.T d) (ucBut r1 r2 r3) V) := by
  unfold held ucBut
  have ne {a b : Ref sig .tc} (h : a ≠ b) : dr a ≠ dr b := fun e => h (Proc.devRef_injective _ e)
  rw [SparseCore.bigSep_erase' (Pipeline.devRef_mem_ucRefs h1),
    SparseCore.bigSep_erase' (Finset.mem_erase.mpr ⟨ne n21, Pipeline.devRef_mem_ucRefs h2⟩),
    SparseCore.bigSep_erase' (Finset.mem_erase.mpr ⟨ne n32, Finset.mem_erase.mpr ⟨ne n31, Pipeline.devRef_mem_ucRefs h3⟩⟩)]

/-- The same with the second one at a new value. -/
theorem held3_new (d : Dev nD) (r1 r2 r3 : Ref sig .tc) (h1 : r1.isScoped = false) (h2 : r2.isScoped = false) (h3 : r3.isScoped = false)
    (n21 : r2 ≠ r1) (n31 : r3 ≠ r1) (n32 : r3 ≠ r2) (V : Valuation τ sig (Elt F)) (v : (dr r2).ty.Contents (Elt F)) :
    (held (SparseCore.T d) (Pipeline.ucRefs τ sig) (Function.update V (dr r2) v) : sProp 𝕄)
      = iprop(((SparseCore.T d).loc r1 ↦{fullShare} V (dr r1)) ∗ ((SparseCore.T d).loc r2 ↦{fullShare} v)
          ∗ ((SparseCore.T d).loc r3 ↦{fullShare} V (dr r3)) ∗ held (SparseCore.T d) (ucBut r1 r2 r3) V) := by
  have ne {a b : Ref sig .tc} (h : a ≠ b) : dr a ≠ dr b := fun e => h (Proc.devRef_injective _ e)
  rw [held3 d r1 r2 r3 h1 h2 h3 n21 n31 n32, Function.update_self, Function.update_of_ne (ne n21.symm), Function.update_of_ne (ne n32),
    StableHlo.held_congr (SparseCore.T d) (V := Function.update V (dr r2) v) (V' := V) (S := ucBut r1 r2 r3) fun b hb =>
      Function.update_of_ne (Finset.ne_of_mem_erase (Finset.mem_of_mem_erase hb)) v V]

/-! ## The contents, step by step -/

/-- The host lines before the SparseCore call. -/
def opsA : List (HloOp τ sig (Elt F)) := [
    (StableHlo.unary main_arg4 main_v1 (broadcastInDim S4096x1 ![0] bcast_S4096_S4096x1_0 : (⟨S4096, .i32⟩ : BufTy).Contents (Elt F) → (⟨S4096x1, .i32⟩ : BufTy).Contents (Elt F))),
    (StableHlo.nullary main_c (constantI S_ 32 8#32)),
    (StableHlo.unary main_c main_v2 (broadcastInDim S4096x1 ![] bcast_S_S4096x1 : (⟨S_, .i32⟩ : BufTy).Contents (Elt F) → (⟨S4096x1, .i32⟩ : BufTy).Contents (Elt F))),
    (StableHlo.binary main_v1 main_v2 main_v3 (muli : (⟨S4096x1, .i32⟩ : BufTy).Contents (Elt F) → (⟨S4096x1, .i32⟩ : BufTy).Contents (Elt F) → (⟨S4096x1, .i32⟩ : BufTy).Contents (Elt F))),
    (StableHlo.nullary main_v4 (iotaInDim S8 32 0)),
    (StableHlo.unary main_v4 main_v5 (broadcastInDim S1x8 ![1] bcast_S8_S1x8_1 : (⟨S8, .i32⟩ : BufTy).Contents (Elt F) → (⟨S1x8, .i32⟩ : BufTy).Contents (Elt F))),
    (StableHlo.unary main_v3 main_v6 (broadcastInDim S4096x8 ![0, 1] bcast_S4096x1_S4096x8_0_1 : (⟨S4096x1, .i32⟩ : BufTy).Contents (Elt F) → (⟨S4096x8, .i32⟩ : BufTy).Contents (Elt F))),
    (StableHlo.unary main_v5 main_v7 (broadcastInDim S4096x8 ![0, 1] bcast_S1x8_S4096x8_0_1 : (⟨S1x8, .i32⟩ : BufTy).Contents (Elt F) → (⟨S4096x8, .i32⟩ : BufTy).Contents (Elt F))),
    (StableHlo.binary main_v6 main_v7 main_v8 (addi : (⟨S4096x8, .i32⟩ : BufTy).Contents (Elt F) → (⟨S4096x8, .i32⟩ : BufTy).Contents (Elt F) → (⟨S4096x8, .i32⟩ : BufTy).Contents (Elt F))),
    (StableHlo.reshape main_v8 main_v9 (rfl : (.i32 : EltTy) = .i32) shapeCasts_S4096x8_S256x128),
    (StableHlo.reshape main_arg0 main_v10 (rfl : (.f32 : EltTy) = .f32) shapeCasts_S4096x16x128_S32768x2x128)]

/-- The host lines after it. -/
def opsB : List (HloOp τ sig (Elt F)) := [
    (StableHlo.reshape main_v11 main_v12 (rfl : (.f32 : EltTy) = .f32) shapeCasts_S131072x2x128_S1024x16x16x128),
    (StableHlo.reshape main_v0 main_v13 (rfl : (.f32 : EltTy) = .f32) shapeCasts_S16384x16x128_S1024x16x16x128)]

theorem opsA_sub : ∀ op ∈ opsA (F := F), op.bufs ⊆ Pipeline.ucRefs τ sig := by
  intro op h
  refine Pipeline.sub_ucRefs op ?_
  unfold opsA at h
  simp only [List.mem_cons, List.not_mem_nil, or_false] at h
  rcases h with rfl | rfl | rfl | rfl | rfl | rfl | rfl | rfl | rfl | rfl | rfl
  all_goals first | exact StableHlo.unary_bufs_sub .. | exact StableHlo.nullary_bufs_sub .. | exact StableHlo.binary_bufs_sub .. | exact StableHlo.reshape_bufs_sub ..

theorem opsA_fresh : ∀ op ∈ opsA (F := F), op.fresh = ∅ := by
  intro op h
  unfold opsA at h
  simp only [List.mem_cons, List.not_mem_nil, or_false] at h
  rcases h with rfl | rfl | rfl | rfl | rfl | rfl | rfl | rfl | rfl | rfl | rfl
  all_goals rfl

theorem opsB_sub : ∀ op ∈ opsB (F := F), op.bufs ⊆ Pipeline.ucRefs τ sig := by
  intro op h
  refine Pipeline.sub_ucRefs op ?_
  unfold opsB at h
  simp only [List.mem_cons, List.not_mem_nil, or_false] at h
  rcases h with rfl | rfl
  all_goals exact StableHlo.reshape_bufs_sub ..

theorem opsB_fresh : ∀ op ∈ opsB (F := F), op.fresh = ∅ := by
  intro op h
  unfold opsB at h
  simp only [List.mem_cons, List.not_mem_nil, or_false] at h
  rcases h with rfl | rfl
  all_goals rfl

/-- The program on the TensorCore, its host lines gathered. -/
theorem main_eq (d : Dev nD) : main (F := F) d = (Prog.lift (.customCall (SparseCore.inner (Pipeline.entry 0)) ()) >>= fun _ =>
    StableHlo.seq opsA >>= fun _ => sc.run d 0 >>= fun _ => StableHlo.seq opsB >>= fun _ => pure ⟨⟩) := by
  unfold opsA opsB main
  simp only [StableHlo.seq, bind_assoc, pure_bind]

variable [∀ e, Nonempty (Elt F e)]
variable (m : (ℓ : Loc nD τ sig) → Buf (Elt F) ℓ) (a : (pcfg0 (F := F)).Adm)

/-- What the region reads and what it overwrites. -/
abbrev xM (c : Dev nD) : Buf (Elt F) ((c : Thread nD τ).loc main_arg1) := m ((c : Thread nD τ).loc main_arg1)
abbrev yM (c : Dev nD) : Buf (Elt F) ((c : Thread nD τ).loc main_v0) := m ((c : Thread nD τ).loc main_v0)

/-- The contents at the start, -/
def V0 (d : Dev nD) : Valuation τ sig (Elt F) := fun b => m (d, b)
/-- after the region, -/
def V1 (d : Dev nD) : Valuation τ sig (Elt F) := Function.update (V0 m d) (dr main_v0) (vnew a (xM m) (yM m) d)
/-- after the lines before the SparseCore call, -/
def V2 (d : Dev nD) : Valuation τ sig (Elt F) := StableHlo.after opsA (V1 m a d)

/-- the rows the call reads, the list it reads and what it finds in its output, -/
def keyV (d : Dev nD) : Buf (Elt F) (kLoc d) := V2 m a d (dr main_v10)
def lstV (d : Dev nD) : Buf (Elt F) (lLoc d) := V2 m a d (dr main_v9)
def outV (d : Dev nD) : Buf (Elt F) (oLoc d) := V2 m a d (dr main_v11)

/-- after the call, -/
def V3 (d : Dev nD) : Valuation τ sig (Elt F) := Function.update (V2 m a d) (dr main_v11) (Gk (keyV m a d) (lstV m a d))
/-- and at the end. -/
def V4 (d : Dev nD) : Valuation τ sig (Elt F) := StableHlo.after opsB (V3 m a d)

/-- What is kept of the end: every unscoped buffer at its contents. -/
def FIN (d : Dev nD) : sProp 𝕄 := held (SparseCore.T d) (Pipeline.ucRefs τ sig) (V4 m a d)

/-- The launch's payloads at this memory. -/
abbrev PM : (K (F := F)).Pay (nD := nD) (Val := Elt F) (Name := ℕ) (U := UU) := P (keyV m a) (lstV m a) (outV m a)

/-! ## The call's three buffers, dealt to the tasks and collected -/

theorem deal (d : Dev nD) (key : Buf (Elt F) (kLoc d)) (lst : Buf (Elt F) (lLoc d)) (f : Buf (Elt F) (oLoc d))
    (hlt : ∀ x, (lst x).toNat < 32768) (hinj : Function.Injective fun x => (lst x).toNat) :
    iprop((kLoc d ↦{fullShare} key) ∗ (oLoc d ↦{fullShare} f) ∗ (lLoc d ↦{fullShare} lst))
      ⊢ (iprop((bigSep Finset.univ fun c : Fin 2 => bigSep Finset.univ fun i : Fin 16 => GT d (wOf c i) key lst f)
        ∗ (kLoc d ↦{Transfers.shareDrop fullShare 32} key) ∗ (lLoc d ↦{Transfers.shareDrop fullShare 32} lst)) : sProp 𝕄) := by
  rw [← tasks_eq f hlt hinj]
  iintro ⟨Hk, Ho, Hl⟩
  ihave Hk' := (Transfers.pointsTo_toks_split fullShare 32) $$ Hk
  ihave Hl' := (Transfers.pointsTo_toks_split fullShare 32) $$ Hl
  icases Hk' with ⟨Kd, Kt⟩
  icases Hl' with ⟨Ld, Lt⟩
  isplitl [Ho Kt Lt]
  · isplitl [Ho]; · iexact Ho
    isplitl [Kt]; · iexact Kt
    iexact Lt
  isplitl [Kd]; · iexact Kd
  iexact Ld

theorem collect (d : Dev nD) (key : Buf (Elt F) (kLoc d)) (lst : Buf (Elt F) (lLoc d)) (f : Buf (Elt F) (oLoc d))
    (hlt : ∀ x, (lst x).toNat < 32768) (hinj : Function.Injective fun x => (lst x).toNat) :
    iprop((bigSep Finset.univ fun c : Fin 2 => bigSep Finset.univ fun i : Fin 16 => GT d (wOf c i) key lst f)
        ∗ (kLoc d ↦{Transfers.shareDrop fullShare 32} key) ∗ (lLoc d ↦{Transfers.shareDrop fullShare 32} lst))
      ⊢ (iprop((kLoc d ↦{fullShare} key) ∗ (oLoc d ↦{fullShare} f) ∗ (lLoc d ↦{fullShare} lst)) : sProp 𝕄) := by
  rw [← tasks_eq f hlt hinj]
  iintro ⟨⟨Ho, Kt, Lt⟩, Kd, Ld⟩
  ihave Hk := (Transfers.pointsTo_toks_join fullShare 32) $$ [Kd Kt]
  · isplitl [Kd]; · iexact Kd
    iexact Kt
  ihave Hl := (Transfers.pointsTo_toks_join fullShare 32) $$ [Ld Lt]
  · isplitl [Ld]; · iexact Ld
    iexact Lt
  isplitl [Hk]; · iexact Hk
  isplitl [Ho]; · iexact Ho
  iexact Hl

theorem st0_eq (d : Dev nD) : (bigSep Finset.univ fun c : Fin ((K (F := F)).nCore 0) => (PM m a).st 0 d c)
    = bigSep Finset.univ fun c : Fin 2 => bigSep Finset.univ fun i : Fin 16 => GT d (wOf c i) (keyV m a d) (lstV m a d) (outV m a d) :=
  bigSep_congr fun _ _ => rfl

theorem dn0_eq (d : Dev nD) : (bigSep Finset.univ fun c : Fin ((K (F := F)).nCore 0) => (PM m a).dn 0 d c)
    = bigSep Finset.univ fun c : Fin 2 => bigSep Finset.univ fun i : Fin 16 => GT d (wOf c i) (keyV m a d) (lstV m a d) (Gk (keyV m a d) (lstV m a d)) :=
  bigSep_congr fun _ _ => rfl

end Cert.Proof.Cache

end
-- ==== Proof.Main.lean ====
/-
The run of the whole program: the launch's ghost state, the TensorCore's program through the region, the host lines and
the SparseCore call, and what the memory holds at the end.
-/
module

public import proofs.«01_k».proof.Proof.Launch

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.TcCoe
open Idealize.ShloMosaic.StableHlo (held)

variable [∀ e, Nonempty (Elt F e)]
variable (m : (ℓ : Loc nD τ sig) → Buf (Elt F) ℓ) (a : (pcfg0 (F := F)).Adm)

/-- The launch's ghost state: the handshakes' rounds and the region's windows'. -/
def u₀ : UU := (initOf (K (F := F)).hsCells (K (F := F)).hsToks,
  (initOf (Pipeline.cells (Pipeline.pin (pcfgs (F := F)) (adm a)) (Gen.cellOf_inj (adm a)))
    (Pipeline.launchToks (Pipeline.pin (pcfgs (F := F)) (adm a)) (Gen.cellOf_inj (adm a))), 1))

theorem bigSep_emp' {I : Type} (s : Finset I) : (bigSep s fun _ => iprop(emp)) = (iprop(emp) : sProp 𝕄) := bigSep_emp_const s

/-- It funds the handshakes and the region. -/
theorem hu₀ : (ownU (u₀ a) : sProp 𝕄)
    ⊢ |={Set.univ}=> iprop(BI.own (EH (initOf (K (F := F)).hsCells (K (F := F)).hsToks)) ∗ (bigSep Finset.univ fun c : Dev nD => vghost a c)
        ∗ bigSep Finset.univ fun thr : Thread nD τ => bigSep Finset.univ fun q : Fin 1 => (PM m a).x q thr) := by
  have e1 (Φ : Dev nD → Fin 1 → sProp 𝕄) : (bigSep Finset.univ fun c : Dev nD => bigSep Finset.univ fun p => Φ c p) = bigSep Finset.univ fun c : Dev nD => Φ c 0 :=
    bigSep_congr fun c _ => bigSep_univ_of_subsingleton (0 : Fin 1)
  have ex : (bigSep Finset.univ fun thr : Thread nD τ => bigSep Finset.univ fun q : Fin 1 => (PM m a).x q thr) = (iprop(emp) : sProp 𝕄) := by
    rw [show (bigSep Finset.univ fun thr : Thread nD τ => bigSep Finset.univ fun q : Fin 1 => (PM m a).x q thr) = bigSep Finset.univ fun _ => iprop(emp) from
      bigSep_congr fun _ _ => bigSep_univ_of_subsingleton (0 : Fin 1), bigSep_emp']
  rw [ex]
  unfold u₀
  iintro Hu
  ihave H := (ownU_pair (initOf (K (F := F)).hsCells (K (F := F)).hsToks) _) $$ Hu
  icases H with ⟨HH, HR⟩
  ihave HR' := (own_pair_emb embR _ (1 : Counters)) $$ HR
  icases HR' with ⟨HP, -⟩
  imod (Pipeline.fund_ghost (Pipeline.pin (pcfgs (F := F)) (adm a)) EP (Gen.cellOf_inj (adm a))) $$ HP with HG
  icases HG with ⟨Hg, Ht⟩
  ihave Hg := (Entails.of_eq (e1 _)) $$ Hg
  ihave Ht := (Entails.of_eq (e1 _)) $$ Ht
  imodintro
  isplitl [HH]; · iexact HH
  isplitl [Hg Ht]
  · unfold vghost
    rw [bigSep_sep']
    isplitl [Hg]; · iexact Hg
    iexact Ht
  iempintro

/-- The table the region is pinned at is the one in memory. -/
theorem pref_eq (d : Dev nD) (ha : a.1 0 = m ((SparseCore.T d).loc main_arg4)) :
    (Pipeline.prefHeld pre0 d (fun _ => fullShare) a.1 : sProp 𝕄) = ((SparseCore.T d).loc main_arg4 ↦{fullShare} V0 m d (dr main_arg4)) := by
  unfold Pipeline.prefHeld
  rw [bigSep_univ_of_subsingleton (0 : Fin 1), ha]
  rfl

/-- The region's state with its table read as the memory's. -/
theorem vst_eq (d : Dev nD) (ha : a.1 0 = m ((SparseCore.T d).loc main_arg4)) (y : (c : Dev nD) → Buf (Elt F) ((c : Thread nD τ).loc main_v0)) :
    (vst a (xM m) d y : sProp 𝕄) = iprop(((SparseCore.T d).loc main_arg1 ↦{fullShare} V0 m d (dr main_arg1)) ∗ ((SparseCore.T d).loc main_v0 ↦{fullShare} y d)
      ∗ ((SparseCore.T d).loc main_arg4 ↦{fullShare} V0 m d (dr main_arg4))
      ∗ ∃ W, ⌜(K (F := F)).WBelow (T d) W (8 * (inferInstance : SparseCore.Cfg.Blocks 1 1).fst 0)⌝ ∗ owes (T d) ((K (F := F)).Otc d 0) W) := by
  unfold vst
  rw [pref_eq m a d ha]
  rfl

variable (ρ : Dev nD → PrngReg)

/-- The program on device `d`'s TensorCore, from the launch's resources to its end. -/
theorem hmain (hlt : ∀ d x, (lstV m a d x).toNat < 32768) (hinj : ∀ d, Function.Injective fun x => (lstV m a d x).toNat)
    (ha : ∀ d : Dev nD, a.1 0 = m ((SparseCore.T d).loc main_arg4)) (κ : GSem nD τ sig → ℕ) (d : Dev nD) :
    iprop((K (F := F)).ctx EH (PM m a) κ ∗ (K (F := F)).tcSt EH d 0 ∗ (K (F := F)).tcRes m ρ d ∗ vghost a d)
      ⊢ wp frame (wpE ((K (F := F)).defs (D (F := F))) 𝒱 (SparseCore.T d) none) Set.univ (main d)
          fun _ => iprop((K (F := F)).tcSt EH d 1 ∗ FIN m a d ∗ (K (F := F)).tcEnd d) := by
  unfold SparseCore.Cfg.tcRes SparseCore.Cfg.tcEnd
  rw [show (unscopedBufs d (fun b => m ((SparseCore.T d).loc b)) : sProp 𝕄) = held (SparseCore.T d) (Pipeline.ucRefs τ sig) (V0 m d)
      from Pipeline.unscopedBufs_held d (V0 m d), main_eq, wp_bind]
  have hopen : ((K (F := F)).tcSt EH d 0 : sProp 𝕄) ⊢ iprop((∃ W, ⌜(K (F := F)).WBelow (T d) W (8 * (inferInstance : SparseCore.Cfg.Blocks 1 1).fst 0)⌝ ∗ owes (T d) ((K (F := F)).Otc d 0) W)
      ∗ ((∃ W, ⌜(K (F := F)).WBelow (T d) W (8 * (inferInstance : SparseCore.Cfg.Blocks 1 1).fst 0)⌝ ∗ owes (T d) ((K (F := F)).Otc d 0) W) -∗ (K (F := F)).tcSt EH d 0)) := by
    unfold SparseCore.Cfg.tcSt
    iintro ⟨H, HR⟩
    isplitl [H]; · iexact H
    iintro H
    isplitl [H]; · iexact H
    iexact HR
  iintro ⟨#Hctx, Hst, ⟨Hb, Hh, Hts, -⟩, HG⟩
  ihave Hst' := hopen $$ Hst
  icases Hst' with ⟨HO, Hcl⟩
  ihave Hlv := (SparseCore.Cfg.ctx_levAts κ) $$ Hctx
  ihave Hh := (Entails.of_eq (held3 d main_arg1 main_v0 main_arg4 rfl rfl rfl (by decide) (by decide) (by decide) (V0 m d))) $$ Hh
  icases Hh with ⟨Hx, Hy, Ht, Hrest⟩
  iapply (vcall a (xM m) (yM m) d)
  isplitr [Hb HO Hx Hy Ht HG Hlv]
  · iintro ⟨Hb, HV⟩
    ihave HV := (Entails.of_eq (vst_eq m a d (ha d) _)) $$ HV
    icases HV with ⟨Hx, Hy, Ht, HO⟩
    ihave Hst := Hcl $$ HO
    ihave Hh := (Entails.of_eq (held3_new d main_arg1 main_v0 main_arg4 rfl rfl rfl (by decide) (by decide) (by decide) (V0 m d) (vnew a (xM m) (yM m) d)).symm) $$ [Hx Hy Ht Hrest]
    · isplitl [Hx]; · iexact Hx
      isplitl [Hy]; · iexact Hy
      isplitl [Ht]; · iexact Ht
      iexact Hrest
    iapply (StableHlo.wp_seq 𝒱 none Set.univ d (Pipeline.ucRefs τ sig) _ opsA opsA_sub opsA_fresh (V1 m a d)) $$ [Hb Hh]
    · isplitl [Hb]; · iexact Hb
      iexact Hh
    iintro ⟨Hb, Hh⟩
    ihave Hh := (Entails.of_eq (show (held (d.tc : Thread nD τ) (Pipeline.ucRefs τ sig) (StableHlo.after opsA (V1 m a d)) : sProp 𝕄)
      = held (SparseCore.T d) (Pipeline.ucRefs τ sig) (V2 m a d) from rfl)) $$ Hh
    ihave Hh' := (Entails.of_eq (held3 d main_v10 main_v11 main_v9 rfl rfl rfl (by decide) (by decide) (by decide) (V2 m a d))) $$ Hh
    icases Hh' with ⟨Hk, Ho, Hl, Hrest⟩
    ihave Hd := (deal d (keyV m a d) (lstV m a d) (outV m a d) (hlt d) (hinj d)) $$ [Hk Ho Hl]
    · isplitl [Hk]; · iexact Hk
      isplitl [Ho]; · iexact Ho
      iexact Hl
    icases Hd with ⟨Hd, Kd, Ld⟩
    rw [wp_bind]
    iapply ((K (F := F)).wp_run (D (F := F)) 𝒱 (EH := EH) (P := PM m a) κ d 0)
    isplitr; · iexact Hctx
    isplitl [Hst]; · iexact Hst
    isplitl [Hd]
    · rw [st0_eq]; iexact Hd
    iintro ⟨Hst, Hdn⟩
    ihave Hdn := (Entails.of_eq (dn0_eq m a d)) $$ Hdn
    ihave Hc := (collect d (keyV m a d) (lstV m a d) (Gk (keyV m a d) (lstV m a d)) (hlt d) (hinj d)) $$ [Hdn Kd Ld]
    · isplitl [Hdn]; · iexact Hdn
      isplitl [Kd]; · iexact Kd
      iexact Ld
    icases Hc with ⟨Hk, Ho, Hl⟩
    ihave Hh := (Entails.of_eq (held3_new d main_v10 main_v11 main_v9 rfl rfl rfl (by decide) (by decide) (by decide) (V2 m a d) (Gk (keyV m a d) (lstV m a d))).symm) $$ [Hk Ho Hl Hrest]
    · isplitl [Hk]; · iexact Hk
      isplitl [Ho]; · iexact Ho
      isplitl [Hl]; · iexact Hl
      iexact Hrest
    iapply (StableHlo.wp_seq 𝒱 none Set.univ d (Pipeline.ucRefs τ sig) _ opsB opsB_sub opsB_fresh (V3 m a d)) $$ [Hb Hh]
    · isplitl [Hb]; · iexact Hb
      iexact Hh
    iintro ⟨Hb, Hh⟩
    rw [wp_pure]
    imodintro
    isplitl [Hst]; · iexact Hst
    isplitl [Hh]
    · unfold FIN; iexact Hh
    isplitl [Hb]; · iexact Hb
    iexact Hts
  isplitl [Hb]; · iexact Hb
  isplitl [HO Hx Hy Ht]
  · rw [vst_eq m a d (ha d)]
    isplitl [Hx]; · iexact Hx
    isplitl [Hy]; · iexact Hy
    isplitl [Ht]; · iexact Ht
    iexact HO
  isplitl [Hlv]; · iexact Hlv
  iexact HG

/-- Every unscoped buffer of the TensorCore at its contents at the end. -/
def fq (d : Dev nD) (s' : Phys nD τ sig (Elt F)) : Prop := ∀ b ∈ Pipeline.ucRefs τ sig, s'.mem.mem (d, b) = V4 m a d b

theorem hfin (d : Dev nD) (s' : Phys nD τ sig (Elt F)) : iprop(FIN m a d ∗ Idealize.ShloMosaic.SI s') ⊢ (⌜fq m a d s'⌝ : sProp 𝕄) := by
  have h : ∀ b ∈ Pipeline.ucRefs τ sig, iprop(FIN m a d ∗ Idealize.ShloMosaic.SI s') ⊢ (⌜s'.mem.mem (d, b) = V4 m a d b⌝ : sProp 𝕄) := by
    intro b hb
    unfold FIN held
    iintro ⟨Hh, HSI⟩
    ihave Hb := (show (bigSep (Pipeline.ucRefs τ sig) fun b => (((SparseCore.T d).1, b) ↦{fullShare} V4 m a d b)) ⊢ (((SparseCore.T d).1, b) ↦{fullShare} V4 m a d b : sProp 𝕄) from bigSep_elim hb) $$ Hh
    ihave H := (SI_pointsTo_agree (st := s') (ℓ := ((SparseCore.T d).1, b)) (I := Finset.univ) (q := fullShare) (f := V4 m a d b)) $$ [HSI Hb]
    · isplitl [HSI] <;> iassumption
    icases H with %h
    ipureintro
    exact funext fun i => h i (Finset.mem_univ i)
  exact fun w hw b hb => h b hb w hw

def QC : PUnit × MemSt nD τ sig (Elt F) → Prop := fun r =>
  (∀ (d : Dev nD), ∀ b ∈ Pipeline.ucRefs τ sig, r.2.mem (d, b) = V4 m a d b) ∧ r.2.sem = fun _ => 0

/-- The run of the program. -/
theorem run_main (hlt : ∀ d x, (lstV m a d x).toNat < 32768) (hinj : ∀ d, Function.Injective fun x => (lstV m a d x).toNat)
    (ha : ∀ d : Dev nD, a.1 0 = m ((SparseCore.T d).loc main_arg4)) :
    θ_run (Cert.KernelIdeal.defs (F := F)) (Cert.KernelIdeal.threads (F := F)) ⟨m, fun _ => 0, ρ⟩ (QC m a) :=
  SparseCore.Cfg.θ_run_sc_quiescent (K := K (F := F)) (D := D (F := F)) (𝒱 := 𝒱) (EH := EH) (P := PM m a) (A := ∅) facts v₀
    (fun q hq => match q with | 0 => nomatch hq)
    (fun q _ => match q with | 0 => tileObl facts hlt hinj)
    (fun q _ => match q with | 0 => SparseCore.Cfg.VecSplit.of_plain vecSplit)
    m ρ main (fun c => vghost a c) (FIN m a) (u₀ a) (sep_elim_left.trans (hu₀ m a)) (hmain m a ρ hlt hinj ha) (fq m a) (hfin m a) (QC m a) (fun _ h hz => ⟨h, hz⟩)

end Cert.Proof.Cache

end
-- ==== Proof.Pre.lean ====
/-
  What the precondition says of the slots: in range, distinct, each token's place in its block of 128 kept,
  the tokens of one block staying in one block; and that the two caches are zero.
-/
module

public import proofs.«01_k».proof.Proof.Geom
public import proofs.«01_k».proof.Pre_slots_ok
public import Idealize.ShloMosaic.Lib.ValueIdxCore

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The side conditions the printed precondition states. -/
instance preFacts : Cert.Pre_slots_ok.Facts where
  bcast_S4096_S4096x1_0 := by decide
  bcast_S4096x1_S4096x4096_0_1 := by decide
  bcast_S4096_S1x4096_1 := by decide
  bcast_S1x4096_S4096x4096_0_1 := by decide
  bcast_S_S4096x4096 := by decide
  shapeCasts_S1024x16x16x128_S2x4096x4096 := by decide
  bcast_S_S2x4096x4096 := by decide
  bcast_S4096x4096_S1x4096x4096_1_2 := by decide
  bcast_S1x4096x4096_S2x4096x4096_0_1_2 := by decide

/-- Token `t` as an index of the list of slots. -/
def tix (t : ℕ) (h : t < 4096) : S4096.Idx := fun a => match a with | 0 => ⟨t, h⟩

theorem idx1_ext {n : Fin 1 → ℕ} {x y : (⟨1, n⟩ : Shape).Idx} (h0 : (x 0).val = (y 0).val) : x = y := by
  funext a
  match a with
  | 0 => exact Fin.ext h0

/-- What the launch needs of the list of slots. -/
structure SlotsOk (sm : IVec S4096 32) : Prop where
  lt : ∀ t, (sm t).toNat < 4096
  inj : ∀ t u, (sm t).toNat = (sm u).toNat → t = u
  mod : ∀ t : S4096.Idx, (sm t).toNat % 128 = (t 0).val % 128
  blk : ∀ t u : S4096.Idx, (t 0).val / 128 = (u 0).val / 128 → (sm t).toNat / 128 = (sm u).toNat / 128

theorem and1 (a b : BitVec 1) : (IntOp.andi a b = 1#1) ↔ a = 1#1 ∧ b = 1#1 := by
  revert a b; decide

theorem or1 (a b : BitVec 1) : (IntOp.ori a b = 1#1) ↔ a = 1#1 ∨ b = 1#1 := by
  revert a b; decide

theorem ofBool1 (p : Bool) : (BitVec.ofBool p = 1#1) ↔ p = true := by cases p <;> decide

/-- The printed condition on two tokens, read as facts on numbers. -/
theorem pair_facts (s r : BitVec 32) (t u : ℕ) (ht : t < 4096) (hu : u < 4096)
    (h : IntOp.andi (IntOp.andi (IntOp.andi (IntOp.andi (IntOp.cmpi .sge s 0#32) (IntOp.cmpi .slt s 4096#32))
        (IntOp.ori (IntOp.cmpi .ne s r) (IntOp.cmpi .eq (BitVec.ofNat 32 t) (BitVec.ofNat 32 u))))
        (IntOp.cmpi .eq (IntOp.andi s 127#32) (IntOp.andi (BitVec.ofNat 32 t) 127#32)))
        (IntOp.ori (IntOp.cmpi .eq (IntOp.shrui .host s 7#32) (IntOp.shrui .host r 7#32))
          (IntOp.cmpi .ne (IntOp.shrui .host (BitVec.ofNat 32 t) 7#32) (IntOp.shrui .host (BitVec.ofNat 32 u) 7#32))) = 1#1) :
    s.toNat < 4096 ∧ (s.toNat = r.toNat → t = u) ∧ s.toNat % 128 = t % 128 ∧ (t / 128 = u / 128 → s.toNat / 128 = r.toNat / 128) := by
  simp only [and1, or1] at h
  simp only [IntOp.cmpi, ofBool1, decide_eq_true_eq, BitVec.sle_eq_decide, BitVec.slt_eq_decide, BitVec.toInt_eq_toNat_cond,
    IntOp.andi, IntOp.shrui, BitVec.toNat_ofNat, bne_iff_ne, beq_iff_eq, ne_eq] at h
  obtain ⟨⟨⟨⟨h1, h2⟩, h3⟩, h4⟩, h5⟩ := h
  norm_num at h5
  have e4 := congrArg BitVec.toNat h4
  simp only [BitVec.toNat_and, BitVec.toNat_ofNat] at e4
  rw [show (127 % 2 ^ 32 : ℕ) = 2 ^ 7 - 1 from rfl, Nat.and_two_pow_sub_one_eq_mod, Nat.and_two_pow_sub_one_eq_mod] at e4
  rw [Nat.mod_eq_of_lt (show t < 2 ^ 32 by omega)] at e4
  refine ⟨?_, ?_, by omega, ?_⟩
  · norm_num at h1 h2
    have := s.isLt
    split at h1 <;> split at h2 <;> omega
  · intro e
    rcases h3 with h3 | h3
    · exact absurd (BitVec.eq_of_toNat_eq e) h3
    · have := congrArg BitVec.toNat h3
      simp only [BitVec.toNat_ofNat] at this
      omega
  · intro e
    rcases h5 with h5 | h5
    · have := congrArg BitVec.toNat h5
      simp only [BitVec.toNat_ushiftRight, BitVec.toNat_ofNat, Nat.shiftRight_eq_div_pow] at this
      simpa using this
    · exfalso
      apply h5
      apply BitVec.eq_of_toNat_eq
      simp only [BitVec.toNat_ushiftRight, BitVec.toNat_ofNat, Nat.shiftRight_eq_div_pow]
      rw [Nat.mod_eq_of_lt (show t < 2 ^ 32 by omega), Nat.mod_eq_of_lt (show u < 2 ^ 32 by omega)]
      simpa using e

/-- An entry of the printed condition: layer `l`, tokens `t` and `u`. -/
def pix (l t u : ℕ) (hl : l < 2) (ht : t < 4096) (hu : u < 4096) : Cert.Pre_slots_ok.S2x4096x4096.Idx :=
  fun a => match a with | 0 => ⟨l, hl⟩ | 1 => ⟨t, ht⟩ | 2 => ⟨u, hu⟩

theorem slots_of_pre (k v : FVec F S4096x16x128 .f32) (kc vc : FVec F S1024x16x16x128 .f32) (sm : IVec S4096 32) (p q : FVec F S1 .f32)
    (h : Cert.Pre_slots_ok.fn (F := F) k v kc vc sm p q = fun _ => 1#1) : SlotsOk sm := by
  have key : ∀ (t u : S4096.Idx), (sm t).toNat < 4096 ∧ ((sm t).toNat = (sm u).toNat → (t 0).val = (u 0).val) ∧ (sm t).toNat % 128 = (t 0).val % 128 ∧ ((t 0).val / 128 = (u 0).val / 128 → (sm t).toNat / 128 = (sm u).toNat / 128) := by
    intro t u
    have e := congrFun h (pix 0 (t 0).val (u 0).val (by decide) (t 0).isLt (u 0).isLt)
    simp only [Cert.Pre_slots_ok.fn, Cert.Pre_slots_ok.fn_part1, Cert.Pre_slots_ok.fn_part2] at e
    have e1 := ((and1 _ _).mp e).1
    simp only [andi, ori, cmpi, Host.shrui, iotaInDim, constantI, broadcastInDim] at e1
    have f := pair_facts _ _ (t 0).val (u 0).val (t 0).isLt (u 0).isLt e1
    rw [show t = tix (t 0).val (t 0).isLt from idx1_ext rfl, show u = tix (u 0).val (u 0).isLt from idx1_ext rfl]
    refine Eq.mp ?_ f
    congr 1
    · congr 3
      exact idx1_ext rfl
    · congr 1
      · congr 1
        congr 1 <;> (congr 2; exact idx1_ext rfl)
      · congr 1
        · congr 4; exact idx1_ext rfl
        · congr 1
          congr 1 <;> (congr 3; exact idx1_ext rfl)
  exact ⟨fun t => (key t t).1, fun t u e => idx1_ext ((key t u).2.1 e), fun t => (key t t).2.2.1, fun t u => (key t u).2.2.2⟩

end Cert.Proof.Cache

end
-- ==== Proof.TcIndex.lean ====
/-
  The blocks the TensorCore's kernel writes: below grid point ninety-six the zero blocks 32 .. 127, from there on
  the block the list of slots names. They lie inside the result whatever admitted list is given.
-/
module

public import proofs.«01_k».proof.Proof.Pre
public import proofs.«01_k».proof.Proof.Region

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Token `t` of the list, for any number `t`. -/
def tixm (t : ℕ) : S4096.Idx := fun a => match a with | 0 => ⟨t % 4096, Nat.mod_lt _ (by decide)⟩

/-- The result's block at grid point `n`. -/
def blkIx (sm : IVec S4096 32) (n : ℕ) : ℕ := if n < 96 then n + 32 else (sm (tixm (128 * (n - 96)))).toNat / 128

/-- The floor division the index map computes. -/
def fdiv (v6 : BitVec 32) : BitVec 32 :=
  Scalar.select (Scalar.andi (Scalar.cmpi .ne (Scalar.subi (Scalar.extui (Scalar.cmpi .sgt v6 0#32)) (Scalar.extui (Scalar.cmpi .slt v6 0#32)) : BitVec 32)
      (Scalar.subi (Scalar.extui (Scalar.cmpi .sgt 128#32 0#32)) (Scalar.extui (Scalar.cmpi .slt 128#32 0#32)))) (Scalar.cmpi .ne (Scalar.remsi v6 128#32) 0#32))
    (Scalar.subi (Scalar.divsi v6 128#32) 1#32) (Scalar.divsi v6 128#32)

theorem fdiv_eq (v : BitVec 32) (h : v.toNat < 4096) : fdiv v = BitVec.ofNat 32 (v.toNat / 128) := by
  have key : ∀ a b : Fin 64, fdiv (BitVec.ofNat 32 (64 * a.val + b.val)) = BitVec.ofNat 32 ((64 * a.val + b.val) / 128) := by
    decide +kernel
  have := key ⟨v.toNat / 64, by omega⟩ ⟨v.toNat % 64, Nat.mod_lt _ (by decide)⟩
  simp only [Nat.div_add_mod, BitVec.ofNat_toNat, BitVec.setWidth_eq] at this
  exact this

/-- The row of the list the index map reads. -/
theorem off1_eq (i : grid0.Coords) : k0_off1 i = ![128 * ((i 0).val - 96)] := by
  have h : ∀ n : Fin 128, (Scalar.indexCast (Scalar.muli (Scalar.maxsi (Scalar.subi (BitVec.ofNat 32 n.val) 96#32) 0#32) 128#32) : Index).toNat = 128 * (n.val - 96) := by
    decide +kernel
  exact congrArg (fun z : ℕ => ![z]) (h (i 0))

theorem sel_eq (n : Fin 128) (w : ℕ) (hw : w < 4096) :
    (Scalar.select (Scalar.cmpi .slt (BitVec.ofNat 32 n.val) 96#32) (Scalar.addi (BitVec.ofNat 32 n.val) 32#32) (BitVec.ofNat 32 w)).toNat = if n.val < 96 then n.val + 32 else w := by
  have h1 : ∀ n : Fin 128, (Scalar.cmpi .slt (BitVec.ofNat 32 n.val) 96#32) = if n.val < 96 then 1#1 else 0#1 := by decide +kernel
  have h2 : ∀ n : Fin 128, (Scalar.addi (BitVec.ofNat 32 n.val) 32#32).toNat = n.val + 32 := by decide +kernel
  rw [h1]
  by_cases hn : n.val < 96
  · rw [if_pos hn, if_pos hn, ← h2]; rfl
  · rw [if_neg hn, if_neg hn]
    show (BitVec.ofNat 32 w).toNat = w
    rw [BitVec.toNat_ofNat, Nat.mod_eq_of_lt (by omega)]

/-- The table as the list of slots it is. -/
def tab (pf : pre0.Contents (Elt F)) : IVec S4096 32 := pf 0

/-- The element the index map reads. -/
theorem at_eq (pf : pre0.Contents (Elt F)) (i : grid0.Coords) :
    pf.at 0 (Rect.unit (s := S4096) (k0_off1 i) S1.size (k0_off1_inb i)) numel1_S1 = tab pf (tixm (128 * ((i 0).val - 96))) := by
  have hi : (i 0).val < 128 := (i 0).isLt
  refine congrArg (tab pf) (idx1_ext ?_)
  have e : k0_off1 i 0 = 128 * ((i 0).val - 96) := congrFun (off1_eq i) 0
  show k0_off1 i 0 + 1 * 0 = (128 * ((i 0).val - 96)) % 4096
  omega

theorem tr1_eq (pf : pre0.Contents (Elt F)) (i : grid0.Coords) (h : ∀ t, (tab pf t).toNat < 4096) :
    cc0_transform_1 k0_off1_inb numel1_S1 pf i = ![blkIx (tab pf) (i 0).val, 0, 0] := by
  have e : cc0_transform_1 k0_off1_inb numel1_S1 pf i = ![(Scalar.select (Scalar.cmpi .slt (BitVec.ofNat 32 (i 0).val) 96#32) (Scalar.addi (BitVec.ofNat 32 (i 0).val) 32#32)
      (fdiv (pf.at 0 (Rect.unit (s := S4096) (k0_off1 i) S1.size (k0_off1_inb i)) numel1_S1))).toNat, 0, 0] := rfl
  rw [e, at_eq, fdiv_eq _ (h _)]
  have := sel_eq (i 0) ((tab pf (tixm (128 * ((i 0).val - 96)))).toNat / 128) (by have := h (tixm (128 * ((i 0).val - 96))); omega)
  rw [this]
  rfl

theorem tr0_eq (i : grid0.Coords) : cc0_transform_0 i = ![(i 0).val - 96, 0, 0] := by
  have h : ∀ n : Fin 128, (Scalar.maxsi (Scalar.subi (BitVec.ofNat 32 n.val) 96#32) 0#32).toNat = n.val - 96 := by
    decide +kernel
  exact congrArg (fun z : ℕ => ![z, 0, 0]) (h (i 0))

theorem blkIx_lt (sm : IVec S4096 32) (h : ∀ t, (sm t).toNat < 4096) (n : ℕ) (hn : n < 128) : blkIx sm n < 128 := by
  unfold blkIx
  have := h (tixm (128 * (n - 96)))
  split <;> omega

/-- A list in range is admitted by the region. -/
theorem ok_of_lt (pf : pre0.Contents (Elt F)) (h : ∀ t, (tab pf t).toNat < 4096) : ok0 pf := by
  intro i
  have hb := blkIx_lt (tab pf) h (i 0).val (i 0).isLt
  refine ⟨fun ax => ?_, .inl rfl⟩
  rw [tr1_eq pf i h]
  match ax with
  | 0 => show (blkIx (tab pf) (i 0).val + 1) * 128 ≤ 16384; omega
  | 1 => exact le_refl _
  | 2 => exact le_refl _

/-- The region's table out of a list in range. -/
def admOf (sm : IVec S4096 32) (h : ∀ t, (sm t).toNat < 4096) : (pcfg0 (F := F)).Adm :=
  ⟨fun q => match q with | ⟨0, _⟩ => sm, ok_of_lt _ h⟩

end Cert.Proof.Cache

end
-- ==== Proof.Vals.lean ====
/-
  The buffers' contents of the run, read: the arguments are never written, the list the SparseCore call is given
  names row `8 s + r` for entry `r` of slot `s`, and its entries are in range and distinct.
-/
module

public import proofs.«01_k».proof.Proof.Main
public import proofs.«01_k».proof.Proof.TcIndex
public import Idealize.ShloMosaic.Lib.StableHlo.RunRead
public import Idealize.ShloMosaic.Lib.Pipeline.Value

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.TcCoe

/-- The list the SparseCore call is given, out of the list of slots. -/
def listOf (sm : IVec S4096 32) : IVec S256x128 32 :=
  shapeCast S256x128 (addi (broadcastInDim S4096x8 ![0, 1] bcast_S4096x1_S4096x8_0_1
      (muli (broadcastInDim S4096x1 ![0] bcast_S4096_S4096x1_0 sm) (broadcastInDim S4096x1 ![] bcast_S_S4096x1 (constantI S_ 32 8#32))))
    (broadcastInDim S4096x8 ![0, 1] bcast_S1x8_S4096x8_0_1 (broadcastInDim S1x8 ![1] bcast_S8_S1x8_1 (iotaInDim S8 32 0)))) shapeCasts_S4096x8_S256x128

/-- Row `t`, entry `r` of the table of rows. -/
def ix8 (t r : ℕ) (ht : t < 4096) (hr : r < 8) : S4096x8.Idx := fun a => match a with | 0 => ⟨t, ht⟩ | 1 => ⟨r, hr⟩

theorem listOf_apply (sm : IVec S4096 32) (x : S256x128.Idx) :
    listOf sm x = sm (tixm ((128 * (x 0).val + (x 1).val) / 8)) * 8#32 + BitVec.ofNat 32 ((128 * (x 0).val + (x 1).val) % 8) := by
  have h0 : (x 0).val < 256 := (x 0).isLt
  have h1 : (x 1).val < 128 := (x 1).isLt
  unfold listOf
  rw [shapeCast_apply _ _ x (ix8 ((128 * (x 0).val + (x 1).val) / 8) ((128 * (x 0).val + (x 1).val) % 8) (by omega) (Nat.mod_lt _ (by decide)))
    (by
      rw [Shape.rowMajor_val_two, Shape.rowMajor_val_two]
      show (128 * (x 0).val + (x 1).val) / 8 * 8 + (128 * (x 0).val + (x 1).val) % 8 = (x 0).val * 128 + (x 1).val
      omega)]
  have e : tixm ((128 * (x 0).val + (x 1).val) / 8) = tix ((128 * (x 0).val + (x 1).val) / 8) (by omega) :=
    idx1_ext (Nat.mod_eq_of_lt (by omega))
  rw [e]
  show sm _ * 8#32 + BitVec.ofNat 32 _ = _
  congr 2
  exact congrArg sm (idx1_ext rfl)

theorem listOf_toNat (sm : IVec S4096 32) (h : ∀ t, (sm t).toNat < 4096) (x : S256x128.Idx) :
    (listOf sm x).toNat = (sm (tixm ((128 * (x 0).val + (x 1).val) / 8))).toNat * 8 + (128 * (x 0).val + (x 1).val) % 8 := by
  have := h (tixm ((128 * (x 0).val + (x 1).val) / 8))
  rw [listOf_apply, BitVec.toNat_add, BitVec.toNat_mul, BitVec.toNat_ofNat, BitVec.toNat_ofNat]
  omega

theorem listOf_lt (sm : IVec S4096 32) (h : ∀ t, (sm t).toNat < 4096) (x : S256x128.Idx) : (listOf sm x).toNat < 32768 := by
  have := h (tixm ((128 * (x 0).val + (x 1).val) / 8))
  rw [listOf_toNat sm h]
  omega

theorem listOf_inj (sm : IVec S4096 32) (h : SlotsOk sm) : Function.Injective fun x => (listOf sm x).toNat := by
  intro x y e
  have x0 : (x 0).val < 256 := (x 0).isLt
  have x1 : (x 1).val < 128 := (x 1).isLt
  have y0 : (y 0).val < 256 := (y 0).isLt
  have y1 : (y 1).val < 128 := (y 1).isLt
  have e' : (listOf sm x).toNat = (listOf sm y).toNat := e
  rw [listOf_toNat sm h.lt, listOf_toNat sm h.lt] at e'
  have es := h.inj _ _ (show (sm (tixm ((128 * (x 0).val + (x 1).val) / 8))).toNat = (sm (tixm ((128 * (y 0).val + (y 1).val) / 8))).toNat by omega)
  have e0 : (128 * (x 0).val + (x 1).val) / 8 % 4096 = (128 * (y 0).val + (y 1).val) / 8 % 4096 := congrArg (fun t : S4096.Idx => (t 0).val) es
  refine idx2_ext ?_ ?_ <;> omega

variable [∀ e, Nonempty (Elt F e)]
variable (m : (ℓ : Loc nD τ sig) → Buf (Elt F) ℓ) (a : (pcfg0 (F := F)).Adm)

theorem lstV_eq (d : Dev nD) : lstV m a d = listOf (m ((SparseCore.T d).loc main_arg4)) := by
  show StableHlo.after opsA (V1 m a d) (Proc.devRef .tc main_v9) = _
  unfold opsA
  after_results_simp
  unfold V1
  rw [Function.update_of_ne (by decide)]
  rfl

theorem keyV_eq (d : Dev nD) : keyV m a d = shapeCast S32768x2x128 (m ((SparseCore.T d).loc main_arg0)) shapeCasts_S4096x16x128_S32768x2x128 := by
  show StableHlo.after opsA (V1 m a d) (Proc.devRef .tc main_v10) = _
  unfold opsA
  after_results_simp
  unfold V1
  rw [Function.update_of_ne (by decide)]
  rfl

theorem V4_arg (d : Dev nD) (r : Ref sig .tc)
    (h : r ∉ [main_v12, main_v13, main_v11, main_v1, main_c, main_v2, main_v3, main_v4, main_v5, main_v6, main_v7, main_v8, main_v9, main_v10, main_v0]) :
    V4 m a d (dr r) = m ((SparseCore.T d).loc r) := by
  simp only [List.mem_cons, List.not_mem_nil, or_false, not_or] at h
  have ne {p q : Ref sig .tc} (h : p ≠ q) : dr p ≠ dr q := fun e => h (Proc.devRef_injective _ e)
  unfold V4
  rw [StableHlo.after_unwritten [main_v12, main_v13] rfl (by simp [h])]
  unfold V3
  rw [Function.update_of_ne (ne h.2.2.1)]
  unfold V2
  rw [StableHlo.after_unwritten [main_v1, main_c, main_v2, main_v3, main_v4, main_v5, main_v6, main_v7, main_v8, main_v9, main_v10] rfl (by simp [h])]
  unfold V1
  rw [Function.update_of_ne (ne h.2.2.2.2.2.2.2.2.2.2.2.2.2.2)]
  rfl

theorem V4_v12 (d : Dev nD) : V4 m a d (dr main_v12) = shapeCast S1024x16x16x128 (Gk (keyV m a d) (lstV m a d)) shapeCasts_S131072x2x128_S1024x16x16x128 := by
  show StableHlo.after opsB (V3 m a d) (Proc.devRef .tc main_v12) = _
  unfold opsB
  after_results_simp
  unfold V3
  rw [Function.update_self]
  rfl

theorem V4_v13 (d : Dev nD) : V4 m a d (dr main_v13) = shapeCast S1024x16x16x128 (vnew a (xM m) (yM m) d) shapeCasts_S16384x16x128_S1024x16x16x128 := by
  show StableHlo.after opsB (V3 m a d) (Proc.devRef .tc main_v13) = _
  unfold opsB
  after_results_simp
  unfold V3
  rw [Function.update_of_ne (by decide)]
  unfold V2
  rw [StableHlo.after_unwritten [main_v1, main_c, main_v2, main_v3, main_v4, main_v5, main_v6, main_v7, main_v8, main_v9, main_v10] rfl (by decide)]
  unfold V1
  rw [Function.update_self]
  rfl

end Cert.Proof.Cache

end
-- ==== Proof.Frames.lean ====
/-
  The frames: the launch's run under the precondition, its argument arrays unchanged and every semaphore at zero.
-/
module

public import proofs.«01_k».proof.Proof.Vals
public import proofs.«01_k».proof.Defs

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable [∀ e, Nonempty (Elt F e)]
variable (m : (ℓ : Loc nD τ sig) → Buf (Elt F) ℓ)

/-- The list of slots of a launch memory. -/
abbrev smM (d : Dev nD) : IVec S4096 32 := m ((SparseCore.T d).loc main_arg4)

/-- There is one device. -/
theorem dev_eq (d d' : Dev nD) : d = d' := Subsingleton.elim (α := Fin 1) d d'

/-- The region's table: the list of slots in memory. -/
def aM (h : ∀ d, SlotsOk (smM m d)) : (pcfg0 (F := F)).Adm := admOf (smM m 0) (h 0).lt

theorem run_ok (ρ : Dev nD → PrngReg) (h : ∀ d, SlotsOk (smM m d)) :
    θ_run (Cert.KernelIdeal.defs (F := F)) (Cert.KernelIdeal.threads (F := F)) ⟨m, fun _ => 0, ρ⟩ (QC m (aM m h)) :=
  run_main m (aM m h) ρ (fun d x => by rw [lstV_eq]; exact listOf_lt _ (h d).lt x) (fun d => by rw [lstV_eq]; exact listOf_inj _ (h d))
    (fun d => by rw [dev_eq d 0]; rfl)

theorem mem_arg {h : ∀ d, SlotsOk (smM m d)} {r : PUnit × MemSt nD τ sig (Elt F)} (hr : QC m (aM m h) r) (d : Dev nD) (b : Ref sig .tc) (hb : b.isScoped = false)
    (hn : b ∉ [main_v12, main_v13, main_v11, main_v1, main_c, main_v2, main_v3, main_v4, main_v5, main_v6, main_v7, main_v8, main_v9, main_v10, main_v0]) :
    r.2.mem ((SparseCore.T d).loc b) = m ((SparseCore.T d).loc b) :=
  (hr.1 d (dr b) (Pipeline.devRef_mem_ucRefs hb)).trans (V4_arg m (aM m h) d b hn)

theorem frame_args {h : ∀ d, SlotsOk (smM m d)} {r : PUnit × MemSt nD τ sig (Elt F)} (hr : QC m (aM m h) r) :
    (∀ d : Dev nD, r.2.mem ((SparseCore.T d).loc main_arg0) = m ((SparseCore.T d).loc main_arg0)
      ∧ r.2.mem ((SparseCore.T d).loc main_arg1) = m ((SparseCore.T d).loc main_arg1)
      ∧ r.2.mem ((SparseCore.T d).loc main_arg2) = m ((SparseCore.T d).loc main_arg2)
      ∧ r.2.mem ((SparseCore.T d).loc main_arg3) = m ((SparseCore.T d).loc main_arg3)
      ∧ r.2.mem ((SparseCore.T d).loc main_arg4) = m ((SparseCore.T d).loc main_arg4)
      ∧ r.2.mem ((SparseCore.T d).loc main_arg5) = m ((SparseCore.T d).loc main_arg5)
      ∧ r.2.mem ((SparseCore.T d).loc main_arg6) = m ((SparseCore.T d).loc main_arg6)) :=
  fun d => ⟨mem_arg m hr d main_arg0 rfl (by decide), mem_arg m hr d main_arg1 rfl (by decide), mem_arg m hr d main_arg2 rfl (by decide),
    mem_arg m hr d main_arg3 rfl (by decide), mem_arg m hr d main_arg4 rfl (by decide), mem_arg m hr d main_arg5 rfl (by decide), mem_arg m hr d main_arg6 rfl (by decide)⟩

/-- Every word type has a value, as bits. -/
instance neBits : ∀ e, Nonempty (Elt Bits e) := inferInstance
/-- Every word type has a value, at the ideal instance. -/
instance neIdeal : ∀ e, Nonempty (Elt Ideal e) := inferInstance

/-- The idealized kernel's frame. -/
theorem frame_kernelIdeal : Cert.quiescent_KernelIdeal := fun m ρ hpre =>
  (θ_run Cert.KernelIdeal.defs _ _).mono (fun _ h => ⟨frame_args m h, h.2⟩)
    (run_ok m ρ fun d => slots_of_pre _ _ _ _ _ _ _ (hpre d))

end Cert.Proof.Cache

end
-- ==== Proof.FrameBits.lean ====
/-
  The frame at bits, from the one run: the two programs are one text under two names.
-/
module

public import proofs.«01_k».proof.Proof.Frames
public import proofs.«01_k».proof.Proof.Gen.Kernel

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Cert.Kernel.Gen

set_option maxHeartbeats 1000000

/-- The task's program under its two names. -/
theorem task_bits : @Cert.Kernel.cc1__sc_cache_scatter Bits _ _ = @Cert.KernelIdeal.cc1__sc_cache_scatter Bits _ _ := rfl

/-- The bodies' table under its two names. -/
theorem defs0_bits : @Cert.Kernel.defs₀ Bits _ _ = @Cert.KernelIdeal.defs₀ Bits _ _ := by
  funext p l x
  match p, l, x with
  | .tc, 0, (t, s) => rfl
  | .tc, 1, _ => rfl
  | .scScalar _, 0, _ => rfl
  | .scScalar _, 1, _ => rfl
  | .scVector c s, 0, _ => rfl
  | .scVector c s, 1, _ =>
    unfold Cert.Kernel.defs₀ Cert.KernelIdeal.defs₀
    rfl

theorem defs_bits : @Cert.Kernel.defs Bits _ _ = @Cert.KernelIdeal.defs Bits _ _ :=
  congrArg (fun D => (Cert.KernelIdeal.sc (F := Bits)).defs (Pipeline.defs Cert.KernelIdeal.pcfgs D)) defs0_bits

/-- A run of the idealized text at bits is a run of the kernel. -/
theorem run_bits (m : (ℓ : Loc nD τ sig) → Buf (Elt Bits) ℓ) (ρ : Dev nD → PrngReg) (Q : PUnit × MemSt nD τ sig (Elt Bits) → Prop)
    (h : θ_run (Cert.KernelIdeal.defs (F := Bits)) (Cert.KernelIdeal.threads (F := Bits)) ⟨m, fun _ => 0, ρ⟩ Q) :
    θ_run (Cert.Kernel.defs (F := Bits)) (Cert.Kernel.threads (F := Bits)) ⟨m, fun _ => 0, ρ⟩ Q :=
  (congrArg (fun D => θ_run D (Cert.Kernel.threads (F := Bits)) ⟨m, fun _ => 0, ρ⟩ Q) defs_bits).mpr h

theorem pre_bits (m : (ℓ : Loc nD τ sig) → Buf (Elt Bits) ℓ) (h : Cert.Pre_Kernel m) : ∀ d, SlotsOk (smM m d) :=
  fun d => slots_of_pre _ _ _ _ _ _ _ (h d)

/-- The kernel's frame. -/
theorem frame_kernel : Cert.quiescent_Kernel := fun m ρ hpre =>
  run_bits m ρ _ ((θ_run Cert.KernelIdeal.defs _ _).mono (fun _ h => ⟨frame_args (F := Bits) m h, h.2⟩)
    (run_ok (F := Bits) m ρ (pre_bits m hpre)))

end Cert.Proof.Cache

end
-- ==== Proof.Ref.lean ====
/-
  The reference's run: it ends with its arguments unchanged and every semaphore at zero.
-/
module

public import proofs.«01_k».proof.Defs
public import proofs.«01_k».proof.Proof.Gen.ReferenceIdeal
public import proofs.«01_k».proof.Proof.Pre
public import Idealize.ShloMosaic.Lib.Claim
public import Idealize.ShloMosaic.Lib.Quiescent

@[expose] public section

set_option maxRecDepth 20000

noncomputable section

namespace Cert.Proof.Ref

open Idealize.ShloMosaic Idealize.SL.Sem
open Cert.ReferenceIdeal Cert.ReferenceIdeal.Gen

/-- The reference's frame. -/
theorem frame_reference : Cert.quiescent_ReferenceIdeal := by
  intro m g _
  hlo_run
  · exact fun _ => ⟨trivial, trivial, trivial, trivial, trivial, trivial, trivial⟩
  · exact sem_eq_zero_of_no_sems rfl _

end Cert.Proof.Ref

end
-- ==== Proof.TcValue.lean ====
/-
  What the TensorCore region leaves in the new value cache's rows.
-/
module

public import proofs.«01_k».proof.Proof.TcIndex
public import proofs.«01_k».proof.Proof.Pre
public import proofs.«01_k».proof.Proof.Region
public import proofs.«01_k».proof.Proof.Geom
public import Idealize.ShloMosaic.Lib.Pipeline.ValueKit

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.TcCoe
open Idealize.ShloMosaic.Pipeline (Dat Cfg Window BodyObligationLoose)

variable (a : (pcfg0 (F := F)).Adm) (x : (c : Dev nD) → Buf (Elt F) ((c : Thread nD τ).loc main_arg1))
  (y : (c : Dev nD) → Buf (Elt F) ((c : Thread nD τ).loc main_v0))

/-- Index `(t, h, d)` of the values. -/
def vix (t : S4096.Idx) (h : Fin 16) (d : Fin 128) : S4096x16x128.Idx := fun
  | 0 => t 0
  | 1 => h
  | 2 => d

open scoped Classical in
/-- The new value cache's rows: the value of the token whose slot the row is, zero where there is none. -/
def Gv (v : S4096x16x128.Idx → Elt F .f32) (sm : IVec S4096 32) : S16384x16x128.Idx → Elt F .f32 := fun y =>
  if h : ∃ t : S4096.Idx, (sm t).toNat = (y 0).val then v (vix h.choose (y 1) (y 2)) else z0 (F := F)

theorem Gv_row (v : S4096x16x128.Idx → Elt F .f32) {sm : IVec S4096 32} (hs : SlotsOk sm) {t : S4096.Idx} {y : S16384x16x128.Idx}
    (h : (sm t).toNat = (y 0).val) : Gv v sm y = v (vix t (y 1) (y 2)) := by
  have he : ∃ t : S4096.Idx, (sm t).toNat = (y 0).val := ⟨t, h⟩
  unfold Gv
  rw [dif_pos he, hs.inj _ _ (he.choose_spec.trans h.symm)]

theorem Gv_none (v : S4096x16x128.Idx → Elt F .f32) {sm : IVec S4096 32} {y : S16384x16x128.Idx}
    (h : ∀ t, (sm t).toNat ≠ (y 0).val) : Gv v sm y = z0 (F := F) := by
  unfold Gv
  rw [dif_neg fun ⟨t, ht⟩ => h t ht]

theorem coord0 (t : Fin grid0.N) : (grid0.coords t 0).val = t.val := by
  rw [Pipeline.Grid.coords_val t 0 (S := 1) (B := 128) (by decide) rfl]
  have : t.val < 128 := t.isLt
  omega

theorem N_eq : grid0.N = 128 := by decide

theorem widx1 (hs : SlotsOk (tab a.1)) (t : Fin grid0.N) : ((cfg0 a).win 1).index t = ![blkIx (tab a.1) t.val, 0, 0] :=
  (tr1_eq a.1 (grid0.coords t) hs.lt).trans (by rw [coord0])

theorem widx0 (t : Fin grid0.N) : ((cfg0 a).win 0).index t = ![t.val - 96, 0, 0] :=
  (tr0_eq (grid0.coords t)).trans (by rw [coord0])

/-- Different grid points, different blocks of the result. -/
theorem blkIx_inj {sm : IVec S4096 32} (hs : SlotsOk sm) {n k : ℕ} (hn : n < 128) (hk : k < 128) (h : blkIx sm n = blkIx sm k) : n = k := by
  unfold blkIx at h
  have l1 := hs.lt (tixm (128 * (n - 96)))
  have l2 := hs.lt (tixm (128 * (k - 96)))
  by_cases h1 : n < 96 <;> by_cases h2 : k < 96
  · rw [if_pos h1, if_pos h2] at h; omega
  · rw [if_pos h1, if_neg h2] at h; omega
  · rw [if_neg h1, if_pos h2] at h; omega
  · rw [if_neg h1, if_neg h2] at h
    have m1 := hs.mod (tixm (128 * (n - 96)))
    have m2 := hs.mod (tixm (128 * (k - 96)))
    have e1 : ((tixm (128 * (n - 96))) 0).val = 128 * (n - 96) % 4096 := rfl
    have e2 : ((tixm (128 * (k - 96))) 0).val = 128 * (k - 96) % 4096 := rfl
    have e3 := hs.inj (tixm (128 * (n - 96))) (tixm (128 * (k - 96))) (by omega)
    have e4 : ((tixm (128 * (n - 96))) 0).val = ((tixm (128 * (k - 96))) 0).val := by rw [e3]
    omega

/-- Every block of the result has its grid point. -/
theorem blkIx_surj {sm : IVec S4096 32} (hs : SlotsOk sm) {r : ℕ} (hr : r < 128) : ∃ n, n < 128 ∧ blkIx sm n = r := by
  let f : Fin 128 → Fin 128 := fun n => ⟨blkIx sm n.val, blkIx_lt sm hs.lt n.val n.isLt⟩
  have hf : Function.Injective f := fun n k h => Fin.ext (blkIx_inj hs n.isLt k.isLt (congrArg Fin.val h))
  obtain ⟨n, hn⟩ := Finite.injective_iff_surjective.mp hf ⟨r, hr⟩
  exact ⟨n.val, n.isLt, congrArg Fin.val hn⟩

theorem vflush (hs : SlotsOk (tab a.1)) (t : Fin grid0.N) : ((cfg0 a).win 1).flush t = true := by
  have hN := N_eq
  have ht : t.val < 128 := by have := t.isLt; omega
  by_cases h : t.val + 1 = grid0.N
  · show (true && (decide (t.val + 1 = grid0.N) || _)) = true
    rw [decide_eq_true h]; rfl
  · show (true && (_ || decide (∃ h : t.val + 1 < grid0.N, ((cfg0 a).win 1).index ⟨t.val + 1, h⟩ ≠ ((cfg0 a).win 1).index t))) = true
    rw [decide_eq_true (p := ∃ h : t.val + 1 < grid0.N, ((cfg0 a).win 1).index ⟨t.val + 1, h⟩ ≠ ((cfg0 a).win 1).index t) ⟨by omega, fun e => by
      rw [widx1 a hs, widx1 a hs] at e
      have e0 : blkIx (tab a.1) (t.val + 1) = blkIx (tab a.1) t.val := congrFun e 0
      have := blkIx_inj hs (by omega) ht e0
      omega⟩]
    simp

/-- The block an element of the result lies in. -/
theorem vmem (hs : SlotsOk (tab a.1)) (t : Fin grid0.N) (i : S16384x16x128.Idx) (h : blkIx (tab a.1) t.val = (i 0).val / 128) :
    i ∈ (((cfg0 a).win 1).blk t).view.set := by
  have i1 : (i 1).val < 16 := (i 1).isLt
  have i2 : (i 2).val < 128 := (i 2).isLt
  refine (((cfg0 a).win 1).emb_mem_blk_iff t i rfl).mpr ?_
  rw [widx1 a hs]
  show ∀ ax : Fin 3, _
  intro ax
  match ax with
  | 0 =>
    show blkIx (tab a.1) t.val * 128 ≤ (i 0).val ∧ (i 0).val < blkIx (tab a.1) t.val * 128 + 128
    omega
  | 1 =>
    show 0 * 16 ≤ (i 1).val ∧ (i 1).val < 0 * 16 + 16
    omega
  | 2 =>
    show 0 * 128 ≤ (i 2).val ∧ (i 2).val < 0 * 128 + 128
    omega

/-- Where element `z` of the result's block at point `t` lies in the result, -/
def emb1 (t : Fin grid0.N) (z : S128x16x128.Idx) : S16384x16x128.Idx := (((cfg0 a).win 1).blk t).view.emb z

/-- and of the value's block in the value. -/
def emb0 (t : Fin grid0.N) (z : S128x16x128.Idx) : S4096x16x128.Idx := (((cfg0 a).win 0).blk t).view.emb z

theorem emb1_val (hs : SlotsOk (tab a.1)) (t : Fin grid0.N) (z : S128x16x128.Idx) :
    (emb1 a t z 0).val = blkIx (tab a.1) t.val * 128 + (z 0).val ∧ emb1 a t z 1 = z 1 ∧ emb1 a t z 2 = z 2 := by
  have h : ∀ ax : Fin 3, (emb1 a t z ax).val = ((cfg0 a).win 1).index t ax * ((cfg0 a).win 1).size ax + (z ax).val :=
    fun ax => ((cfg0 a).win 1).rect_emb_val t z ax rfl
  rw [widx1 a hs] at h
  refine ⟨h 0, Fin.ext ((h 1).trans ?_), Fin.ext ((h 2).trans ?_)⟩
  · show 0 * 16 + (z 1).val = (z 1).val
    omega
  · show 0 * 128 + (z 2).val = (z 2).val
    omega

theorem emb0_val (t : Fin grid0.N) (z : S128x16x128.Idx) :
    (emb0 a t z 0).val = (t.val - 96) * 128 + (z 0).val ∧ emb0 a t z 1 = z 1 ∧ emb0 a t z 2 = z 2 := by
  have h : ∀ ax : Fin 3, (emb0 a t z ax).val = ((cfg0 a).win 0).index t ax * ((cfg0 a).win 0).size ax + (z ax).val :=
    fun ax => ((cfg0 a).win 0).rect_emb_val t z ax rfl
  rw [widx0 a] at h
  refine ⟨h 0, Fin.ext ((h 1).trans ?_), Fin.ext ((h 2).trans ?_)⟩
  · show 0 * 16 + (z 1).val = (z 1).val
    omega
  · show 0 * 128 + (z 2).val = (z 2).val
    omega

/-- What the body leaves at a grid point is the new value cache's rows at that block. -/
theorem vpoint (hs : SlotsOk (tab a.1)) (v : S4096x16x128.Idx → Elt F .f32) (t : Fin grid0.N) (z : S128x16x128.Idx) :
    vout (F := F) (grid0.coords t) (fun z => v (emb0 a t z)) z = Gv v (tab a.1) (emb1 a t z) := by
  obtain ⟨h0, h1, h2⟩ := emb1_val a hs t z
  have hN := N_eq
  have ht : t.val < 128 := by have := t.isLt; omega
  have hz : (z 0).val < 128 := (z 0).isLt
  unfold vout
  by_cases h : t.val < 96
  · rw [if_pos (by rw [coord0]; exact h)]
    refine (Gv_none v fun u hu => ?_).symm
    have := hs.lt u
    unfold blkIx at h0
    rw [if_pos h] at h0
    omega
  · rw [if_neg (by rw [coord0]; exact h)]
    obtain ⟨k0, k1, k2⟩ := emb0_val a t z
    unfold blkIx at h0
    rw [if_neg h] at h0
    have e0 : ((tixm (128 * (t.val - 96))) 0).val = 128 * (t.val - 96) % 4096 := rfl
    have e1 : ((tixm (128 * (t.val - 96) + (z 0).val)) 0).val = (128 * (t.val - 96) + (z 0).val) % 4096 := rfl
    have hb := hs.blk (tixm (128 * (t.val - 96))) (tixm (128 * (t.val - 96) + (z 0).val)) (by omega)
    have hm := hs.mod (tixm (128 * (t.val - 96) + (z 0).val))
    rw [Gv_row v hs (t := tixm (128 * (t.val - 96) + (z 0).val)) (by omega)]
    refine congrArg v (funext fun ax => ?_)
    match ax with
    | 0 =>
      refine Fin.ext (k0.trans ?_)
      show _ = ((tixm (128 * (t.val - 96) + (z 0).val)) 0).val
      omega
    | 1 => exact k1.trans h1.symm
    | 2 => exact k2.trans h2.symm

/-- What the region leaves in the new value cache's rows. -/
theorem vnew_eq (hs : SlotsOk (tab a.1)) (c : Dev nD) : vnew a x y c = Gv (x c) (tab a.1) := by
  refine (vdat a x y c).arrAt_eq_of_emb (1 : Fin 2) (Gv (x c) (tab a.1)) (fun t _ z => ?_) fun i => ?_
  · exact vpoint a hs (x c) t z
  · have hi : ((i : S16384x16x128.Idx) 0).val < 16384 := ((i : S16384x16x128.Idx) 0).isLt
    obtain ⟨n, hn, e⟩ := blkIx_surj hs (r := ((i : S16384x16x128.Idx) 0).val / 128) (by omega)
    exact ⟨⟨n, by have := N_eq; show n < grid0.N; omega⟩, vflush a hs _, vmem a hs _ i e⟩

end Cert.Proof.Cache

end
-- ==== Proof.KeyValue.lean ====
/-
  The new key cache in terms of the list of slots: the rows that the tasks' lists name, taken eight to a token.
-/
module

public import proofs.«01_k».proof.Proof.TcValue
public import proofs.«01_k».proof.Proof.Vals

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- Row `r`, head `h`, lane `d` of the cache as rows of sixteen heads. -/
def flatIx (r : ℕ) (hr : r < 16384) (h : Fin 16) (d : Fin 128) : S16384x16x128.Idx := fun
  | 0 => ⟨r, hr⟩
  | 1 => h
  | 2 => d

/-- The same element of the cache as rows of two heads. -/
def halfIx (r : ℕ) (hr : r < 16384) (h : Fin 16) (d : Fin 128) : S131072x2x128.Idx := fun
  | 0 => ⟨8 * r + h.val / 2, by have := h.isLt; show _ < 131072; omega⟩
  | 1 => ⟨h.val % 2, Nat.mod_lt _ (by decide)⟩
  | 2 => d

/-- Row `n` of the tasks' lists. -/
def lstIx (n : ℕ) (hn : n < 32768) : S256x128.Idx := fun
  | 0 => ⟨n / 128, by show _ < 256; omega⟩
  | 1 => ⟨n % 128, Nat.mod_lt _ (by decide)⟩

/-- One element: the list's row holds the key's half pair exactly where the slot's row holds the key. -/
theorem key_at (v : S4096x16x128.Idx → Elt F .f32) {sm : IVec S4096 32} (hs : SlotsOk sm) (r : ℕ) (hr : r < 16384) (h : Fin 16) (d : Fin 128) :
    Gk (shapeCast S32768x2x128 v shapeCasts_S4096x16x128_S32768x2x128) (listOf sm) (halfIx r hr h d) = Gv v sm (flatIx r hr h d) := by
  have hh := h.isLt
  by_cases he : ∃ t : S4096.Idx, (sm t).toNat = r
  · obtain ⟨t, ht⟩ := he
    have t0 : (t 0).val < 4096 := (t 0).isLt
    have hx0 : ((lstIx (8 * (t 0).val + h.val / 2) (by omega)) 0).val = (8 * (t 0).val + h.val / 2) / 128 := rfl
    have hx1 : ((lstIx (8 * (t 0).val + h.val / 2) (by omega)) 1).val = (8 * (t 0).val + h.val / 2) % 128 := rfl
    have hl : (listOf sm (lstIx (8 * (t 0).val + h.val / 2) (by omega))).toNat = 8 * r + h.val / 2 := by
      rw [listOf_toNat sm hs.lt, hx0, hx1, Nat.div_add_mod,
        show tixm ((8 * (t 0).val + h.val / 2) / 8) = t from idx1_ext (by
          show (8 * (t 0).val + h.val / 2) / 8 % 4096 = (t 0).val
          omega)]
      omega
    rw [Gv_row v hs (t := t) (y := flatIx r hr h d) ht, Gk_row _ _ (listOf_inj sm hs) (y := halfIx r hr h d) hl]
    refine shapeCast_apply _ _ _ (vix t h d) ?_
    rw [Shape.rowMajor_val_three, Shape.rowMajor_val_three]
    show (((t 0).val * 16 + h.val) * 128 + d.val)
      = ((128 * ((8 * (t 0).val + h.val / 2) / 128) + (8 * (t 0).val + h.val / 2) % 128) * 2 + h.val % 2) * 128 + d.val
    omega
  · rw [Gv_none v (y := flatIx r hr h d) fun t ht => he ⟨t, ht⟩]
    unfold Gk
    rw [dif_neg]
    rintro ⟨x, hx⟩
    rw [listOf_toNat sm hs.lt] at hx
    have hx' : _ = 8 * r + h.val / 2 := hx
    exact he ⟨_, show (sm (tixm ((128 * (x 0).val + (x 1).val) / 8))).toNat = r by omega⟩

/-- The new key cache, whole. -/
theorem key_eq (v : S4096x16x128.Idx → Elt F .f32) {sm : IVec S4096 32} (hs : SlotsOk sm) :
    shapeCast S1024x16x16x128 (Gk (shapeCast S32768x2x128 v shapeCasts_S4096x16x128_S32768x2x128) (listOf sm)) shapeCasts_S131072x2x128_S1024x16x16x128
      = shapeCast S1024x16x16x128 (Gv v sm) shapeCasts_S16384x16x128_S1024x16x16x128 := by
  funext j
  have j0 : (j 0).val < 1024 := (j 0).isLt
  have j1 : (j 1).val < 16 := (j 1).isLt
  have hr : 16 * (j 0).val + (j 1).val < 16384 := by omega
  have j2 : (j 2).val < 16 := (j 2).isLt
  rw [shapeCast_apply _ _ j (halfIx _ hr (j 2) (j 3)) (by
      rw [Shape.rowMajor_val_three, Shape.rowMajor_val_four]
      show ((8 * (16 * (j 0).val + (j 1).val) + (j 2).val / 2) * 2 + (j 2).val % 2) * 128 + (j 3).val
        = (((j 0).val * 16 + (j 1).val) * 16 + (j 2).val) * 128 + (j 3).val
      omega),
    shapeCast_apply _ _ j (flatIx _ hr (j 2) (j 3)) (by
      rw [Shape.rowMajor_val_three, Shape.rowMajor_val_four]
      show ((16 * (j 0).val + (j 1).val) * 16 + (j 2).val) * 128 + (j 3).val
        = (((j 0).val * 16 + (j 1).val) * 16 + (j 2).val) * 128 + (j 3).val
      omega)]
  exact key_at v hs _ hr _ _

/-- The first result of the kernel. -/
theorem out_key (m : (ℓ : Loc nD τ sig) → Buf (Elt F) ℓ) (a : (pcfg0 (F := F)).Adm) (d : Dev nD)
    (hs : SlotsOk (m ((SparseCore.T d).loc main_arg4))) :
    V4 m a d (Proc.devRef .tc main_v12)
      = shapeCast S1024x16x16x128 (Gv (F := F) (m ((SparseCore.T d).loc main_arg0)) (m ((SparseCore.T d).loc main_arg4))) shapeCasts_S16384x16x128_S1024x16x16x128 := by
  rw [V4_v12, keyV_eq, lstV_eq]
  exact key_eq _ hs

end Cert.Proof.Cache

end
-- ==== Proof.RefValue.lean ====
/-
  What the reference computes: at a row that some token's slot names, that token's values; elsewhere the old cache.
-/
module

public import proofs.«01_k».proof.Defs
public import proofs.«01_k».proof.Proof.Gen.ReferenceIdeal
public import proofs.«01_k».proof.Proof.TcValue
public import Idealize.ShloMosaic.Lib.Routing.OpsSet

@[expose] public section

set_option maxRecDepth 20000

noncomputable section

namespace Cert.Proof.Ref

open Idealize.ShloMosaic Idealize.SL.Sem
open Cert.ReferenceIdeal Cert.ReferenceIdeal.Gen
open Cert.Proof.Cache (SlotsOk Gv Gv_row Gv_none vix idx1_ext z0)

/-- The reference's scatter. -/
abbrev scd : ScatterDims S16384x16x128 S4096x1 S4096x16x128 := scatter_S16384x16x128_S4096x1_S4096x16x128_12_0_0_1

/-- Entry `t` of the column of slots. -/
def colIx (t : Fin 4096) : S4096x1.Idx := fun
  | 0 => t
  | 1 => (⟨0, by decide⟩ : Fin 1)

/-- Where an update lands: at its token's slot, at its own head and lane. -/
theorem lands (idx : IVec S4096x1 32) (k : S4096x16x128.Idx) (y : S16384x16x128.Idx) :
    scd.resultIdx? k idx = some y ↔ (idx (colIx (k 0))).toInt = ((y 0).val : Int) ∧ (k 1).val = (y 1).val ∧ (k 2).val = (y 2).val := by
  have w0 : scd.window k 0 = 0 := rfl
  have w1 : scd.window k 1 = (k 1).val := rfl
  have w2 : scd.window k 2 = (k 2).val := rfl
  have s0 : scd.start k idx 0 = (idx (colIx (k 0))).toInt := by
    have e : ∀ h, scd.siIdx k ⟨0, h⟩ = colIx (k 0) := fun h => by
      funext b
      match b with
      | 0 => rfl
      | 1 => exact Fin.ext rfl
    exact congrArg (fun z => (idx z).toInt) (e _)
  have s1 : scd.start k idx 1 = 0 := rfl
  have s2 : scd.start k idx 2 = 0 := rfl
  rw [Routing.resultIdx?_eq_some]
  constructor
  · intro h
    have h0 := h 0
    have h1 := h 1
    have h2 := h 2
    rw [s0, w0] at h0
    rw [s1, w1] at h1
    rw [s2, w2] at h2
    omega
  · rintro ⟨h0, h1, h2⟩ ax
    match ax with
    | 0 => rw [s0, w0]; omega
    | 1 => rw [s1, w1]; omega
    | 2 => rw [s2, w2]; omega

/-- The column of slots the reference scatters by: each slot, wrapped where it is negative. -/
def slotCol (sm : IVec S4096 32) : IVec S4096x1 32 :=
  broadcastInDim S4096x1 ![0] bcast_S4096_S4096x1_0
    (select (cmpi .slt sm (broadcastInDim S4096 ![] bcast_S_S4096 (constantI S_ 32 0#32)))
      (addi sm (broadcastInDim S4096 ![] bcast_S_S4096 (constantI S_ 32 16384#32))) sm)

theorem slot_word (w : BitVec 32) (h : w.toNat < 4096) :
    Scalar.select (IntOp.cmpi .slt w 0#32) (IntOp.addi w 16384#32) w = w := by
  have e : w.toInt = w.toNat := by rw [BitVec.toInt_eq_toNat_cond]; omega
  have hc : IntOp.cmpi .slt w 0#32 = 0#1 := by
    show BitVec.ofBool (w.slt 0#32) = 0#1
    rw [BitVec.slt, e, show (0#32 : BitVec 32).toInt = 0 from rfl, decide_eq_false (by omega)]
    rfl
  rw [hc]
  rfl

theorem slotCol_at (sm : IVec S4096 32) (h : ∀ t, (sm t).toNat < 4096) (t : S4096.Idx) : slotCol sm (colIx (t 0)) = sm t := by
  have e : slotCol sm (colIx (t 0)) = Scalar.select (IntOp.cmpi .slt (sm t) 0#32) (IntOp.addi (sm t) 16384#32) (sm t) := by
    have q : ∀ u : S4096.Idx, u = t → Scalar.select (IntOp.cmpi .slt (sm u) 0#32) (IntOp.addi (sm u) 16384#32) (sm u)
      = Scalar.select (IntOp.cmpi .slt (sm t) 0#32) (IntOp.addi (sm t) 16384#32) (sm t) := fun u hu => by rw [hu]
    exact q _ (idx1_ext rfl)
  rw [e, slot_word _ (h t)]

/-- The token an update belongs to. -/
def tok (k : S4096x16x128.Idx) : S4096.Idx := fun
  | 0 => k 0

/-- The scatter onto a cache of zeros. -/
theorem scatter_eq (x0 : S16384x16x128.Idx → Ideal .f32) (hx : ∀ y, x0 y = z0 (F := Ideal)) (v : S4096x16x128.Idx → Ideal .f32)
    {sm : IVec S4096 32} (hs : SlotsOk sm) :
    Host.scatter scd (fun _ b => b) x0 (slotCol sm) v = Gv (F := Ideal) v sm := by
  have hi : ∀ t : S4096.Idx, (sm t).toInt = (sm t).toNat := fun t => by
    have := hs.lt t
    rw [BitVec.toInt_eq_toNat_cond]; omega
  have hk : ∀ (k : S4096x16x128.Idx) (y : S16384x16x128.Idx), scd.resultIdx? k (slotCol sm) = some y →
      (sm (tok k)).toNat = (y 0).val ∧ k = vix (tok k) (y 1) (y 2) := fun k y h => by
    obtain ⟨h0, h1, h2⟩ := (lands _ k y).mp h
    have e := slotCol_at sm hs.lt (tok k)
    rw [show colIx (tok k 0) = colIx (k 0) from rfl] at e
    rw [e, hi] at h0
    refine ⟨by omega, funext fun ax => ?_⟩
    match ax with
    | 0 => rfl
    | 1 => exact Fin.ext h1
    | 2 => exact Fin.ext h2
  funext y
  by_cases he : ∃ t : S4096.Idx, (sm t).toNat = (y 0).val
  · obtain ⟨t, ht⟩ := he
    rw [Gv_row (F := Ideal) v hs ht]
    refine Routing.scatter_set_hit scd x0 (slotCol sm) v y _ (fun k h => ?_) (vix t (y 1) (y 2)) ((lands _ _ y).mpr ⟨?_, rfl, rfl⟩)
    · obtain ⟨h0, h1⟩ := hk k y h
      rw [h1, hs.inj _ t (h0.trans ht.symm)]
    · have e := slotCol_at sm hs.lt t
      rw [show colIx (vix t (y 1) (y 2) 0) = colIx (t 0) from rfl, e, hi, ht]
  · rw [Gv_none (F := Ideal) v fun t ht => he ⟨t, ht⟩]
    rw [Routing.scatter_set_miss scd x0 (slotCol sm) v y fun k h => he ⟨_, (hk k y h).1⟩]
    exact hx y

end Cert.Proof.Ref

end
-- ==== Proof.Zeros.lean ====
/-
  The caches are zero where the precondition holds.
-/
module

public import proofs.«01_k».proof.Proof.Pre
public import proofs.«01_k».proof.Proof.Memset
public import Idealize.ShloMosaic.Lib.Pipeline.Value

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- A comparison for equality that holds. -/
theorem eq_of_oeq (x y : Ideal .f32) (h : FloatOps.cmpf (F := Ideal) .oeq x y = 1#1) : x = y := by
  have h' : BitVec.ofBool (decide ((x : EReal) = y)) = 1#1 := h
  by_contra hne
  rw [decide_eq_false hne] at h'
  exact absurd h' (by decide)

/-- The place of a cache element in the precondition's arrays. -/
theorem cell (w : S1024x16x16x128.Idx) : ∃ i : Cert.Pre_slots_ok.S2x4096x4096.Idx,
    (S1024x16x16x128.rowMajor w).val = (Cert.Pre_slots_ok.S2x4096x4096.rowMajor i).val := by
  have e : S1024x16x16x128.numel = Cert.Pre_slots_ok.S2x4096x4096.numel := by decide
  refine ⟨Cert.Pre_slots_ok.S2x4096x4096.rowMajor.symm ((S1024x16x16x128.rowMajor w).cast e), ?_⟩
  rw [Equiv.apply_symm_apply]
  rfl

theorem zeros_of_pre (k v : FVec Ideal S4096x16x128 .f32) (kc vc : FVec Ideal S1024x16x16x128 .f32) (sm : IVec S4096 32) (p q : FVec Ideal S1 .f32)
    (h : Cert.Pre_slots_ok.fn (F := Ideal) k v kc vc sm p q = fun _ => 1#1) (w : S1024x16x16x128.Idx) :
    kc w = z0 (F := Ideal) ∧ vc w = z0 (F := Ideal) := by
  obtain ⟨i, hi⟩ := cell w
  have e := congrFun h i
  simp only [Cert.Pre_slots_ok.fn, Cert.Pre_slots_ok.fn_part1, Cert.Pre_slots_ok.fn_part2] at e
  have e1 := (and1 _ _).mp ((and1 _ _).mp e).2
  have a1 := eq_of_oeq _ _ e1.1
  have a2 := eq_of_oeq _ _ e1.2
  rw [shapeCast_apply _ _ i w hi] at a1 a2
  exact ⟨a1, a2⟩

end Cert.Proof.Cache

end
-- ==== Proof.Algebraic.lean ====
/-
  The kernel and the reference compute the same two caches.
-/
module

public import proofs.«01_k».proof.Proof.Frames
public import proofs.«01_k».proof.Proof.KeyValue
public import proofs.«01_k».proof.Proof.RefValue
public import proofs.«01_k».proof.Proof.Ref
public import proofs.«01_k».proof.Proof.Zeros
public import Idealize.ShloMosaic.Lib.Claim

@[expose] public section

set_option maxRecDepth 20000

noncomputable section

namespace Cert.Proof.Cache

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The second result of the kernel. -/
theorem out_value (m : (ℓ : Loc nD τ sig) → Buf (Elt F) ℓ) (a : (pcfg0 (F := F)).Adm) (d : Dev nD)
    (hs : SlotsOk (tab a.1)) :
    V4 m a d (Proc.devRef .tc main_v13)
      = shapeCast S1024x16x16x128 (Gv (F := F) (m ((SparseCore.T d).loc main_arg1)) (tab a.1)) shapeCasts_S16384x16x128_S1024x16x16x128 := by
  rw [V4_v13, vnew_eq a _ _ hs]

/-- A cache of zeros as rows. -/
theorem zero_rows (kc : S1024x16x16x128.Idx → Ideal .f32) (h : ∀ w, kc w = z0 (F := Ideal)) (y : S16384x16x128.Idx) :
    shapeCast S16384x16x128 kc Cert.ReferenceIdeal.Gen.shapeCasts_S1024x16x16x128_S16384x16x128 y = z0 (F := Ideal) := h _

/-- The kernel's two results, and its arguments, at the end. -/
theorem kernel_run (m : (ℓ : Loc nD τ sig) → Buf (Elt F) ℓ) [∀ e, Nonempty (Elt F e)] (g : Dev nD → PrngReg) (h : ∀ d, SlotsOk (smM m d)) :
    θ_run (Cert.KernelIdeal.defs (F := F)) (Cert.KernelIdeal.threads (F := F)) ⟨m, fun _ => 0, g⟩ (fun r => ∀ d : Dev nD,
      r.2.mem ((SparseCore.T d).loc main_v12) = shapeCast S1024x16x16x128 (Gv (F := F) (m ((SparseCore.T d).loc main_arg0)) (smM m d)) shapeCasts_S16384x16x128_S1024x16x16x128
      ∧ r.2.mem ((SparseCore.T d).loc main_v13) = shapeCast S1024x16x16x128 (Gv (F := F) (m ((SparseCore.T d).loc main_arg1)) (smM m d)) shapeCasts_S16384x16x128_S1024x16x16x128
      ∧ r.2.mem ((SparseCore.T d).loc main_arg0) = m ((SparseCore.T d).loc main_arg0)
      ∧ r.2.mem ((SparseCore.T d).loc main_arg1) = m ((SparseCore.T d).loc main_arg1)
      ∧ r.2.mem ((SparseCore.T d).loc main_arg2) = m ((SparseCore.T d).loc main_arg2)
      ∧ r.2.mem ((SparseCore.T d).loc main_arg3) = m ((SparseCore.T d).loc main_arg3)
      ∧ r.2.mem ((SparseCore.T d).loc main_arg4) = m ((SparseCore.T d).loc main_arg4)
      ∧ r.2.mem ((SparseCore.T d).loc main_arg5) = m ((SparseCore.T d).loc main_arg5)
      ∧ r.2.mem ((SparseCore.T d).loc main_arg6) = m ((SparseCore.T d).loc main_arg6)) :=
  (θ_run Cert.KernelIdeal.defs _ _).mono (fun r hr d =>
    ⟨(hr.1 d (dr main_v12) (Pipeline.devRef_mem_ucRefs rfl)).trans (out_key m (aM m h) d (h d)),
      (hr.1 d (dr main_v13) (Pipeline.devRef_mem_ucRefs rfl)).trans ((out_value m (aM m h) d (h 0)).trans (by rw [dev_eq d 0]; rfl)),
      frame_args m hr d⟩) (run_ok m g h)

/-- The reference's result at a cache of zeros, under the slots' conditions. -/
theorem ref_result (kc : S1024x16x16x128.Idx → Ideal .f32) (hz : ∀ w, kc w = z0 (F := Ideal)) (v : S4096x16x128.Idx → Ideal .f32)
    {sm : IVec S4096 32} (hs : SlotsOk sm) :
    shapeCast S1024x16x16x128 (Host.scatter Ref.scd (fun _ b => b)
        (shapeCast S16384x16x128 kc Cert.ReferenceIdeal.Gen.shapeCasts_S1024x16x16x128_S16384x16x128) (Ref.slotCol sm) v)
        Cert.ReferenceIdeal.Gen.shapeCasts_S16384x16x128_S1024x16x16x128
      = shapeCast S1024x16x16x128 (Gv (F := Ideal) v sm) shapeCasts_S16384x16x128_S1024x16x16x128 :=
  congrArg (fun X => shapeCast S1024x16x16x128 X shapeCasts_S16384x16x128_S1024x16x16x128)
    (Ref.scatter_eq _ (zero_rows kc hz) v hs)

/-- The kernel and the reference compute the same two caches. -/
theorem algebraic : Cert.algebraic_KernelIdeal_ReferenceIdeal := by
  intro m g m' g' hpre hagree
  have hs : ∀ d, SlotsOk (smM m d) := fun d => slots_of_pre _ _ _ _ _ _ _ (hpre d)
  have hz := fun d => zeros_of_pre _ _ _ _ _ _ _ (hpre d)
  refine ⟨_, _, kernel_run (F := Ideal) m g hs, ?_⟩
  hlo_run
  · exact ref_result _ (fun w => (hz c w).1) _ (hs c)
  · exact ref_result _ (fun w => (hz c w).2) _ (hs c)

end Cert.Proof.Cache

end
-- ==== Proof.lean ====
module

public import proofs.«01_k».proof.Defs
public import proofs.«01_k».proof.Proof.FrameBits
public import proofs.«01_k».proof.Proof.Frames
public import proofs.«01_k».proof.Proof.Ref
public import proofs.«01_k».proof.Proof.Algebraic
public import proofs.«01_k».proof.Proof.Gen.Kernel
public import proofs.«01_k».proof.Proof.Gen.KernelIdeal
public import proofs.«01_k».proof.Proof.Gen.ReferenceIdeal

@[expose] public section

noncomputable section

namespace Cert.Proof

/-- Every claim of the certificate. -/
theorem claim : Cert.Claim :=
  ⟨Cert.Kernel.Gen.facts, Cert.KernelIdeal.Gen.facts, Cert.ReferenceIdeal.Gen.facts, Cache.preFacts,
    Cache.frame_kernel, Cache.frame_kernelIdeal, Ref.frame_reference, (fun m g _ => Ref.frame_reference m g trivial), trivial, Cache.algebraic⟩

end Cert.Proof

end
